-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_linked [hPre_finite_and_linked : Cert.Pre_finite_and_linked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_linked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_and_linked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_and_linked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_and_linked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_and_linked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_and_linked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite_and_linked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_linked [hPre_finite_and_linked : Cert.Pre_finite_and_linked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_linked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_and_linked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_and_linked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_and_linked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_and_linked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_and_linked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite_and_linked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_linked [hKernelIdeal : Cert.KernelIdeal.Facts] [hPre_finite_and_linked : Cert.Pre_finite_and_linked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_linked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_linked [hReferenceIdeal : Cert.ReferenceIdeal.Facts] [hPre_finite_and_linked : Cert.Pre_finite_and_linked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_linked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_and_linked [hKernelIdeal : Cert.KernelIdeal.Facts] [hReferenceIdeal : Cert.ReferenceIdeal.Facts] [hPre_finite_and_linked : Cert.Pre_finite_and_linked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_linked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_and_linked : Cert.Pre_finite_and_linked.Facts),
    quiescent_Kernel (hKernel := hKernel)
    ∧ quiescent_KernelIdeal (hKernelIdeal := hKernelIdeal)
    ∧ quiescent_KernelIdeal_pre_finite_and_linked (hKernelIdeal := hKernelIdeal) (hPre_finite_and_linked := hPre_finite_and_linked)
    ∧ quiescent_ReferenceIdeal (hReferenceIdeal := hReferenceIdeal)
    ∧ quiescent_ReferenceIdeal_pre_finite_and_linked (hReferenceIdeal := hReferenceIdeal) (hPre_finite_and_linked := hPre_finite_and_linked)
    ∧ preserves_Kernel_KernelIdeal
    ∧ algebraic_KernelIdeal_ReferenceIdeal_pre_finite_and_linked (hKernelIdeal := hKernelIdeal) (hReferenceIdeal := hReferenceIdeal) (hPre_finite_and_linked := hPre_finite_and_linked)
-- ==== Pre_finite_and_linked.lean ====
abbrev S10000x128 : Shape := ⟨2, ![10000, 128]⟩
abbrev S10000x10000 : Shape := ⟨2, ![10000, 10000]⟩
abbrev S128x128 : Shape := ⟨2, ![128, 128]⟩
abbrev S256x1 : Shape := ⟨2, ![256, 1]⟩
abbrev S128x16 : Shape := ⟨2, ![128, 16]⟩
abbrev S32x1 : Shape := ⟨2, ![32, 1]⟩
abbrev S_ : Shape := ⟨0, ![]⟩
abbrev S10000 : Shape := ⟨1, ![10000]⟩

class Facts : Prop where
  bcast_S_S10000x128 : S_.BroadcastsInDim S10000x128 (![] : Fin 0 → Fin S10000x128.rank)
  bcast_S_S128x128 : S_.BroadcastsInDim S128x128 (![] : Fin 0 → Fin S128x128.rank)
  bcast_S_S256x1 : S_.BroadcastsInDim S256x1 (![] : Fin 0 → Fin S256x1.rank)
  bcast_S_S128x16 : S_.BroadcastsInDim S128x16 (![] : Fin 0 → Fin S128x16.rank)
  bcast_S_S32x1 : S_.BroadcastsInDim S32x1 (![] : Fin 0 → Fin S32x1.rank)
  bcast_S_S10000x10000 : S_.BroadcastsInDim S10000x10000 (![] : Fin 0 → Fin S10000x10000.rank)
  reducesTo_S10000x10000_S10000_d1 : S10000x10000.ReducesTo [1] S10000
  h_S_ : 0 < S_.numel

variable [Facts]

def fn_part1 {F : FTy → Type} [FloatOps F] (main_arg1 : FVec F S10000x10000 .f32) (main_v2 : IVec S10000x128 1) (main_v5 : IVec S128x128 1) (main_v8 : IVec S256x1 1) (main_v11 : IVec S128x128 1) (main_v14 : IVec S128x16 1) (main_v17 : IVec S32x1 1) : IVec S10000x128 1 × IVec S128x128 1 × IVec S256x1 1 × IVec S128x128 1 × IVec S128x16 1 × IVec S32x1 1 × IVec S10000 1 :=
  let main_cst_5 : FVec F S_ .f32 := constant S_ .f32 0x00000000#32
  let main_v18 : FVec F S10000x10000 .f32 := broadcastInDim S10000x10000 ![] bcast_S_S10000x10000 main_cst_5
  let main_v19 : IVec S10000x10000 1 := cmpf .ogt main_arg1 main_v18
  let main_c : IVec S_ 1 := constantI S_ 1 0#1
  let main_v20 : IVec S10000 1 := (fun x v => Host.reduce IntOp.ori x v reducesTo_S10000x10000_S10000_d1 h_S_) main_v19 main_c
  (main_v2, main_v5, main_v8, main_v11, main_v14, main_v17, main_v20)

def fn {F : FTy → Type} [FloatOps F] (main_arg0 : FVec F S10000x128 .f32) (main_arg1 : FVec F S10000x10000 .f32) (main_arg2 : FVec F S128x128 .f32) (main_arg3 : FVec F S256x1 .f32) (main_arg4 : FVec F S128x128 .f32) (main_arg5 : FVec F S128x16 .f32) (main_arg6 : FVec F S32x1 .f32) : IVec S10000x128 1 × IVec S128x128 1 × IVec S256x1 1 × IVec S128x128 1 × IVec S128x16 1 × IVec S32x1 1 × IVec S10000 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S128x128 .f32 := Host.absf main_arg2
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S256x1 .f32 := Host.absf main_arg3
  let main_cst_1 : FVec F S_ .f32 := constant S_ .f32 0x7F800000#32
  let main_v7 : FVec F S256x1 .f32 := broadcastInDim S256x1 ![] bcast_S_S256x1 main_cst_1
  let main_v8 : IVec S256x1 1 := cmpf .olt main_v6 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_v12 : FVec F S128x16 .f32 := Host.absf main_arg5
  let main_cst_3 : FVec F S_ .f32 := constant S_ .f32 0x7F800000#32
  let main_v13 : FVec F S128x16 .f32 := broadcastInDim S128x16 ![] bcast_S_S128x16 main_cst_3
  let main_v14 : IVec S128x16 1 := cmpf .olt main_v12 main_v13
  let main_v15 : FVec F S32x1 .f32 := Host.absf main_arg6
  let main_cst_4 : FVec F S_ .f32 := constant S_ .f32 0x7F800000#32
  let main_v16 : FVec F S32x1 .f32 := broadcastInDim S32x1 ![] bcast_S_S32x1 main_cst_4
  let main_v17 : IVec S32x1 1 := cmpf .olt main_v15 main_v16
  fn_part1 (F := F) main_arg1 main_v2 main_v5 main_v8 main_v11 main_v14 main_v17
-- ==== Kernel.lean ====
abbrev S10000x128 : Shape := ⟨2, ![10000, 128]⟩
abbrev S10000x10000 : Shape := ⟨2, ![10000, 10000]⟩
abbrev S128x128 : Shape := ⟨2, ![128, 128]⟩
abbrev S256x1 : Shape := ⟨2, ![256, 1]⟩
abbrev S128x16 : Shape := ⟨2, ![128, 16]⟩
abbrev S32x1 : Shape := ⟨2, ![32, 1]⟩
abbrev S10240 : Shape := ⟨1, ![10240]⟩
abbrev S1x10240 : Shape := ⟨2, ![1, 10240]⟩
abbrev S_ : Shape := ⟨0, ![]⟩
abbrev S10240x136 : Shape := ⟨2, ![10240, 136]⟩
abbrev S10240x1 : Shape := ⟨2, ![10240, 1]⟩
abbrev S1x1 : Shape := ⟨2, ![1, 1]⟩
abbrev S1x128 : Shape := ⟨2, ![1, 128]⟩
abbrev S10240x128 : Shape := ⟨2, ![10240, 128]⟩
abbrev S10240x16 : Shape := ⟨2, ![10240, 16]⟩
abbrev S1x16 : Shape := ⟨2, ![1, 16]⟩
abbrev S10000x16 : Shape := ⟨2, ![10000, 16]⟩
abbrev S512x128 : Shape := ⟨2, ![512, 128]⟩
abbrev S512x136 : Shape := ⟨2, ![512, 136]⟩
abbrev S512x1 : Shape := ⟨2, ![512, 1]⟩
abbrev S1x512 : Shape := ⟨2, ![1, 512]⟩
abbrev S512x8 : Shape := ⟨2, ![512, 8]⟩
abbrev S128x1 : Shape := ⟨2, ![128, 1]⟩
abbrev S128 : Shape := ⟨1, ![128]⟩
abbrev S1 : Shape := ⟨1, ![1]⟩
abbrev S512x1024 : Shape := ⟨2, ![512, 1024]⟩
abbrev S1x1024 : Shape := ⟨2, ![1, 1024]⟩
abbrev S512x16 : Shape := ⟨2, ![512, 16]⟩
abbrev S1024x136 : Shape := ⟨2, ![1024, 136]⟩
abbrev S512 : Shape := ⟨1, ![512]⟩
abbrev S16x1 : Shape := ⟨2, ![16, 1]⟩
abbrev S16 : Shape := ⟨1, ![16]⟩
abbrev S1024x128 : Shape := ⟨2, ![1024, 128]⟩
abbrev S1024x16 : Shape := ⟨2, ![1024, 16]⟩

abbrev nBuf : Space → Nat
  | .hbm => 34
  | .vmem => 67
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S256x1, .f32⟩
  | .hbm, ⟨4, _⟩ => ⟨S128x128, .f32⟩
  | .hbm, ⟨5, _⟩ => ⟨S128x16, .f32⟩
  | .hbm, ⟨6, _⟩ => ⟨S32x1, .f32⟩
  | .hbm, ⟨7, _⟩ => ⟨S10240, .i32⟩
  | .hbm, ⟨8, _⟩ => ⟨S1x10240, .i32⟩
  | .hbm, ⟨9, _⟩ => ⟨S_, .i32⟩
  | .hbm, ⟨10, _⟩ => ⟨S1x10240, .i32⟩
  | .hbm, ⟨11, _⟩ => ⟨S1x10240, .i1⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x10240, .f32⟩
  | .hbm, ⟨16, _⟩ => ⟨S1x10240, .f32⟩
  | .hbm, ⟨17, _⟩ => ⟨S1x10240, .f32⟩
  | .hbm, ⟨18, _⟩ => ⟨S10240x136, .bf16⟩
  | .hbm, ⟨19, _⟩ => ⟨S10240x1, .f32⟩
  | .hbm, ⟨20, _⟩ => ⟨S1x10240, .f32⟩
  | .hbm, ⟨21, _⟩ => ⟨S1x1, .f32⟩
  | .hbm, ⟨22, _⟩ => ⟨S1x128, .f32⟩
  | .hbm, ⟨23, _⟩ => ⟨S10240x128, .bf16⟩
  | .hbm, ⟨24, _⟩ => ⟨S10240x128, .bf16⟩
  | .hbm, ⟨25, _⟩ => ⟨S10240x16, .bf16⟩
  | .hbm, ⟨26, _⟩ => ⟨S10240x1, .f32⟩
  | .hbm, ⟨27, _⟩ => ⟨S1x10240, .f32⟩
  | .hbm, ⟨28, _⟩ => ⟨S10240x1, .f32⟩
  | .hbm, ⟨29, _⟩ => ⟨S1x1, .f32⟩
  | .hbm, ⟨30, _⟩ => ⟨S1x1, .f32⟩
  | .hbm, ⟨31, _⟩ => ⟨S1x16, .f32⟩
  | .hbm, ⟨32, _⟩ => ⟨S10240x16, .f32⟩
  | .hbm, ⟨33, _⟩ => ⟨S10000x16, .f32⟩
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S256x1, .f32⟩
  | .local _ .vmem, ⟨4, _⟩ => ⟨S512x136, .bf16⟩
  | .local _ .vmem, ⟨5, _⟩ => ⟨S512x136, .bf16⟩
  | .local _ .vmem, ⟨6, _⟩ => ⟨S512x1, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S1x1, .f32⟩
  | .local _ .vmem, ⟨11, _⟩ => ⟨S1x128, .f32⟩
  | .local _ .vmem, ⟨12, _⟩ => ⟨S1x128, .f32⟩
  | .local _ .vmem, ⟨13, _⟩ => ⟨S1x1, .f32⟩
  | .local _ .vmem, ⟨14, _⟩ => ⟨S512x1024, .f32⟩
  | .local _ .vmem, ⟨15, _⟩ => ⟨S512x1024, .f32⟩
  | .local _ .vmem, ⟨16, _⟩ => ⟨S10240x136, .bf16⟩
  | .local _ .vmem, ⟨17, _⟩ => ⟨S512x1, .f32⟩
  | .local _ .vmem, ⟨18, _⟩ => ⟨S512x1, .f32⟩
  | .local _ .vmem, ⟨19, _⟩ => ⟨S1x1024, .f32⟩
  | .local _ .vmem, ⟨20, _⟩ => ⟨S1x1024, .f32⟩
  | .local _ .vmem, ⟨21, _⟩ => ⟨S1x1, .f32⟩
  | .local _ .vmem, ⟨22, _⟩ => ⟨S1x128, .f32⟩
  | .local _ .vmem, ⟨23, _⟩ => ⟨S128x128, .f32⟩
  | .local _ .vmem, ⟨24, _⟩ => ⟨S128x16, .f32⟩
  | .local _ .vmem, ⟨25, _⟩ => ⟨S32x1, .f32⟩
  | .local _ .vmem, ⟨26, _⟩ => ⟨S512x128, .bf16⟩
  | .local _ .vmem, ⟨27, _⟩ => ⟨S512x128, .bf16⟩
  | .local _ .vmem, ⟨28, _⟩ => ⟨S512x128, .bf16⟩
  | .local _ .vmem, ⟨29, _⟩ => ⟨S512x128, .bf16⟩
  | .local _ .vmem, ⟨30, _⟩ => ⟨S512x16, .bf16⟩
  | .local _ .vmem, ⟨31, _⟩ => ⟨S512x16, .bf16⟩
  | .local _ .vmem, ⟨32, _⟩ => ⟨S512x1, .f32⟩
  | .local _ .vmem, ⟨33, _⟩ => ⟨S512x1, .f32⟩
  | .local _ .vmem, ⟨34, _⟩ => ⟨S1x512, .f32⟩
  | .local _ .vmem, ⟨35, _⟩ => ⟨S1x512, .f32⟩
  | .local _ .vmem, ⟨36, _⟩ => ⟨S512x1, .f32⟩
  | .local _ .vmem, ⟨37, _⟩ => ⟨S512x1, .f32⟩
  | .local _ .vmem, ⟨38, _⟩ => ⟨S1x1, .f32⟩
  | .local _ .vmem, ⟨39, _⟩ => ⟨S1x1, .f32⟩
  | .local _ .vmem, ⟨40, _⟩ => ⟨S1x16, .f32⟩
  | .local _ .vmem, ⟨41, _⟩ => ⟨S512x136, .f32⟩
  | .local _ .vmem, ⟨42, _⟩ => ⟨S1x16, .f32⟩
  | .local _ .vmem, ⟨43, _⟩ => ⟨S1x1, .f32⟩
  | .local _ .vmem, ⟨44, _⟩ => ⟨S1x1, .f32⟩
  | .local _ .vmem, ⟨45, _⟩ => ⟨S512x1024, .f32⟩
  | .local _ .vmem, ⟨46, _⟩ => ⟨S512x1024, .f32⟩
  | .local _ .vmem, ⟨47, _⟩ => ⟨S10240x128, .bf16⟩
  | .local _ .vmem, ⟨48, _⟩ => ⟨S512x128, .bf16⟩
  | .local _ .vmem, ⟨49, _⟩ => ⟨S512x128, .bf16⟩
  | .local _ .vmem, ⟨50, _⟩ => ⟨S10240x16, .bf16⟩
  | .local _ .vmem, ⟨51, _⟩ => ⟨S512x1, .f32⟩
  | .local _ .vmem, ⟨52, _⟩ => ⟨S512x1, .f32⟩
  | .local _ .vmem, ⟨53, _⟩ => ⟨S1x1024, .f32⟩
  | .local _ .vmem, ⟨54, _⟩ => ⟨S1x1024, .f32⟩
  | .local _ .vmem, ⟨55, _⟩ => ⟨S512x1, .f32⟩
  | .local _ .vmem, ⟨56, _⟩ => ⟨S512x1, .f32⟩
  | .local _ .vmem, ⟨57, _⟩ => ⟨S1x1, .f32⟩
  | .local _ .vmem, ⟨58, _⟩ => ⟨S1x1, .f32⟩
  | .local _ .vmem, ⟨59, _⟩ => ⟨S1x16, .f32⟩
  | .local _ .vmem, ⟨60, _⟩ => ⟨S1x1024, .f32⟩
  | .local _ .vmem, ⟨61, _⟩ => ⟨S1x1024, .f32⟩
  | .local _ .vmem, ⟨62, _⟩ => ⟨S512x16, .f32⟩
  | .local _ .vmem, ⟨63, _⟩ => ⟨S512x16, .f32⟩
  | .local _ .vmem, ⟨64, _⟩ => ⟨S512x16, .f32⟩
  | .local _ .vmem, ⟨65, _⟩ => ⟨S512x1, .f32⟩
  | .local _ .vmem, ⟨66, _⟩ => ⟨S512x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_c : Ref sig .tc := ⟨.hbm, 9, rfl⟩
abbrev main_call0_v2 : Ref sig .tc := ⟨.hbm, 10, rfl⟩
abbrev main_call0_v3 : Ref sig .tc := ⟨.hbm, 11, rfl⟩
abbrev main_call0_cst : Ref sig .tc := ⟨.hbm, 12, rfl⟩
abbrev main_call0_cst_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_v4 : Ref sig .tc := ⟨.hbm, 17, rfl⟩
abbrev main_call0_v5_0 : Ref sig .tc := ⟨.hbm, 18, rfl⟩
abbrev main_call0_v5_1 : Ref sig .tc := ⟨.hbm, 19, rfl⟩
abbrev main_call0_v5_2 : Ref sig .tc := ⟨.hbm, 20, rfl⟩
abbrev main_call0_v5_3 : Ref sig .tc := ⟨.hbm, 21, rfl⟩
abbrev main_call0_v5_4 : Ref sig .tc := ⟨.hbm, 22, rfl⟩
abbrev main_call0_v6_0 : Ref sig .tc := ⟨.hbm, 23, rfl⟩
abbrev main_call0_v6_1 : Ref sig .tc := ⟨.hbm, 24, rfl⟩
abbrev main_call0_v6_2 : Ref sig .tc := ⟨.hbm, 25, rfl⟩
abbrev main_call0_v6_3 : Ref sig .tc := ⟨.hbm, 26, rfl⟩
abbrev main_call0_v6_4 : Ref sig .tc := ⟨.hbm, 27, rfl⟩
abbrev main_call0_v6_5 : Ref sig .tc := ⟨.hbm, 28, rfl⟩
abbrev main_call0_v6_6 : Ref sig .tc := ⟨.hbm, 29, rfl⟩
abbrev main_call0_v6_7 : Ref sig .tc := ⟨.hbm, 30, rfl⟩
abbrev main_call0_v6_8 : Ref sig .tc := ⟨.hbm, 31, rfl⟩
abbrev main_call0_v7 : Ref sig .tc := ⟨.hbm, 32, rfl⟩
abbrev main_v0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc1_stg13_1 : Ref sig .tc := ⟨.vmem, 35, rfl⟩
abbrev cc1_stg14_0 : Ref sig .tc := ⟨.vmem, 36, rfl⟩
abbrev cc1_stg14_1 : Ref sig .tc := ⟨.vmem, 37, rfl⟩
abbrev cc1_stg15_0 : Ref sig .tc := ⟨.vmem, 38, rfl⟩
abbrev cc1_stg16_0 : Ref sig .tc := ⟨.vmem, 39, rfl⟩
abbrev cc1_stg17_0 : Ref sig .tc := ⟨.vmem, 40, rfl⟩
abbrev cc1_scratch0 : Ref sig .tc := ⟨.vmem, 41, rfl⟩
abbrev cc1_scratch1 : Ref sig .tc := ⟨.vmem, 42, rfl⟩
abbrev cc1_scratch2 : Ref sig .tc := ⟨.vmem, 43, rfl⟩
abbrev cc1_scratch3 : Ref sig .tc := ⟨.vmem, 44, rfl⟩
abbrev cc2_stg0_0 : Ref sig .tc := ⟨.vmem, 45, rfl⟩
abbrev cc2_stg0_1 : Ref sig .tc := ⟨.vmem, 46, rfl⟩
abbrev cc2_stg1_0 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg4_0 : Ref sig .tc := ⟨.vmem, 51, rfl⟩
abbrev cc2_stg4_1 : Ref sig .tc := ⟨.vmem, 52, rfl⟩
abbrev cc2_stg5_0 : Ref sig .tc := ⟨.vmem, 53, rfl⟩
abbrev cc2_stg5_1 : Ref sig .tc := ⟨.vmem, 54, rfl⟩
abbrev cc2_stg6_0 : Ref sig .tc := ⟨.vmem, 55, rfl⟩
abbrev cc2_stg6_1 : Ref sig .tc := ⟨.vmem, 56, rfl⟩
abbrev cc2_stg7_0 : Ref sig .tc := ⟨.vmem, 57, rfl⟩
abbrev cc2_stg8_0 : Ref sig .tc := ⟨.vmem, 58, rfl⟩
abbrev cc2_stg9_0 : Ref sig .tc := ⟨.vmem, 59, rfl⟩
abbrev cc2_stg10_0 : Ref sig .tc := ⟨.vmem, 60, rfl⟩
abbrev cc2_stg10_1 : Ref sig .tc := ⟨.vmem, 61, rfl⟩
abbrev cc2_stg11_0 : Ref sig .tc := ⟨.vmem, 62, rfl⟩
abbrev cc2_stg11_1 : Ref sig .tc := ⟨.vmem, 63, rfl⟩
abbrev cc2_scratch0 : Ref sig .tc := ⟨.vmem, 64, rfl⟩
abbrev cc2_scratch1 : Ref sig .tc := ⟨.vmem, 65, rfl⟩
abbrev cc2_scratch2 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc1_sem10_0 : DmaSem sig := 26
abbrev cc1_sem10_1 : DmaSem sig := 27
abbrev cc1_sem11_0 : DmaSem sig := 28
abbrev cc1_sem11_1 : DmaSem sig := 29
abbrev cc1_sem12_0 : DmaSem sig := 30
abbrev cc1_sem12_1 : DmaSem sig := 31
abbrev cc1_sem13_0 : DmaSem sig := 32
abbrev cc1_sem13_1 : DmaSem sig := 33
abbrev cc1_sem14_0 : DmaSem sig := 34
abbrev cc1_sem14_1 : DmaSem sig := 35
abbrev cc1_sem15_0 : DmaSem sig := 36
abbrev cc1_sem16_0 : DmaSem sig := 37
abbrev cc1_sem17_0 : DmaSem sig := 38
abbrev cc2_sem0_0 : DmaSem sig := 39
abbrev cc2_sem0_1 : DmaSem sig := 40
abbrev cc2_sem1_0 : DmaSem sig := 41
abbrev cc2_sem2_0 : DmaSem sig := 42
abbrev cc2_sem2_1 : DmaSem sig := 43
abbrev cc2_sem3_0 : DmaSem sig := 44
abbrev cc2_sem4_0 : DmaSem sig := 45
abbrev cc2_sem4_1 : DmaSem sig := 46
abbrev cc2_sem5_0 : DmaSem sig := 47
abbrev cc2_sem5_1 : DmaSem sig := 48
abbrev cc2_sem6_0 : DmaSem sig := 49
abbrev cc2_sem6_1 : DmaSem sig := 50
abbrev cc2_sem7_0 : DmaSem sig := 51
abbrev cc2_sem8_0 : DmaSem sig := 52
abbrev cc2_sem9_0 : DmaSem sig := 53
abbrev cc2_sem10_0 : DmaSem sig := 54
abbrev cc2_sem10_1 : DmaSem sig := 55
abbrev cc2_sem11_0 : DmaSem sig := 56
abbrev cc2_sem11_1 : DmaSem sig := 57

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v57 : BitVec 1 := Scalar.cmpi .eq arg0 c19_i32
  let v58 : BitVec 32 := Scalar.extui v57
  let c0_i32_34 : BitVec 32 := 0#32
  let v59 : BitVec 1 := Scalar.cmpi .ne v58 c0_i32_34
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x136 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![20, 10], ![false, false]⟩

def k1_off1 (i : grid1.Coords) : Fin 2 → Nat :=
  let arg1 : BitVec 32 := BitVec.ofNat 32 (i 1).val
  let c1024_i32 : BitVec 32 := 1024#32
  let v30 : BitVec 32 := Scalar.muli arg1 c1024_i32
  let v31 : Index := Scalar.indexCast v30
  let c0_13 : Index := 0#32
  ![v31.toNat, 0]
def k1_cond2 (i : grid1.Coords) : BitVec 1 :=
  let arg1 : BitVec 32 := BitVec.ofNat 32 (i 1).val
  let c9_i32 : BitVec 32 := 9#32
  let v41 : BitVec 1 := Scalar.cmpi .eq arg1 c9_i32
  let v42 : BitVec 32 := Scalar.extui v41
  let c0_i32_19 : BitVec 32 := 0#32
  let v43 : BitVec 1 := Scalar.cmpi .ne v42 c0_i32_19
  v43

def k1_cond4 (i : grid1.Coords) : BitVec 1 :=
  let arg0 : BitVec 32 := BitVec.ofNat 32 (i 0).val
  let c19_i32 : BitVec 32 := 19#32
  let v140 : BitVec 1 := Scalar.cmpi .eq arg0 c19_i32
  let v141 : BitVec 32 := Scalar.extui v140
  let c0_i32_78 : BitVec 32 := 0#32
  let v142 : BitVec 1 := Scalar.cmpi .ne v141 c0_i32_78
  v142

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x136 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S32x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S512x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S512x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S512x16 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S512x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S1x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S512x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 1 → Memref sig .tc .vmem S1x1 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S1x1 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S1x16 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev grid2 : Pipeline.Grid := ⟨2, ![20, 10], ![false, false]⟩

def k2_off1 (i : grid2.Coords) : Fin 2 → Nat :=
  let arg1 : BitVec 32 := BitVec.ofNat 32 (i 1).val
  let c1024_i32 : BitVec 32 := 1024#32
  let v24 : BitVec 32 := Scalar.muli arg1 c1024_i32
  let v25 : Index := Scalar.indexCast v24
  let c0_12 : Index := 0#32
  ![v25.toNat, 0]
def k2_off2 (i : grid2.Coords) : Fin 2 → Nat :=
  let arg1 : BitVec 32 := BitVec.ofNat 32 (i 1).val
  let c1024_i32_36 : BitVec 32 := 1024#32
  let v72 : BitVec 32 := Scalar.muli arg1 c1024_i32_36
  let v73 : Index := Scalar.indexCast v72
  let c0_37 : Index := 0#32
  ![v73.toNat, 0]
def k2_cond2 (i : grid2.Coords) : BitVec 1 :=
  let arg1 : BitVec 32 := BitVec.ofNat 32 (i 1).val
  let c9_i32 : BitVec 32 := 9#32
  let v84 : BitVec 1 := Scalar.cmpi .eq arg1 c9_i32
  let v85 : BitVec 32 := Scalar.extui v84
  let c0_i32_43 : BitVec 32 := 0#32
  let v86 : BitVec 1 := Scalar.cmpi .ne v85 c0_i32_43
  v86

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S10240x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S10240x16 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S512x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x16 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S1x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![false, true]

abbrev stage2_11 : Fin 2 → Memref sig .tc .vmem S512x16 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S256x1 : Shape := ⟨2, ![256, 1]⟩
abbrev S128x16 : Shape := ⟨2, ![128, 16]⟩
abbrev S32x1 : Shape := ⟨2, ![32, 1]⟩
abbrev S128x1 : Shape := ⟨2, ![128, 1]⟩
abbrev S10000x1 : Shape := ⟨2, ![10000, 1]⟩
abbrev S1x10000 : Shape := ⟨2, ![1, 10000]⟩
abbrev S_ : Shape := ⟨0, ![]⟩
abbrev S10000 : Shape := ⟨1, ![10000]⟩
abbrev S128x10000 : Shape := ⟨2, ![128, 10000]⟩
abbrev S10000x16 : Shape := ⟨2, ![10000, 16]⟩
abbrev S16x1 : Shape := ⟨2, ![16, 1]⟩

abbrev nBuf : Space → Nat
  | .hbm => 145
  | .vmem => 0
  | .smem => 0
  | _ => 0

abbrev hbmTy0_0 (i : Nat) : BufTy := match i % 128 with
  | 0 => ⟨S10000x128, .f32⟩
  | 1 => ⟨S10000x10000, .f32⟩
  | 2 => ⟨S128x128, .f32⟩
  | 3 => ⟨S256x1, .f32⟩
  | 4 => ⟨S128x128, .f32⟩
  | 5 => ⟨S128x16, .f32⟩
  | 6 => ⟨S32x1, .f32⟩
  | 7 => ⟨S10000x128, .f32⟩
  | 8 => ⟨S128x1, .f32⟩
  | 9 => ⟨S10000x1, .f32⟩
  | 10 => ⟨S128x1, .f32⟩
  | 11 => ⟨S10000x1, .f32⟩
  | 12 => ⟨S1x10000, .f32⟩
  | 13 => ⟨S10000x10000, .f32⟩
  | 14 => ⟨S10000x10000, .f32⟩
  | 15 => ⟨S10000x10000, .f32⟩
  | 16 => ⟨S_, .f32⟩
  | 17 => ⟨S10000x10000, .f32⟩
  | 18 => ⟨S10000x10000, .i1⟩
  | 19 => ⟨S_, .f32⟩
  | 20 => ⟨S10000x10000, .f32⟩
  | 21 => ⟨S10000x10000, .f32⟩
  | 22 => ⟨S10000x10000, .f32⟩
  | 23 => ⟨S_, .f32⟩
  | 24 => ⟨S10000x10000, .f32⟩
  | 25 => ⟨S10000x10000, .i1⟩
  | 26 => ⟨S_, .f32⟩
  | 27 => ⟨S_, .f32⟩
  | 28 => ⟨S10000x10000, .f32⟩
  | 29 => ⟨S10000x10000, .f32⟩
  | 30 => ⟨S_, .f32⟩
  | 31 => ⟨S10000, .f32⟩
  | 32 => ⟨S_, .f32⟩
  | 33 => ⟨S10000, .f32⟩
  | 34 => ⟨S10000, .f32⟩
  | 35 => ⟨S10000x1, .f32⟩
  | 36 => ⟨S10000x10000, .f32⟩
  | 37 => ⟨S10000x10000, .f32⟩
  | 38 => ⟨S10000x10000, .f32⟩
  | 39 => ⟨S_, .f32⟩
  | 40 => ⟨S10000, .f32⟩
  | 41 => ⟨S10000x1, .f32⟩
  | 42 => ⟨S10000x10000, .f32⟩
  | 43 => ⟨S10000x10000, .f32⟩
  | 44 => ⟨S10000x128, .f32⟩
  | 45 => ⟨S_, .f32⟩
  | 46 => ⟨S10000x128, .f32⟩
  | 47 => ⟨S10000x128, .i1⟩
  | 48 => ⟨S_, .f32⟩
  | 49 => ⟨S10000x128, .f32⟩
  | 50 => ⟨S10000x128, .i1⟩
  | 51 => ⟨S_, .f32⟩
  | 52 => ⟨S_, .f32⟩
  | 53 => ⟨S10000x128, .f32⟩
  | 54 => ⟨S10000x128, .f32⟩
  | 55 => ⟨S10000x128, .f32⟩
  | 56 => ⟨S_, .f32⟩
  | 57 => ⟨S10000x128, .f32⟩
  | 58 => ⟨S10000x128, .f32⟩
  | 59 => ⟨S10000x128, .f32⟩
  | 60 => ⟨S10000x128, .f32⟩
  | 61 => ⟨S128x10000, .f32⟩
  | 62 => ⟨S10000x10000, .f32⟩
  | 63 => ⟨S_, .f32⟩
  | 64 => ⟨S10000x10000, .f32⟩
  | 65 => ⟨S10000x10000, .i1⟩
  | 66 => ⟨S_, .f32⟩
  | 67 => ⟨S10000x10000, .f32⟩
  | 68 => ⟨S10000x10000, .f32⟩
  | 69 => ⟨S10000x10000, .f32⟩
  | 70 => ⟨S_, .f32⟩
  | 71 => ⟨S10000x10000, .f32⟩
  | 72 => ⟨S10000x10000, .i1⟩
  | 73 => ⟨S_, .f32⟩
  | 74 => ⟨S_, .f32⟩
  | 75 => ⟨S10000x10000, .f32⟩
  | 76 => ⟨S10000x10000, .f32⟩
  | 77 => ⟨S_, .f32⟩
  | 78 => ⟨S10000, .f32⟩
  | 79 => ⟨S_, .f32⟩
  | 80 => ⟨S10000, .f32⟩
  | 81 => ⟨S10000, .f32⟩
  | 82 => ⟨S10000x1, .f32⟩
  | 83 => ⟨S10000x10000, .f32⟩
  | 84 => ⟨S10000x10000, .f32⟩
  | 85 => ⟨S10000x10000, .f32⟩
  | 86 => ⟨S_, .f32⟩
  | 87 => ⟨S10000, .f32⟩
  | 88 => ⟨S10000x1, .f32⟩
  | 89 => ⟨S10000x10000, .f32⟩
  | 90 => ⟨S10000x10000, .f32⟩
  | 91 => ⟨S10000x16, .f32⟩
  | 92 => ⟨S16x1, .f32⟩
  | 93 => ⟨S10000x1, .f32⟩
  | 94 => ⟨S16x1, .f32⟩
  | 95 => ⟨S10000x1, .f32⟩
  | 96 => ⟨S1x10000, .f32⟩
  | 97 => ⟨S10000x10000, .f32⟩
  | 98 => ⟨S10000x10000, .f32⟩
  | 99 => ⟨S10000x10000, .f32⟩
  | 100 => ⟨S_, .f32⟩
  | 101 => ⟨S10000x10000, .f32⟩
  | 102 => ⟨S10000x10000, .i1⟩
  | 103 => ⟨S_, .f32⟩
  | 104 => ⟨S10000x10000, .f32⟩
  | 105 => ⟨S10000x10000, .f32⟩
  | 106 => ⟨S10000x10000, .f32⟩
  | 107 => ⟨S_, .f32⟩
  | 108 => ⟨S10000x10000, .f32⟩
  | 109 => ⟨S10000x10000, .i1⟩
  | 110 => ⟨S_, .f32⟩
  | 111 => ⟨S_, .f32⟩
  | 112 => ⟨S10000x10000, .f32⟩
  | 113 => ⟨S10000x10000, .f32⟩
  | 114 => ⟨S_, .f32⟩
  | 115 => ⟨S10000, .f32⟩
  | 116 => ⟨S_, .f32⟩
  | 117 => ⟨S10000, .f32⟩
  | 118 => ⟨S10000, .f32⟩
  | 119 => ⟨S10000x1, .f32⟩
  | 120 => ⟨S10000x10000, .f32⟩
  | 121 => ⟨S10000x10000, .f32⟩
  | 122 => ⟨S10000x10000, .f32⟩
  | 123 => ⟨S_, .f32⟩
  | 124 => ⟨S10000, .f32⟩
  | 125 => ⟨S10000x1, .f32⟩
  | 126 => ⟨S10000x10000, .f32⟩
  | 127 => ⟨S10000x10000, .f32⟩
  | _ => ⟨S10000x128, .f32⟩

abbrev hbmTy0_1 (i : Nat) : BufTy := match i % 128 with
  | 0 => ⟨S10000x10000, .f32⟩
  | 1 => ⟨S10000x16, .f32⟩
  | 2 => ⟨S_, .f32⟩
  | 3 => ⟨S10000, .f32⟩
  | 4 => ⟨S_, .f32⟩
  | 5 => ⟨S10000, .f32⟩
  | 6 => ⟨S10000, .f32⟩
  | 7 => ⟨S10000x1, .f32⟩
  | 8 => ⟨S10000x16, .f32⟩
  | 9 => ⟨S10000x16, .f32⟩
  | 10 => ⟨S10000x16, .f32⟩
  | 11 => ⟨S_, .f32⟩
  | 12 => ⟨S10000, .f32⟩
  | 13 => ⟨S10000x1, .f32⟩
  | 14 => ⟨S10000x1, .f32⟩
  | 15 => ⟨S10000x16, .f32⟩
  | 16 => ⟨S10000x16, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call2_cst : Ref sig .tc := ⟨.hbm, 45, rfl⟩
abbrev main_call2_v0 : Ref sig .tc := ⟨.hbm, 46, rfl⟩
abbrev main_call2_v1 : Ref sig .tc := ⟨.hbm, 47, rfl⟩
abbrev main_call2_cst_0 : Ref sig .tc := ⟨.hbm, 48, rfl⟩
abbrev main_call2_v2 : Ref sig .tc := ⟨.hbm, 49, rfl⟩
abbrev main_call2_v3 : Ref sig .tc := ⟨.hbm, 50, rfl⟩
abbrev main_call2_cst_1 : Ref sig .tc := ⟨.hbm, 51, rfl⟩
abbrev main_call2_call0_v0 : Ref sig .tc := ⟨.hbm, 52, rfl⟩
abbrev main_call2_call0_v1 : Ref sig .tc := ⟨.hbm, 53, rfl⟩
abbrev main_call2_v4 : Ref sig .tc := ⟨.hbm, 54, rfl⟩
abbrev main_call2_v5 : Ref sig .tc := ⟨.hbm, 55, rfl⟩
abbrev main_call2_cst_2 : Ref sig .tc := ⟨.hbm, 56, rfl⟩
abbrev main_call2_v6 : Ref sig .tc := ⟨.hbm, 57, rfl⟩
abbrev main_call2_v7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_6 : Ref sig .tc := ⟨.hbm, 63, rfl⟩
abbrev main_v33 : Ref sig .tc := ⟨.hbm, 64, rfl⟩
abbrev main_v34 : Ref sig .tc := ⟨.hbm, 65, rfl⟩
abbrev main_cst_7 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_8 : Ref sig .tc := ⟨.hbm, 70, rfl⟩
abbrev main_v38 : Ref sig .tc := ⟨.hbm, 71, rfl⟩
abbrev main_v39 : Ref sig .tc := ⟨.hbm, 72, rfl⟩
abbrev main_cst_9 : Ref sig .tc := ⟨.hbm, 73, rfl⟩
abbrev main_call4_v0 : Ref sig .tc := ⟨.hbm, 74, rfl⟩
abbrev main_call4_v1 : Ref sig .tc := ⟨.hbm, 75, rfl⟩
abbrev main_v40 : Ref sig .tc := ⟨.hbm, 76, rfl⟩
abbrev main_cst_10 : Ref sig .tc := ⟨.hbm, 77, rfl⟩
abbrev main_v41 : Ref sig .tc := ⟨.hbm, 78, rfl⟩
abbrev main_cst_11 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_12 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_13 : Ref sig .tc := ⟨.hbm, 100, rfl⟩
abbrev main_v61 : Ref sig .tc := ⟨.hbm, 101, rfl⟩
abbrev main_v62 : Ref sig .tc := ⟨.hbm, 102, rfl⟩
abbrev main_cst_14 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_15 : Ref sig .tc := ⟨.hbm, 107, rfl⟩
abbrev main_v66 : Ref sig .tc := ⟨.hbm, 108, rfl⟩
abbrev main_v67 : Ref sig .tc := ⟨.hbm, 109, rfl⟩
abbrev main_cst_16 : Ref sig .tc := ⟨.hbm, 110, rfl⟩
abbrev main_call6_v0 : Ref sig .tc := ⟨.hbm, 111, rfl⟩
abbrev main_call6_v1 : Ref sig .tc := ⟨.hbm, 112, rfl⟩
abbrev main_v68 : Ref sig .tc := ⟨.hbm, 113, rfl⟩
abbrev main_cst_17 : Ref sig .tc := ⟨.hbm, 114, rfl⟩
abbrev main_v69 : Ref sig .tc := ⟨.hbm, 115, rfl⟩
abbrev main_cst_18 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_19 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_call7_cst : Ref sig .tc := ⟨.hbm, 130, rfl⟩
abbrev main_call7_v0 : Ref sig .tc := ⟨.hbm, 131, rfl⟩
abbrev main_call7_cst_0 : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_call7_v5 : Ref sig .tc := ⟨.hbm, 137, rfl⟩
abbrev main_call7_v6 : Ref sig .tc := ⟨.hbm, 138, rfl⟩
abbrev main_call7_cst_1 : Ref sig .tc := ⟨.hbm, 139, rfl⟩
abbrev main_call7_v7 : Ref sig .tc := ⟨.hbm, 140, rfl⟩
abbrev main_call7_v8 : Ref sig .tc := ⟨.hbm, 141, rfl⟩
abbrev main_call7_v9 : Ref sig .tc := ⟨.hbm, 142, rfl⟩
abbrev main_call7_v10 : Ref sig .tc := ⟨.hbm, 143, rfl⟩
abbrev main_v82 : Ref sig .tc := ⟨.hbm, 144, rfl⟩

abbrev nD : Nat := 1
abbrev τ : Topo := Topo.v7x

variable {F : FTy → Type} [FloatOps F]
-- ==== Proof.Full.lean ====
module

public import Idealize.ShloMosaic.Lib.VecWindow
public import Idealize.ShloMosaic.Lib.Pipeline.ValueKit.Basic

/-! Loads and stores of a whole two-dimensional buffer, at extents and offsets written as literal pairs. -/

@[expose] public section

namespace Cert.Full

open Idealize.ShloMosaic Idealize.SL Idealize.ShloMosaic.View

variable {Val : EltTy → Type} {sig : RefSig} {κ : Kind} {sp : Space} {e : EltTy} {a b : ℕ}

/-- A load of all of a two-dimensional value is the value. -/
theorem ld2 (X : (⟨2, ![a, b]⟩ : Shape).Idx → Val e) (inb : ∀ k, (![0, 0] : Fin 2 → ℕ) k + (![a, b] : Fin 2 → ℕ) k ≤ (![a, b] : Fin 2 → ℕ) k) :
    View.ld X (Rect.unit (s := ⟨2, ![a, b]⟩) ![0, 0] ![a, b] inb) = X :=
  View.ld_unit_lit (S := ⟨2, ![a, b]⟩) inb X (fun k => by fin_cases k <;> rfl)

/-- A load of all of a buffer reads its contents. -/
theorem readAt2 (v : View sig κ sp ⟨2, ![a, b]⟩ e) (f : v.ty.Contents Val) (inb : ∀ k, (![0, 0] : Fin 2 → ℕ) k + (![a, b] : Fin 2 → ℕ) k ≤ (![a, b] : Fin 2 → ℕ) k) :
    v.readAt Val (Rect.unit (s := ⟨2, ![a, b]⟩) ![0, 0] ![a, b] inb).toLoadRect f = v.read Val f :=
  View.readAt_full v f inb

/-- A buffer stored whole last reads as what was stored. -/
theorem read_writes2 (v : View sig κ sp ⟨2, ![a, b]⟩ e) (f : v.ty.Contents Val) (inb : ∀ k, (![0, 0] : Fin 2 → ℕ) k + (![a, b] : Fin 2 → ℕ) k ≤ (![a, b] : Fin 2 → ℕ) k)
    (w : (⟨2, ![a, b]⟩ : Shape).Idx → Val e) (L : List (Piece Val ⟨2, ![a, b]⟩ e)) :
    v.read Val (v.writes Val f (⟨Rect.unit (s := ⟨2, ![a, b]⟩) ![0, 0] ![a, b] inb, w⟩ :: L)) = w :=
  View.read_writes_full v f inb w L

/-- A load of all of a buffer that was stored whole last is what was stored. -/
theorem readCov2 [∀ e, Nonempty (Val e)] (v : View sig κ sp ⟨2, ![a, b]⟩ e) (inb inb' : ∀ k, (![0, 0] : Fin 2 → ℕ) k + (![a, b] : Fin 2 → ℕ) k ≤ (![a, b] : Fin 2 → ℕ) k)
    (w : (⟨2, ![a, b]⟩ : Shape).Idx → Val e) (L : List (Piece Val ⟨2, ![a, b]⟩ e)) :
    v.readCov (⟨Rect.unit (s := ⟨2, ![a, b]⟩) ![0, 0] ![a, b] inb', w⟩ :: L) (Rect.unit (s := ⟨2, ![a, b]⟩) ![0, 0] ![a, b] inb).toLoadRect = w :=
  View.readCov_full v inb inb' w L

/-- A load of part of a buffer that was stored whole last is that part of what was stored. -/
theorem readCov_ld [∀ e, Nonempty (Val e)] (v : View sig κ sp ⟨2, ![a, b]⟩ e) (inb' : ∀ k, (![0, 0] : Fin 2 → ℕ) k + (![a, b] : Fin 2 → ℕ) k ≤ (![a, b] : Fin 2 → ℕ) k)
    (w : (⟨2, ![a, b]⟩ : Shape).Idx → Val e) (L : List (Piece Val ⟨2, ![a, b]⟩ e)) (r : Rect ⟨2, ![a, b]⟩) :
    v.readCov (⟨Rect.unit (s := ⟨2, ![a, b]⟩) ![0, 0] ![a, b] inb', w⟩ :: L) r.toLoadRect = View.ld w r := by
  have h : (![0, 0] : Fin 2 → ℕ) = fun _ => 0 := by funext k; fin_cases k <;> rfl
  rw [View.readCov_eq_canon_ld _ _ _ (fun y => ⟨_, List.mem_cons_self, ?_⟩)]
  · exact congrArg (fun X => View.ld X r) (View.canon_cons_unit_zero (S := ⟨2, ![a, b]⟩) h inb' w L)
  · have hz : (Rect.unit (s := ⟨2, ![a, b]⟩) ![0, 0] ![a, b] inb').set = Finset.univ := by
      have : Rect.unit (s := ⟨2, ![a, b]⟩) ![0, 0] ![a, b] inb' = Rect.whole _ := by
        unfold Rect.whole; congr 1
      rw [this, Rect.set_whole]
    show y ∈ _
    rw [hz]; exact Finset.mem_univ y

end Cert.Full
end
-- ==== Proof.I.Body0.lean ====
/- The kernel body of the projection, run once at any contents of its buffers. -/
module

public import proofs.«01_k».proof.Proof.Gen.KernelIdeal.Points
public import proofs.«01_k».proof.Proof.Gen.KernelIdeal.Skeleton
public import Idealize.ShloMosaic.Lib.Pipeline.Frame
public import Idealize.ShloMosaic.Lib.Tactic
public import proofs.«01_k».proof.Proof.Full

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-- The point is the grid's first. -/
def fst0 (i : grid0.Coords) : Prop := Scalar.cmpi .ne (Scalar.extui (Scalar.cmpi .eq (BitVec.ofNat 32 (i 0).val) 0#32) : BitVec 32) 0#32 = 1#1

/-- The scaled projections on the neighbour half of the attention vector, before the rows past the end are masked. -/
def raw0 (i : grid0.Coords) (x1 : Vec F S512x128 .f32) (x2 : Vec F S128x128 .f32) (x3 : Vec F S256x1 .f32) : FVec F S1x512 .f32 :=
  k0_pay9 i x1 x2 (View.ld x3 (Rect.unit (s := S256x1) ![128, 0] S128x1.size inb_S256x1_S128x1_128_0))

/-- The scaled projections on the own half of the attention vector. -/
def s1a0 (i : grid0.Coords) (x1 : Vec F S512x128 .f32) (x2 : Vec F S128x128 .f32) (x3 : Vec F S256x1 .f32) : Vec F S512x1 .f32 :=
  k0_pay8 i x1 x2 (View.ld x3 (Rect.unit (s := S256x1) ![0, 0] S128x1.size inb_S256x1_S128x1_0_0))

/-- The scaled projections on the neighbour half, masked. -/
def s1b0 (i : grid0.Coords) (x1 : Vec F S512x128 .f32) (x2 : Vec F S128x128 .f32) (x3 : Vec F S256x1 .f32) : Vec F S1x512 .f32 :=
  k0_pay1 (raw0 i x1 x2 x3) (Scalar.muli (BitVec.ofNat 32 (i 0).val) 512#32) (iota .tc S1x512 32 [1] iota_S1x512_d1_w32)

open Classical in
/-- The running column sum after the point. -/
def sum0 (i : grid0.Coords) (x1 : Vec F S512x128 .f32) (x2 : Vec F S128x128 .f32) (x9 : Vec F S1x128 .f32) : Vec F S1x128 .f32 :=
  k0_pay4 (k0_pay6 i x1 x2) (if fst0 i then k0_pay2 else x9)

open Classical in
/-- The running maximum after the point. -/
def max0 (i : grid0.Coords) (x1 : Vec F S512x128 .f32) (x2 : Vec F S128x128 .f32) (x3 : Vec F S256x1 .f32) (x10 : Vec F S1x1 .f32) : Vec F S1x1 .f32 :=
  k0_pay5 (raw0 i x1 x2 x3) (Scalar.muli (BitVec.ofNat 32 (i 0).val) 512#32) (iota .tc S1x512 32 [1] iota_S1x512_d1_w32) (if fst0 i then k0_pay3 else x10)

open Classical in
/-- The maximum's window after the point. -/
def omax0 (i : grid0.Coords) (x1 : Vec F S512x128 .f32) (x2 : Vec F S128x128 .f32) (x3 : Vec F S256x1 .f32) (x7 : Vec F S1x1 .f32) (x10 : Vec F S1x1 .f32) : Vec F S1x1 .f32 := if k0_cond2 i = 1#1 then max0 i x1 x2 x3 x10 else x7

open Classical in
/-- The column sum's window after the point. -/
def osum0 (i : grid0.Coords) (x1 : Vec F S512x128 .f32) (x2 : Vec F S128x128 .f32) (x8 : Vec F S1x128 .f32) (x9 : Vec F S1x128 .f32) : Vec F S1x128 .f32 := if k0_cond2 i = 1#1 then sum0 i x1 x2 x9 else x8

set_option maxHeartbeats 4000000 in
/-- The body, from any contents of its windows and scratch: every buffer it writes at the functions above, every other one as it
    was. -/
theorem run0 [∀ e, Nonempty (Elt F e)] (c : Dev nD) (i : grid0.Coords) (arg1 : Memref sig .tc .vmem S512x128 .f32) (harg1 : arg1.IsWhole) (arg2 : Memref sig .tc .vmem S128x128 .f32) (harg2 : arg2.IsWhole) (arg3 : Memref sig .tc .vmem S256x1 .f32) (harg3 : arg3.IsWhole) (arg4 : Memref sig .tc .vmem S512x136 .bf16) (harg4 : arg4.IsWhole) (arg5 : Memref sig .tc .vmem S512x1 .f32) (harg5 : arg5.IsWhole) (arg6 : Memref sig .tc .vmem S1x512 .f32) (harg6 : arg6.IsWhole) (arg7 : Memref sig .tc .vmem S1x1 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1 .f32) (harg10 : arg10.IsWhole)
    (x1 : Vec F S512x128 .f32) (x2 : Vec F S128x128 .f32) (x3 : Vec F S256x1 .f32) (x4 : Vec F S512x136 .bf16) (x5 : Vec F S512x1 .f32) (x6 : Vec F S1x512 .f32) (x7 : Vec F S1x1 .f32) (x8 : Vec F S1x128 .f32) (x9 : Vec F S1x128 .f32) (x10 : Vec F S1x1 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (iprop(owns (c : Thread nD τ) arg1 fullShare x1 ∗ owns (c : Thread nD τ) arg2 fullShare x2 ∗ owns (c : Thread nD τ) arg3 fullShare x3 ∗ owns (c : Thread nD τ) arg4 fullShare (k0_pay7 i x1 x2) ∗ owns (c : Thread nD τ) arg5 fullShare (s1a0 i x1 x2 x3) ∗ owns (c : Thread nD τ) arg6 fullShare (s1b0 i x1 x2 x3) ∗ owns (c : Thread nD τ) arg7 fullShare (omax0 i x1 x2 x3 x7 x10) ∗ owns (c : Thread nD τ) arg8 fullShare (osum0 i x1 x2 x8 x9) ∗ owns (c : Thread nD τ) arg9 fullShare (sum0 i x1 x2 x9) ∗ owns (c : Thread nD τ) arg10 fullShare (max0 i x1 x2 x3 x10)) -∗ K ⟨⟩))
      ⊢ wp frame (wpE (defs₀ (F := F)) Variants.none c none) Set.univ
          (cc0__proj_kernel i arg1 harg1 arg2 harg2 arg3 harg3 arg4 harg4 arg5 harg5 arg6 harg6 arg7 harg7 arg8 harg8 arg9 harg9 arg10 harg10) K := by
  classical
  simp only [cc0__proj_kernel_eq_skeleton]; unfold cc0__proj_kernel_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, Hk⟩
  subst e1 e2 e3 e4 e5 e6 e7 e8 e9 e10
  by_cases h1 : fst0 i <;> by_cases h2 : k0_cond2 i = 1#1
  all_goals have h1' := h1
  all_goals unfold fst0 at h1
  all_goals
    sl_exec
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr; swap; · iexact H4
      ipureintro; sl_unfold_run_names; simp only [raw0, s1a0, s1b0, sum0, max0, omax0, osum0, h1', h2, eq_self, if_true, if_false, View.readAt_eq_ld, Cert.Full.ld2, Cert.Full.readCov_ld, Cert.Full.read_writes2]
    isplitl [H5]
    · iexists _; isplitr; swap; · iexact H5
      ipureintro; sl_unfold_run_names; simp only [raw0, s1a0, s1b0, sum0, max0, omax0, osum0, h1', h2, eq_self, if_true, if_false, View.readAt_eq_ld, Cert.Full.ld2, Cert.Full.readCov_ld, Cert.Full.read_writes2]
    isplitl [H6]
    · iexists _; isplitr; swap; · iexact H6
      ipureintro; sl_unfold_run_names; simp only [raw0, s1a0, s1b0, sum0, max0, omax0, osum0, h1', h2, eq_self, if_true, if_false, View.readAt_eq_ld, Cert.Full.ld2, Cert.Full.readCov_ld, Cert.Full.read_writes2]
    isplitl [H7]
    · iexists _; isplitr; swap; · iexact H7
      ipureintro; sl_unfold_run_names; simp only [raw0, s1a0, s1b0, sum0, max0, omax0, osum0, h1', h2, eq_self, if_true, if_false, View.readAt_eq_ld, Cert.Full.ld2, Cert.Full.readCov_ld, Cert.Full.read_writes2]
    isplitl [H8]
    · iexists _; isplitr; swap; · iexact H8
      ipureintro; sl_unfold_run_names; simp only [raw0, s1a0, s1b0, sum0, max0, omax0, osum0, h1', h2, eq_self, if_true, if_false, View.readAt_eq_ld, Cert.Full.ld2, Cert.Full.readCov_ld, Cert.Full.read_writes2]
    isplitl [H9]
    · iexists _; isplitr; swap; · iexact H9
      ipureintro; sl_unfold_run_names; simp only [raw0, s1a0, s1b0, sum0, max0, omax0, osum0, h1', h2, eq_self, if_true, if_false, View.readAt_eq_ld, Cert.Full.ld2, Cert.Full.readCov_ld, Cert.Full.read_writes2]
    · iexists _; isplitr; swap; · iexact H10
      ipureintro; sl_unfold_run_names; simp only [raw0, s1a0, s1b0, sum0, max0, omax0, osum0, h1', h2, eq_self, if_true, if_false, View.readAt_eq_ld, Cert.Full.ld2, Cert.Full.readCov_ld, Cert.Full.read_writes2]

end Cert.KernelIdeal.Hand
end
-- ==== Proof.Chain.lean ====
/- A program of several kernel regions whose later regions read arrays that the earlier ones left at contents known only by a
   relation. Between two regions the core holds its unscoped buffers at SOME valuation; a region is entered at whatever that
   valuation is, with proof data chosen from it, and left at some valuation that its relational data allow. -/
module

public import Idealize.ShloMosaic.Lib.Pipeline.Frame
public import Idealize.ShloMosaic.Lib.Pipeline.Regions
public import Idealize.ShloMosaic.Lib.Pipeline.RegionArraysF

@[expose] public section

noncomputable section

namespace Cert.Chain

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

section Region

variable (pcs : P → PCfg sig Λ₀ Val) (a : (p : P) → (pcs p).Adm)
  (rdats : (p : P) → (c : Dev nD) → RDat τ Val Ix Name U Lvl (pin pcs a p) c) (ι : Ix)
  (defs₀ : Defs nD τ sig Val Λ₀) (𝒱₀ : Variants)
  (L : GSem nD τ sig → Finset Ix) (lv : GSem nD τ sig → Ix → Lvl)

/-- What a region may make of the valuation `V`: each of its windows' arrays holds something that the write-backs may
    have left there, every other buffer is as it was. -/
def Left (p : P) (c : Dev nD) (V V' : Valuation τ sig Val) : Prop :=
  (∀ w, (rdats p c).ArrAt w (pin pcs a p).N (V' (Proc.devRef .tc (arrRef (pin pcs a p).spec w))))
    ∧ ∀ b : Ref sig .tc, b ∉ Finset.univ.image (arrRef (pin pcs a p).spec) → V' b = V b

omit [Fintype P] [Preorder Lvl] in
/-- The arrays at some contents they may hold after the region, and the other unscoped buffers at `V`, are the unscoped
    buffers at some valuation that the region may have made of `V`. -/
theorem held_left [∀ e, Nonempty (Val e)] [DecidableEq P] {p : P} (hw : WinFacts (pin pcs a p).spec) (harr : ∀ w, ((pin pcs a p).spec w).arr.IsWhole)
    (c : Dev nD) (hshare : ∀ w, (rdats p c).share w = fullShare) (V : Valuation τ sig Val) :
    iprop((rdats p c).arraysAt (pin pcs a p).N ∗ unscopedRest (pin pcs a p).spec c (fun b => V b))
      ⊢ (iprop(∃ V', ⌜Left pcs a rdats p c V V'⌝ ∗ StableHlo.held (c.tc : Thread nD τ) (ucRefs τ sig) V') : sProp 𝕄) := by
  classical
  rw [RDat.arraysAt_eq pcs a rdats p c harr hshare]
  iintro ⟨Ha, Hr⟩
  ihave Ha := (BI.bigSep_exists_pi Finset.univ _) $$ Ha
  icases Ha with ⟨%A, Ha⟩
  ihave Ha := (BI.bigSep_pure_sep Finset.univ (fun w => (rdats p c).ArrAt w (pin pcs a p).N (A w)) _) $$ Ha
  icases Ha with ⟨%hA, Ha⟩
  let B : ∀ w, (Proc.devRef .tc (arrRef (pin pcs a p).spec w) : DevRef τ sig).ty.Contents Val := A
  let V' : Valuation τ sig Val := fun d =>
    if h : ∃ w, Proc.devRef .tc (arrRef (pin pcs a p).spec w) = d then cast (congrArg (fun d : DevRef τ sig => d.ty.Contents Val) h.choose_spec) (B h.choose) else V d
  have hF : ∀ w, A w = V' (Proc.devRef .tc (arrRef (pin pcs a p).spec w)) := fun w => by
    have h : ∃ w', (Proc.devRef .tc (arrRef (pin pcs a p).spec w') : DevRef τ sig) = Proc.devRef .tc (arrRef (pin pcs a p).spec w) := ⟨w, rfl⟩
    have key : ∀ w' (e : (Proc.devRef .tc (arrRef (pin pcs a p).spec w') : DevRef τ sig) = Proc.devRef .tc (arrRef (pin pcs a p).spec w)),
        cast (congrArg (fun d : DevRef τ sig => d.ty.Contents Val) e) (B w') = B w := fun w' e => by
      by_cases hw' : arrRef (pin pcs a p).spec w' = arrRef (pin pcs a p).spec w
      · obtain rfl := hw.arr_inj hw'; rfl
      · exact absurd e (StableHlo.devRef_ne_of_ne hw')
    show _ = dite _ _ _
    rw [dif_pos h]
    exact (key _ h.choose_spec).symm
  have hrest : ∀ b : Ref sig .tc, b ∉ Finset.univ.image (arrRef (pin pcs a p).spec) → V' b = V b := fun b hb => by
    refine dif_neg fun ⟨w, e⟩ => hb (Finset.mem_image.mpr ⟨w, Finset.mem_univ _, ?_⟩)
    by_contra hne
    exact StableHlo.devRef_ne_of_ne hne e
  clear_value V'
  iexists V'
  isplitr
  · ipureintro
    exact ⟨fun w => by rw [← hF w]; exact hA w (Finset.mem_univ w), hrest⟩
  rw [← unscopedBufs_held, unscopedBufs_split (pin pcs a) p hw.arr_unscoped hw.arr_inj c (fun b => V' b)]
  isplitl [Ha]
  · refine Entails.of_eq (bigSep_congr fun w _ => by rw [hF])
  · refine Entails.of_eq ?_
    unfold unscopedRest
    refine bigSep_congr fun b hb => ?_
    have e := hrest b (Finset.mem_sdiff.mp hb).2
    exact congrArg (fun X : Buf Val ((c.tc : Thread nD τ).loc b) => (((c.tc : Thread nD τ).loc b) ↦{fullShare} X : sProp 𝕄)) e.symm

/-- A region entered from the unscoped buffers at the valuation `V` and left with them at a valuation it may have made of `V`:
    the kernel has no semaphores of its own and no prefetched tables, its body owes nothing, and its invariant starts from and
    gives back just the scoped buffers that no window stages. -/
def seg [∀ e, Nonempty (Val e)] [DecidableEq P] (p : P) (kit : PLaunchFacts (nD := nD) (τ := τ) pcs p) (hK : (pcs p).pre.K = 0)
    (V : Valuation τ sig Val)
    (hbody : ∀ c, (rdats p c).BodyObligation defs₀ 𝒱₀ ι Set.univ)
    (howed : ∀ c t, (rdats p c).owed t = 0) (hrec : ∀ c, (rdats p c).recorded 0 = Set.univ)
    (hshare : ∀ c w, (rdats p c).share w = fullShare)
    (hA : ∀ c w, (rdats p c).A w = V (Proc.devRef .tc (arrRef (pin pcs a p).spec w)))
    (hin : ∀ c : Dev nD, scopedRest (pin pcs a p).spec c ⊢ (rdats p c).Φ 0)
    (hout : ∀ c : Dev nD, (rdats p c).Φ (Fin.last (pin pcs a p).N) ⊢ (scopedRest (pin pcs a p).spec c : sProp 𝕄)) :
    RDat.RegionSeg pcs a rdats ι defs₀ 𝒱₀ L lv p where
  win := kit.to₀.win
  block_pos := kit.to₀.block_pos
  stage_whole := kit.to₀.stage_whole
  K := PEmpty
  osem k := k.elim
  ho := OwnSemFacts.none _
  hbody := hbody
  hwaits c := by
    have h := RDat.cellsWaits_of_owed_zero (pin pcs a) rdats ι p c (howed c)
    iintro -
    iapply h
    iempintro
  pre c := iprop(StableHlo.held (c.tc : Thread nD τ) (ucRefs τ sig) V ∗ ∃ W, owes (c : Thread nD τ) 0 W)
  post c := iprop((∃ V', ⌜Left pcs a rdats p c V V'⌝ ∗ StableHlo.held (c.tc : Thread nD τ) (ucRefs τ sig) V') ∗ ∃ W, owes (c : Thread nD τ) 0 W)
  X _ := iprop(emp)
  Y _ := iprop(emp)
  Z c := unscopedRest (pin pcs a p).spec c (fun b => V b)
  hentry c := by
    have hs := RDat.arrays_of_unscopedBufs (p := p) pcs a rdats kit.win kit.arr_whole c (hshare c) (fun b => V b) (fun w => hA c w)
    rw [prefHeld_of_none _ hK]
    iintro ⟨⟨Hh, HO⟩, -, -⟩
    ihave Hh := (Entails.of_eq (unscopedBufs_held c V).symm) $$ Hh
    ihave H := hs $$ Hh
    icases H with ⟨Ha, Hr⟩
    imodintro
    isplitl [Ha]; · iexact Ha
    isplitr; · iempintro
    isplitl [HO]
    · unfold RDat.owesAt owesWithin RDat.bound
      rw [howed c 0, hrec c]
      icases HO with ⟨%Wd, HO⟩; iexists Wd; isplitr; · ipureintro; exact fun _ _ => Or.inl trivial
      iexact HO
    isplitr; · iempintro
    iexact Hr
  hin c := by
    iintro ⟨-, -, H⟩
    iapply (hin c) $$ H
  hout c := by
    iintro H
    ihave H := (hout c) $$ H
    isplitr; · iempintro
    isplitr
    · rw [ownSems0_none]; iempintro
    iexact H
  hexit c := by
    have hl := held_left pcs a rdats kit.win kit.arr_whole c (hshare c) V
    iintro ⟨Ha, HO, -, Hr⟩
    imodintro
    isplitl [Ha Hr]
    · iapply hl; isplitl [Ha] <;> iassumption
    unfold RDat.owesAt owesWithin
    rw [howed c]
    icases HO with ⟨%Wd, -, HO⟩
    iexists Wd; iexact HO

end Region

section Launch

variable (pcs : P → PCfg sig Λ₀ Val) (a : (p : P) → (pcs p).Adm)
  (defs₀ : Defs nD τ sig Val Λ₀) (𝒱₀ : Variants)

/-- The ghost state of the copies: one for the launch, one dealt to the cores for their regions. -/
abbrev U2 (nD : Nat) (τ : Topo) (sig : RefSig) : Type := URounds (GSem nD τ sig) Unit × URounds (GSem nD τ sig) Unit

local notation "𝔹" => MT nD τ sig Unit Val ℕ (U2 nD τ sig) Unit

/-- The state between regions: the core's unscoped buffers at `V`, nothing owed. -/
def at_ (c : Dev nD) (V : Valuation τ sig Val) : sProp 𝔹 :=
  iprop(StableHlo.held (c.tc : Thread nD τ) (ucRefs τ sig) V ∗ ∃ W, owes (c : Thread nD τ) 0 W)

/-- A launch of a program on the TensorCores, given one account of the whole program on each core: from the unscoped buffers at
    what the memory holds and the regions' ghost state, to the unscoped buffers at SOME valuation with the property `QV c`. -/
theorem θ_run_open [DecidableEq P] [∀ e, Nonempty (Val e)] (phinj : Function.Injective (cellOf (nD := nD) (τ := τ) (pin pcs a)))
    (rdats : (p : P) → (c : Dev nD) → RDat τ Val Unit ℕ (U2 nD τ sig) Unit (pin pcs a p) c)
    (m : (ℓ : Loc nD τ sig) → Buf Val ℓ) (g : Dev nD → PrngReg)
    (main : Dev nD → Prog (TpuEff nD τ sig Val (Sig Λ₀ P fun p => (pcs p).Adm) .tc) PUnit)
    (V₀ : Dev nD → Valuation τ sig Val) (hV₀ : ∀ c (b : Ref sig .tc), V₀ c b = m ((c.tc : Thread nD τ).loc b))
    (QV : Dev nD → Valuation τ sig Val → Prop)
    (hrun : ∀ (c : Dev nD) {β : Type} (k : PUnit → Prog (TpuEff nD τ sig Val (Sig Λ₀ P fun p => (pcs p).Adm) .tc) β) (K : β → sProp 𝔹),
      iprop((iprop(boundary (c.tc : Thread nD τ) ∗ ∃ V, ⌜QV c V⌝ ∗ at_ c V)
            -∗ wp frame (wpE (Pipeline.defs pcs defs₀) (Variants.lift 𝒱₀) (c.tc : Thread nD τ) none) Set.univ (k ⟨⟩) K)
          ∗ boundary (c.tc : Thread nD τ) ∗ at_ c (V₀ c) ∗ ghostOn pcs a embR Finset.univ c ∗ levAts (fun _ => ∅) (fun _ _ => ()))
        ⊢ wp frame (wpE (Pipeline.defs pcs defs₀) (Variants.lift 𝒱₀) (c.tc : Thread nD τ) none) Set.univ (main c >>= k) K)
    {Q : PUnit × MemSt nD τ sig Val → Prop}
    (hQ : ∀ s : MemSt nD τ sig Val, (∀ c : Dev nD, ∃ V, QV c V ∧ ∀ b ∈ ucRefs τ sig, s.mem ((c.tc : Thread nD τ).1, b) = V b) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  let h : Dev nD → HostSeg (τ := τ) (Ix := Unit) (Name := ℕ) (U := U2 nD τ sig) (Lvl := Unit) pcs defs₀ 𝒱₀ (fun _ => ∅) (fun _ _ => ()) := fun c =>
    { prog := main c
      pre := fun c' => iprop(⌜c' = c⌝ ∗ at_ c' (V₀ c') ∗ ghostOn pcs a embR Finset.univ c')
      post := fun c' => iprop(∃ V, ⌜QV c' V⌝ ∗ at_ c' V)
      run := fun c' β k K => by
        iintro ⟨Hk, Hbd, ⟨%hc, Hh, Hg⟩, Hla⟩
        subst hc
        have hr := hrun c' k K
        iapply hr
        isplitl [Hk]; · iexact Hk
        isplitl [Hbd]; · iexact Hbd
        isplitl [Hh]; · iexact Hh
        isplitl [Hg]; · iexact Hg
        iexact Hla }
  refine RDat.θ_run_regions_kit_dev_sems pcs a rdats () phinj embL defs₀ 𝒱₀ (fun _ => ∅) (fun _ _ => ()) m g main
    (fun c => [RDat.Seg.host (h c)]) (fun c Q => ?_) (fun c => (List.nodup_nil : ([] : List P).Nodup)) (fun _ => 0) (fun _ _ => rfl) (fun c => ghostOn pcs a embR Finset.univ c)
    (initOf (cells (pin pcs a) phinj) (launchToks (pin pcs a) phinj), initOf (cells (pin pcs a) phinj) (launchToks (pin pcs a) phinj))
    ?_ (fun c => (h c).pre c) (fun c => iprop(∃ V, ⌜QV c V⌝ ∗ StableHlo.held (c.tc : Thread nD τ) (ucRefs τ sig) V))
    (fun c => ⟨.rfl, ?_⟩) ?_ (fun c s => ∃ V, QV c V ∧ ∀ b ∈ ucRefs τ sig, s.mem ((c.tc : Thread nD τ).1, b) = V b) (fun c s' => ?_) hQ
  · rw [show RDat.Seg.run [RDat.Seg.host (h c)] = (main c >>= fun _ => pure ⟨⟩) from rfl, bind_pure_unit]
  · iintro H
    ihave H := (ownU_pair _ _) $$ H
    icases H with ⟨H1, H2⟩
    have hf := fund_ghost (pin pcs a) (embR (nD := nD) (τ := τ) (sig := sig) (Ix := Unit) (Val := Val) (Name := ℕ) (A := URounds (GSem nD τ sig) Unit) (B := URounds (GSem nD τ sig) Unit) (Lvl := Unit)) phinj
    imod hf $$ H2 with H2
    imodintro
    isplitl [H1]; · iexact H1
    unfold ghostOn PerCore.ghostOn
    simp only [bigSep_sep']
    iexact H2
  · show iprop(∃ V, ⌜QV c V⌝ ∗ at_ c V) ⊢ _
    unfold at_
    iintro ⟨%V, %hV, Hh, HO⟩
    isplitl [Hh]
    · iexists V; isplitr; · ipureintro; exact hV
      iexact Hh
    iexact HO
  · have hs : (bigSep Finset.univ fun c : Dev nD => iprop(unscopedBufs c (fun b => m ((c.tc : Thread nD τ).loc b)) ∗ unscopedSems0 c
          ∗ owes (c.tc : Thread nD τ) 0 ∅ ∗ launchCred (fun _ => 0) c ∗ prngReg c (g c) ∗ ghostOn pcs a embR Finset.univ c))
        ⊢ (bigSep Finset.univ fun c : Dev nD => (h c).pre c : sProp 𝔹) := by
      refine bigSep_mono fun c _ => ?_
      have e : (unscopedBufs c (fun b => m ((c.tc : Thread nD τ).loc b)) : sProp 𝔹) = StableHlo.held (c.tc : Thread nD τ) (ucRefs τ sig) (V₀ c) := by
        rw [← unscopedBufs_held]; exact congrArg _ (funext fun b => (hV₀ c b).symm)
      rw [e]
      show _ ⊢ iprop(⌜c = c⌝ ∗ at_ c (V₀ c) ∗ ghostOn pcs a embR Finset.univ c)
      unfold at_
      iintro ⟨Hh, -, HO, -, -, Hg⟩
      isplitr; · ipureintro; rfl
      isplitl [Hh HO]
      · isplitl [Hh]; · iexact Hh
        iexists ∅; iexact HO
      iexact Hg
    iintro ⟨H, -⟩
    imodintro
    iapply hs $$ H
  · unfold StableHlo.held
    iintro ⟨⟨%V, %hV, Hh⟩, HSI⟩
    ihave Hr := (pointsTo_read_all (ucRefs τ sig) (fun b => ((c.tc : Thread nD τ).1, b)) V s') $$ [Hh HSI]
    · isplitl [Hh] <;> iassumption
    icases Hr with ⟨%h, HSI⟩
    imodintro
    isplitr
    · ipureintro; exact ⟨V, hV, h⟩
    · iexact HSI

end Launch
end Cert.Chain
end
-- ==== Proof.I.Dat0.lean ====
/- Proof data of the projection: what each point may leave in the windows it writes and in its scratch, and the body's obligation. -/
module

public import proofs.«01_k».proof.Proof.Gen.KernelIdeal.Launch
public import proofs.«01_k».proof.Proof.I.Body0
public import proofs.«01_k».proof.Proof.Chain

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F] [∀ e, Nonempty (Elt F e)]
variable {Name : Type} [DecidableEq Name] {U : Type} [URA U] {Lvl : Type} [Preorder Lvl]

local notation "𝕄" => MT nD τ sig Unit (Elt F) Name U Lvl

/-- The scratch at contents the invariant allows, and the other scoped buffers. -/
def inv0 (Inv : Vec F S1x128 .f32 → Vec F S1x1 .f32 → Prop) (c : Dev nD) : sProp 𝕄 :=
  iprop((∃ x9 x10, ⌜Inv x9 x10⌝ ∗ owns (c : Thread nD τ) (Memref.whole cc0_scratch0) fullShare x9 ∗ owns (c : Thread nD τ) (Memref.whole cc0_scratch1) fullShare x10)
    ∗ Pipeline.scopedRestBut spec0 c [cc0_scratch0, cc0_scratch1])

/-- The proof data: inputs stay as they are, a written window holds something that `P` allows, the scratch something that `Inv` allows. -/
def dat0 (V : Valuation τ sig (Elt F)) (P : (w : Fin cfg0.W) → Fin cfg0.N → ((cfg0.win w).block.Idx → Elt F (cfg0.win w).elt) → Prop)
    (Inv : ℕ → Vec F S1x128 .f32 → Vec F S1x1 .f32 → Prop) (c : Dev nD) : RDat τ (Elt F) Unit Name U Lvl cfg0 c where
  A w := V (Proc.devRef .tc (Pipeline.arrRef spec0 w))
  after w t Y X := if w.val < 3 then X = Y else P w t X
  Φ t := inv0 (Inv t.val) c
  q _ := fullShare
  owed _ := 0

/-- Each window's array is held whole. -/
theorem share0 (V : Valuation τ sig (Elt F)) (P : (w : Fin cfg0.W) → Fin cfg0.N → ((cfg0.win w).block.Idx → Elt F (cfg0.win w).elt) → Prop)
    (Inv : ℕ → Vec F S1x128 .f32 → Vec F S1x1 .f32 → Prop) (c : Dev nD) (w) : (dat0 (Name := Name) (U := U) (Lvl := Lvl) V P Inv c).share w = fullShare := by
  unfold RDat.share; split <;> rfl

/-- The body table's row at the point is the body. -/
theorem row0 (t : Fin cfg0.N) : defs₀ (F := F) .tc cfg0.body (cfg0.bodyArgs t (cfg0.slots t)) = bodyAt0 t := by
  unfold defs₀; rw [Defs.onTc_tc]

/-- One point keeps the invariant and leaves the written windows at what `P` allows. -/
def Step0 (V : Valuation τ sig (Elt F)) (P : (w : Fin cfg0.W) → Fin cfg0.N → ((cfg0.win w).block.Idx → Elt F (cfg0.win w).elt) → Prop)
    (Inv : ℕ → Vec F S1x128 .f32 → Vec F S1x1 .f32 → Prop) (c : Dev nD) : Prop :=
  ∀ (t : Fin cfg0.N) (x1 : Vec F S512x128 .f32) (x2 : Vec F S128x128 .f32) (x3 : Vec F S256x1 .f32) (x4 : Vec F S512x136 .bf16) (x5 : Vec F S512x1 .f32) (x6 : Vec F S1x512 .f32) (x7 : Vec F S1x1 .f32) (x8 : Vec F S1x128 .f32) (x9 : Vec F S1x128 .f32) (x10 : Vec F S1x1 .f32),
    (dat0 (Name := Name) (U := U) (Lvl := Lvl) V P Inv c).Finds 0 t x1 → (dat0 (Name := Name) (U := U) (Lvl := Lvl) V P Inv c).Finds 1 t x2 → (dat0 (Name := Name) (U := U) (Lvl := Lvl) V P Inv c).Finds 2 t x3 → (dat0 (Name := Name) (U := U) (Lvl := Lvl) V P Inv c).Finds 3 t x4 → (dat0 (Name := Name) (U := U) (Lvl := Lvl) V P Inv c).Finds 4 t x5 → (dat0 (Name := Name) (U := U) (Lvl := Lvl) V P Inv c).Finds 5 t x6 → (dat0 (Name := Name) (U := U) (Lvl := Lvl) V P Inv c).Finds 6 t x7 → (dat0 (Name := Name) (U := U) (Lvl := Lvl) V P Inv c).Finds 7 t x8
    → Inv t.val x9 x10 → Inv (t.val + 1) (sum0 (grid0.coords t) x1 x2 x9) (max0 (grid0.coords t) x1 x2 x3 x10)
      ∧ P 3 t (k0_pay7 (grid0.coords t) x1 x2) ∧ P 4 t (s1a0 (grid0.coords t) x1 x2 x3) ∧ P 5 t (s1b0 (grid0.coords t) x1 x2 x3) ∧ P 6 t (omax0 (grid0.coords t) x1 x2 x3 x7 x10) ∧ P 7 t (osum0 (grid0.coords t) x1 x2 x8 x9)

/-- The body's obligation. -/
theorem obl0 (V : Valuation τ sig (Elt F)) (P : (w : Fin cfg0.W) → Fin cfg0.N → ((cfg0.win w).block.Idx → Elt F (cfg0.win w).elt) → Prop)
    (Inv : ℕ → Vec F S1x128 .f32 → Vec F S1x1 .f32 → Prop) (c : Dev nD) (h : Step0 (Name := Name) (U := U) (Lvl := Lvl) V P Inv c) :
    (dat0 (Name := Name) (U := U) (Lvl := Lvl) V P Inv c).BodyObligation (defs₀ (F := F)) Variants.none () Set.univ := by
  intro t Y hY
  rw [bigSep_W0, bigSep_W0, row0]
  rw [show (dat0 (Name := Name) (U := U) (Lvl := Lvl) V P Inv c).Φ t.castSucc = inv0 (Inv t.val) c from rfl,
    show (dat0 (Name := Name) (U := U) (Lvl := Lvl) V P Inv c).Φ t.succ = inv0 (Inv (t.val + 1)) c from rfl,
    show (dat0 (Name := Name) (U := U) (Lvl := Lvl) V P Inv c).owesAt () t.succ = (dat0 (Name := Name) (U := U) (Lvl := Lvl) V P Inv c).owesAt () t.castSucc from rfl]
  unfold inv0
  iintro ⟨⟨⟨%x9, %x10, %hI, S9, S10⟩, HR⟩, HO, H0, H1, H2, H3, H4, H5, H6, H7⟩
  have hs := h t (Y 0) (Y 1) (Y 2) (Y 3) (Y 4) (Y 5) (Y 6) (Y 7) x9 x10 (hY 0) (hY 1) (hY 2) (hY 3) (hY 4) (hY 5) (hY 6) (hY 7) hI
  iapply (run0 c (grid0.coords t) _ _ _ _ _ _ _ _ _ _ _ _ _ _ _ _ _ _ _ _ (Y 0) (Y 1) (Y 2) (Y 3) (Y 4) (Y 5) (Y 6) (Y 7) x9 x10 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S9]; · iexact S9
  isplitl [S10]; · iexact S10
  iintro ⟨H0, H1, H2, H3, H4, H5, H6, H7, S9, S10⟩
  isplitl [S9 S10 HR]
  · isplitr [HR]; swap; · iexact HR
    iexists _, _; isplitr; · ipureintro; exact hs.1
    isplitl [S9]; · iexact S9
    iexact S10
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact hs.2.1
  isplitl [H4]
  · iexists _; isplitr; swap; · iexact H4
    ipureintro; exact hs.2.2.1
  isplitl [H5]
  · iexists _; isplitr; swap; · iexact H5
    ipureintro; exact hs.2.2.2.1
  isplitl [H6]
  · iexists _; isplitr; swap; · iexact H6
    ipureintro; exact hs.2.2.2.2.1
  · iexists _; isplitr; swap; · iexact H7
    ipureintro; exact hs.2.2.2.2.2

/-- Entering the call: its scratch at anything. -/
theorem in0 (Inv : ℕ → Vec F S1x128 .f32 → Vec F S1x1 .f32 → Prop) (c : Dev nD) (h : ∀ x9 x10, Inv 0 x9 x10) :
    (Pipeline.scopedRest spec0 c : sProp 𝕄) ⊢ inv0 (Inv 0) c := by
  rw [scopedRest0_split]; unfold inv0
  simp only [owns_whole]
  iintro ⟨⟨⟨%x9, S9⟩, ⟨%x10, S10⟩⟩, HR⟩
  isplitr [HR]; swap; · iexact HR
  iexists x9, x10; isplitr; · ipureintro; exact h _ _
  isplitl [S9]; · iexact S9
  iexact S10

/-- Leaving the call: its scratch at something. -/
theorem leave0 (I : Vec F S1x128 .f32 → Vec F S1x1 .f32 → Prop) (c : Dev nD) :
    inv0 I c ⊢ (Pipeline.scopedRest spec0 c : sProp 𝕄) := by
  rw [scopedRest0_split]; unfold inv0
  simp only [owns_whole]
  iintro ⟨⟨%x9, %x10, -, S9, S10⟩, HR⟩
  isplitr [HR]; swap; · iexact HR
  isplitl [S9]; · iexists _; iexact S9
  iexists _; iexact S10

end Cert.KernelIdeal.Hand
end
-- ==== Proof.I.Body1.lean ====
/- The kernel body of the first attention layer, run once at any contents of its buffers. -/
module

public import proofs.«01_k».proof.Proof.Gen.KernelIdeal.Points
public import proofs.«01_k».proof.Proof.Gen.KernelIdeal.Skeleton
public import Idealize.ShloMosaic.Lib.Pipeline.Frame
public import Idealize.ShloMosaic.Lib.Tactic
public import proofs.«01_k».proof.Proof.Full

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-- The point's first column of blocks. -/
def fst1 (i : grid1.Coords) : Prop := Scalar.cmpi .ne (Scalar.extui (Scalar.cmpi .eq (BitVec.ofNat 32 (i 1).val) 0#32) : BitVec 32) 0#32 = 1#1

/-- The point's first row of blocks. -/
def top1 (i : grid1.Coords) : Prop := Scalar.cmpi .ne (Scalar.extui (Scalar.cmpi .eq (BitVec.ofNat 32 (i 0).val) 0#32) : BitVec 32) 0#32 = 1#1

open Classical in
/-- The running weighted sum of the features, with the weights' own sum beside it, after the point. -/
def acc1 (i : grid1.Coords) (x2 : Vec F S512x1024 .f32) (x3 : Vec F S10240x136 .bf16) (x4 : Vec F S512x1 .f32) (x5 : Vec F S1x1024 .f32) (x6 : Vec F S1x1 .f32) (x20 : Vec F S512x136 .f32) : Vec F S512x136 .f32 :=
  k1_pay1 (k1_pay19 (View.ld x3 (Rect.unit (s := S10240x136) (k1_off1 i) S1024x136.size (k1_off1_inb i)))) (if fst1 i then k1_pay18 else x20)
    (k1_pay20 x4 x6 x4 x5 x2) (constant S512x136 .f32 0x00000000#32)

/-- The weights' sum held in an accumulator. -/
def den1 (x20 : Vec F S512x136 .f32) : Vec F S512x1 .f32 := View.ld x20 (Rect.unit (s := S512x136) ![0, 128] S512x1.size inb_S512x136_S512x1_0_128)

/-- The weighted sum held in an accumulator. -/
def num1 (x20 : Vec F S512x136 .f32) : Vec F S512x128 .f32 := View.ld x20 (Rect.unit (s := S512x136) ![0, 0] S512x128.size inb_S512x136_S512x128_0_0)

/-- The layer's result on a block of rows, from the finished accumulator. -/
def hid1 (i : grid1.Coords) (x7 : Vec F S1x128 .f32) (x20 : Vec F S512x136 .f32) : FVec F S512x128 .f32 := k1_pay8 (BitVec.ofNat 32 (i 0).val) (den1 x20) (num1 x20) x7

/-- Its stored form. -/
def res1 (i : grid1.Coords) (x7 : Vec F S1x128 .f32) (x20 : Vec F S512x136 .f32) : Vec F S512x128 .bf16 := k1_pay9 (BitVec.ofNat 32 (i 0).val) (den1 x20) (num1 x20) x7

/-- The norms of its rows. -/
def nrm1 (i : grid1.Coords) (x7 : Vec F S1x128 .f32) (x20 : Vec F S512x136 .f32) : FVec F S512x1 .f32 := k1_pay10 (BitVec.ofNat 32 (i 0).val) (den1 x20) (num1 x20) x7

/-- Its scaled product with the tree weight. -/
def xwt1 (i : grid1.Coords) (x7 : Vec F S1x128 .f32) (x8 : Vec F S128x128 .f32) (x20 : Vec F S512x136 .f32) : FVec F S512x128 .f32 := k1_pay11 (BitVec.ofNat 32 (i 0).val) (den1 x20) (num1 x20) x7 x8

/-- The second layer's scaled projections on the own half of its attention vector. -/
def s2a1 (i : grid1.Coords) (x7 : Vec F S1x128 .f32) (x9 : Vec F S128x16 .f32) (x10 : Vec F S32x1 .f32) (x20 : Vec F S512x136 .f32) : Vec F S512x1 .f32 :=
  k1_pay16 (hid1 i x7 x20) x9 (View.ld x10 (Rect.unit (s := S32x1) ![0, 0] S16x1.size inb_S32x1_S16x1_0_0))

/-- The second layer's scaled projections on the neighbour half of its attention vector, masked. -/
def s2b1 (i : grid1.Coords) (x7 : Vec F S1x128 .f32) (x9 : Vec F S128x16 .f32) (x10 : Vec F S32x1 .f32) (x20 : Vec F S512x136 .f32) : Vec F S1x512 .f32 :=
  k1_pay17 (BitVec.ofNat 32 (i 0).val) (hid1 i x7 x20) x9 (View.ld x10 (Rect.unit (s := S32x1) ![16, 0] S16x1.size inb_S32x1_S16x1_16_0))

open Classical in
/-- The running column sum after a row of blocks. -/
def wsum1 (i : grid1.Coords) (x7 : Vec F S1x128 .f32) (x9 : Vec F S128x16 .f32) (x20 : Vec F S512x136 .f32) (x21 : Vec F S1x16 .f32) : Vec F S1x16 .f32 := k1_pay5 (k1_pay14 (hid1 i x7 x20) x9) (if top1 i then k1_pay2 else x21)

open Classical in
/-- The running maximum of the norms after a row of blocks. -/
def gmax1 (i : grid1.Coords) (x7 : Vec F S1x128 .f32) (x20 : Vec F S512x136 .f32) (x22 : Vec F S1x1 .f32) : Vec F S1x1 .f32 := k1_pay6 (nrm1 i x7 x20) (if top1 i then k1_pay3 else x22)

open Classical in
/-- The running maximum of the second layer's neighbour projections after a row of blocks. -/
def smax1 (i : grid1.Coords) (x7 : Vec F S1x128 .f32) (x9 : Vec F S128x16 .f32) (x10 : Vec F S32x1 .f32) (x20 : Vec F S512x136 .f32) (x23 : Vec F S1x1 .f32) : Vec F S1x1 .f32 := k1_pay7 (s2b1 i x7 x9 x10 x20) (if top1 i then k1_pay4 else x23)

open Classical in
/-- The second value at a point in the last column of blocks, else the first. -/
def fin1 {α : Type} (i : grid1.Coords) (x y : α) : α := if k1_cond2 i = 1#1 then y else x

open Classical in
/-- The second value at a point in the last column of the last row of blocks, else the first. -/
def last1 {α : Type} (i : grid1.Coords) (x y : α) : α := if k1_cond2 i = 1#1 then (if k1_cond4 i = 1#1 then y else x) else x

set_option maxHeartbeats 4000000 in
/-- The body, from any contents of its windows and scratch: every buffer it writes at the functions above, every other one as it
    was. -/
theorem run1 [∀ e, Nonempty (Elt F e)] (c : Dev nD) (i : grid1.Coords) (arg2 : Memref sig .tc .vmem S512x1024 .f32) (harg2 : arg2.IsWhole) (arg3 : Memref sig .tc .vmem S10240x136 .bf16) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S128x16 .f32) (harg9 : arg9.IsWhole) (arg10 : Memref sig .tc .vmem S32x1 .f32) (harg10 : arg10.IsWhole) (arg11 : Memref sig .tc .vmem S512x128 .bf16) (harg11 : arg11.IsWhole) (arg12 : Memref sig .tc .vmem S512x128 .bf16) (harg12 : arg12.IsWhole) (arg13 : Memref sig .tc .vmem S512x16 .bf16) (harg13 : arg13.IsWhole) (arg14 : Memref sig .tc .vmem S512x1 .f32) (harg14 : arg14.IsWhole) (arg15 : Memref sig .tc .vmem S1x512 .f32) (harg15 : arg15.IsWhole) (arg16 : Memref sig .tc .vmem S512x1 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x16 .f32) (harg19 : arg19.IsWhole) (arg20 : Memref sig .tc .vmem S512x136 .f32) (harg20 : arg20.IsWhole) (arg21 : Memref sig .tc .vmem S1x16 .f32) (harg21 : arg21.IsWhole) (arg22 : Memref sig .tc .vmem S1x1 .f32) (harg22 : arg22.IsWhole) (arg23 : Memref sig .tc .vmem S1x1 .f32) (harg23 : arg23.IsWhole)
    (x2 : Vec F S512x1024 .f32) (x3 : Vec F S10240x136 .bf16) (x4 : Vec F S512x1 .f32) (x5 : Vec F S1x1024 .f32) (x6 : Vec F S1x1 .f32) (x7 : Vec F S1x128 .f32) (x8 : Vec F S128x128 .f32) (x9 : Vec F S128x16 .f32) (x10 : Vec F S32x1 .f32) (x11 : Vec F S512x128 .bf16) (x12 : Vec F S512x128 .bf16) (x13 : Vec F S512x16 .bf16) (x14 : Vec F S512x1 .f32) (x15 : Vec F S1x512 .f32) (x16 : Vec F S512x1 .f32) (x17 : Vec F S1x1 .f32) (x18 : Vec F S1x1 .f32) (x19 : Vec F S1x16 .f32) (x20 : Vec F S512x136 .f32) (x21 : Vec F S1x16 .f32) (x22 : Vec F S1x1 .f32) (x23 : Vec F S1x1 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (fin1 i x11 (res1 i x7 (acc1 i x2 x3 x4 x5 x6 x20))) ∗ owns (c : Thread nD τ) arg12 fullShare (fin1 i x12 (k1_pay12 (xwt1 i x7 x8 (acc1 i x2 x3 x4 x5 x6 x20)))) ∗ owns (c : Thread nD τ) arg13 fullShare (fin1 i x13 (k1_pay15 (hid1 i x7 (acc1 i x2 x3 x4 x5 x6 x20)) x9)) ∗ owns (c : Thread nD τ) arg14 fullShare (fin1 i x14 (s2a1 i x7 x9 x10 (acc1 i x2 x3 x4 x5 x6 x20))) ∗ owns (c : Thread nD τ) arg15 fullShare (fin1 i x15 (s2b1 i x7 x9 x10 (acc1 i x2 x3 x4 x5 x6 x20))) ∗ owns (c : Thread nD τ) arg16 fullShare (fin1 i x16 (k1_pay13 (xwt1 i x7 x8 (acc1 i x2 x3 x4 x5 x6 x20)))) ∗ owns (c : Thread nD τ) arg17 fullShare (last1 i x17 (gmax1 i x7 (acc1 i x2 x3 x4 x5 x6 x20) x22)) ∗ owns (c : Thread nD τ) arg18 fullShare (last1 i x18 (smax1 i x7 x9 x10 (acc1 i x2 x3 x4 x5 x6 x20) x23)) ∗ owns (c : Thread nD τ) arg19 fullShare (last1 i x19 (wsum1 i x7 x9 (acc1 i x2 x3 x4 x5 x6 x20) x21)) ∗ owns (c : Thread nD τ) arg20 fullShare (acc1 i x2 x3 x4 x5 x6 x20) ∗ owns (c : Thread nD τ) arg21 fullShare (fin1 i x21 (wsum1 i x7 x9 (acc1 i x2 x3 x4 x5 x6 x20) x21)) ∗ owns (c : Thread nD τ) arg22 fullShare (fin1 i x22 (gmax1 i x7 (acc1 i x2 x3 x4 x5 x6 x20) x22)) ∗ owns (c : Thread nD τ) arg23 fullShare (fin1 i x23 (smax1 i x7 x9 x10 (acc1 i x2 x3 x4 x5 x6 x20) x23))) -∗ K ⟨⟩))
      ⊢ wp frame (wpE (defs₀ (F := F)) Variants.none c none) Set.univ
          (cc1__l1_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  classical
  simp only [cc1__l1_kernel_eq_skeleton]; unfold cc1__l1_kernel_skel
  simp only [k1_part1_eq_skeleton, k1_part2_eq_skeleton, k1_part3_eq_skeleton]; unfold k1_part1_skel k1_part2_skel k1_part3_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, Hk⟩
  subst e2 e3 e4 e5 e6 e7 e8 e9 e10 e11 e12 e13 e14 e15 e16 e17 e18 e19 e20 e21 e22 e23
  by_cases h1 : fst1 i <;> by_cases h2 : k1_cond2 i = 1#1 <;> by_cases h3 : top1 i <;> by_cases h4 : k1_cond4 i = 1#1
  all_goals have h1' := h1
  all_goals unfold fst1 at h1
  all_goals have h3' := h3
  all_goals unfold top1 at h3
  all_goals
    sl_exec
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists _; isplitr; swap; · iexact H11
      ipureintro; sl_unfold_run_names; simp only [acc1, den1, num1, hid1, res1, nrm1, xwt1, s2a1, s2b1, wsum1, gmax1, smax1, fin1, last1, h1', h2, h3', h4, eq_self, if_true, if_false, View.readAt_eq_ld, Cert.Full.ld2, Cert.Full.readCov_ld, Cert.Full.read_writes2]
    isplitl [H12]
    · iexists _; isplitr; swap; · iexact H12
      ipureintro; sl_unfold_run_names; simp only [acc1, den1, num1, hid1, res1, nrm1, xwt1, s2a1, s2b1, wsum1, gmax1, smax1, fin1, last1, h1', h2, h3', h4, eq_self, if_true, if_false, View.readAt_eq_ld, Cert.Full.ld2, Cert.Full.readCov_ld, Cert.Full.read_writes2]
    isplitl [H13]
    · iexists _; isplitr; swap; · iexact H13
      ipureintro; sl_unfold_run_names; simp only [acc1, den1, num1, hid1, res1, nrm1, xwt1, s2a1, s2b1, wsum1, gmax1, smax1, fin1, last1, h1', h2, h3', h4, eq_self, if_true, if_false, View.readAt_eq_ld, Cert.Full.ld2, Cert.Full.readCov_ld, Cert.Full.read_writes2]
    isplitl [H14]
    · iexists _; isplitr; swap; · iexact H14
      ipureintro; sl_unfold_run_names; simp only [acc1, den1, num1, hid1, res1, nrm1, xwt1, s2a1, s2b1, wsum1, gmax1, smax1, fin1, last1, h1', h2, h3', h4, eq_self, if_true, if_false, View.readAt_eq_ld, Cert.Full.ld2, Cert.Full.readCov_ld, Cert.Full.read_writes2]
    isplitl [H15]
    · iexists _; isplitr; swap; · iexact H15
      ipureintro; sl_unfold_run_names; simp only [acc1, den1, num1, hid1, res1, nrm1, xwt1, s2a1, s2b1, wsum1, gmax1, smax1, fin1, last1, h1', h2, h3', h4, eq_self, if_true, if_false, View.readAt_eq_ld, Cert.Full.ld2, Cert.Full.readCov_ld, Cert.Full.read_writes2]
    isplitl [H16]
    · iexists _; isplitr; swap; · iexact H16
      ipureintro; sl_unfold_run_names; simp only [acc1, den1, num1, hid1, res1, nrm1, xwt1, s2a1, s2b1, wsum1, gmax1, smax1, fin1, last1, h1', h2, h3', h4, eq_self, if_true, if_false, View.readAt_eq_ld, Cert.Full.ld2, Cert.Full.readCov_ld, Cert.Full.read_writes2]
    isplitl [H17]
    · iexists _; isplitr; swap; · iexact H17
      ipureintro; sl_unfold_run_names; simp only [acc1, den1, num1, hid1, res1, nrm1, xwt1, s2a1, s2b1, wsum1, gmax1, smax1, fin1, last1, h1', h2, h3', h4, eq_self, if_true, if_false, View.readAt_eq_ld, Cert.Full.ld2, Cert.Full.readCov_ld, Cert.Full.read_writes2]
    isplitl [H18]
    · iexists _; isplitr; swap; · iexact H18
      ipureintro; sl_unfold_run_names; simp only [acc1, den1, num1, hid1, res1, nrm1, xwt1, s2a1, s2b1, wsum1, gmax1, smax1, fin1, last1, h1', h2, h3', h4, eq_self, if_true, if_false, View.readAt_eq_ld, Cert.Full.ld2, Cert.Full.readCov_ld, Cert.Full.read_writes2]
    isplitl [H19]
    · iexists _; isplitr; swap; · iexact H19
      ipureintro; sl_unfold_run_names; simp only [acc1, den1, num1, hid1, res1, nrm1, xwt1, s2a1, s2b1, wsum1, gmax1, smax1, fin1, last1, h1', h2, h3', h4, eq_self, if_true, if_false, View.readAt_eq_ld, Cert.Full.ld2, Cert.Full.readCov_ld, Cert.Full.read_writes2]
    isplitl [H20]
    · iexists _; isplitr; swap; · iexact H20
      ipureintro; sl_unfold_run_names; simp only [acc1, den1, num1, hid1, res1, nrm1, xwt1, s2a1, s2b1, wsum1, gmax1, smax1, fin1, last1, h1', h2, h3', h4, eq_self, if_true, if_false, View.readAt_eq_ld, Cert.Full.ld2, Cert.Full.readCov_ld, Cert.Full.read_writes2]
    isplitl [H21]
    · iexists _; isplitr; swap; · iexact H21
      ipureintro; sl_unfold_run_names; simp only [acc1, den1, num1, hid1, res1, nrm1, xwt1, s2a1, s2b1, wsum1, gmax1, smax1, fin1, last1, h1', h2, h3', h4, eq_self, if_true, if_false, View.readAt_eq_ld, Cert.Full.ld2, Cert.Full.readCov_ld, Cert.Full.read_writes2]
    isplitl [H22]
    · iexists _; isplitr; swap; · iexact H22
      ipureintro; sl_unfold_run_names; simp only [acc1, den1, num1, hid1, res1, nrm1, xwt1, s2a1, s2b1, wsum1, gmax1, smax1, fin1, last1, h1', h2, h3', h4, eq_self, if_true, if_false, View.readAt_eq_ld, Cert.Full.ld2, Cert.Full.readCov_ld, Cert.Full.read_writes2]
    · iexists _; isplitr; swap; · iexact H23
      ipureintro; sl_unfold_run_names; simp only [acc1, den1, num1, hid1, res1, nrm1, xwt1, s2a1, s2b1, wsum1, gmax1, smax1, fin1, last1, h1', h2, h3', h4, eq_self, if_true, if_false, View.readAt_eq_ld, Cert.Full.ld2, Cert.Full.readCov_ld, Cert.Full.read_writes2]

end Cert.KernelIdeal.Hand
end
-- ==== Proof.I.Dat1.lean ====
/- Proof data of the first attention layer: what each point may leave in the windows it writes and in its scratch, and the body's obligation. -/
module

public import proofs.«01_k».proof.Proof.Gen.KernelIdeal.Launch
public import proofs.«01_k».proof.Proof.I.Body1
public import proofs.«01_k».proof.Proof.Chain

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F] [∀ e, Nonempty (Elt F e)]
variable {Name : Type} [DecidableEq Name] {U : Type} [URA U] {Lvl : Type} [Preorder Lvl]

local notation "𝕄" => MT nD τ sig Unit (Elt F) Name U Lvl

/-- The scratch at contents the invariant allows, and the other scoped buffers. -/
def inv1 (Inv : Vec F S512x136 .f32 → Vec F S1x16 .f32 → Vec F S1x1 .f32 → Vec F S1x1 .f32 → Prop) (c : Dev nD) : sProp 𝕄 :=
  iprop((∃ x20 x21 x22 x23, ⌜Inv x20 x21 x22 x23⌝ ∗ owns (c : Thread nD τ) (Memref.whole cc1_scratch0) fullShare x20 ∗ owns (c : Thread nD τ) (Memref.whole cc1_scratch1) fullShare x21 ∗ owns (c : Thread nD τ) (Memref.whole cc1_scratch2) fullShare x22 ∗ owns (c : Thread nD τ) (Memref.whole cc1_scratch3) fullShare x23)
    ∗ Pipeline.scopedRestBut spec1 c [cc1_scratch0, cc1_scratch1, cc1_scratch2, cc1_scratch3])

/-- The proof data: inputs stay as they are, a written window holds something that `P` allows, the scratch something that `Inv` allows. -/
def dat1 (V : Valuation τ sig (Elt F)) (P : (w : Fin cfg1.W) → Fin cfg1.N → ((cfg1.win w).block.Idx → Elt F (cfg1.win w).elt) → Prop)
    (Inv : ℕ → Vec F S512x136 .f32 → Vec F S1x16 .f32 → Vec F S1x1 .f32 → Vec F S1x1 .f32 → Prop) (c : Dev nD) : RDat τ (Elt F) Unit Name U Lvl cfg1 c where
  A w := V (Proc.devRef .tc (Pipeline.arrRef spec1 w))
  after w t Y X := if w.val < 9 then X = Y else P w t X
  Φ t := inv1 (Inv t.val) c
  q _ := fullShare
  owed _ := 0

/-- Each window's array is held whole. -/
theorem share1 (V : Valuation τ sig (Elt F)) (P : (w : Fin cfg1.W) → Fin cfg1.N → ((cfg1.win w).block.Idx → Elt F (cfg1.win w).elt) → Prop)
    (Inv : ℕ → Vec F S512x136 .f32 → Vec F S1x16 .f32 → Vec F S1x1 .f32 → Vec F S1x1 .f32 → Prop) (c : Dev nD) (w) : (dat1 (Name := Name) (U := U) (Lvl := Lvl) V P Inv c).share w = fullShare := by
  unfold RDat.share; split <;> rfl

/-- The body table's row at the point is the body. -/
theorem row1 (t : Fin cfg1.N) : defs₀ (F := F) .tc cfg1.body (cfg1.bodyArgs t (cfg1.slots t)) = bodyAt1 t := by
  unfold defs₀; rw [Defs.onTc_tc]

/-- One point keeps the invariant and leaves the written windows at what `P` allows. -/
def Step1 (V : Valuation τ sig (Elt F)) (P : (w : Fin cfg1.W) → Fin cfg1.N → ((cfg1.win w).block.Idx → Elt F (cfg1.win w).elt) → Prop)
    (Inv : ℕ → Vec F S512x136 .f32 → Vec F S1x16 .f32 → Vec F S1x1 .f32 → Vec F S1x1 .f32 → Prop) (c : Dev nD) : Prop :=
  ∀ (t : Fin cfg1.N) (x2 : Vec F S512x1024 .f32) (x3 : Vec F S10240x136 .bf16) (x4 : Vec F S512x1 .f32) (x5 : Vec F S1x1024 .f32) (x6 : Vec F S1x1 .f32) (x7 : Vec F S1x128 .f32) (x8 : Vec F S128x128 .f32) (x9 : Vec F S128x16 .f32) (x10 : Vec F S32x1 .f32) (x11 : Vec F S512x128 .bf16) (x12 : Vec F S512x128 .bf16) (x13 : Vec F S512x16 .bf16) (x14 : Vec F S512x1 .f32) (x15 : Vec F S1x512 .f32) (x16 : Vec F S512x1 .f32) (x17 : Vec F S1x1 .f32) (x18 : Vec F S1x1 .f32) (x19 : Vec F S1x16 .f32) (x20 : Vec F S512x136 .f32) (x21 : Vec F S1x16 .f32) (x22 : Vec F S1x1 .f32) (x23 : Vec F S1x1 .f32),
    (dat1 (Name := Name) (U := U) (Lvl := Lvl) V P Inv c).Finds 0 t x2 → (dat1 (Name := Name) (U := U) (Lvl := Lvl) V P Inv c).Finds 1 t x3 → (dat1 (Name := Name) (U := U) (Lvl := Lvl) V P Inv c).Finds 2 t x4 → (dat1 (Name := Name) (U := U) (Lvl := Lvl) V P Inv c).Finds 3 t x5 → (dat1 (Name := Name) (U := U) (Lvl := Lvl) V P Inv c).Finds 4 t x6 → (dat1 (Name := Name) (U := U) (Lvl := Lvl) V P Inv c).Finds 5 t x7 → (dat1 (Name := Name) (U := U) (Lvl := Lvl) V P Inv c).Finds 6 t x8 → (dat1 (Name := Name) (U := U) (Lvl := Lvl) V P Inv c).Finds 7 t x9 → (dat1 (Name := Name) (U := U) (Lvl := Lvl) V P Inv c).Finds 8 t x10 → (dat1 (Name := Name) (U := U) (Lvl := Lvl) V P Inv c).Finds 9 t x11 → (dat1 (Name := Name) (U := U) (Lvl := Lvl) V P Inv c).Finds 10 t x12 → (dat1 (Name := Name) (U := U) (Lvl := Lvl) V P Inv c).Finds 11 t x13 → (dat1 (Name := Name) (U := U) (Lvl := Lvl) V P Inv c).Finds 12 t x14 → (dat1 (Name := Name) (U := U) (Lvl := Lvl) V P Inv c).Finds 13 t x15 → (dat1 (Name := Name) (U := U) (Lvl := Lvl) V P Inv c).Finds 14 t x16 → (dat1 (Name := Name) (U := U) (Lvl := Lvl) V P Inv c).Finds 15 t x17 → (dat1 (Name := Name) (U := U) (Lvl := Lvl) V P Inv c).Finds 16 t x18 → (dat1 (Name := Name) (U := U) (Lvl := Lvl) V P Inv c).Finds 17 t x19
    → Inv t.val x20 x21 x22 x23 → Inv (t.val + 1) (acc1 (grid1.coords t) x2 x3 x4 x5 x6 x20) (fin1 (grid1.coords t) x21 (wsum1 (grid1.coords t) x7 x9 (acc1 (grid1.coords t) x2 x3 x4 x5 x6 x20) x21)) (fin1 (grid1.coords t) x22 (gmax1 (grid1.coords t) x7 (acc1 (grid1.coords t) x2 x3 x4 x5 x6 x20) x22)) (fin1 (grid1.coords t) x23 (smax1 (grid1.coords t) x7 x9 x10 (acc1 (grid1.coords t) x2 x3 x4 x5 x6 x20) x23))
      ∧ P 9 t (fin1 (grid1.coords t) x11 (res1 (grid1.coords t) x7 (acc1 (grid1.coords t) x2 x3 x4 x5 x6 x20))) ∧ P 10 t (fin1 (grid1.coords t) x12 (k1_pay12 (xwt1 (grid1.coords t) x7 x8 (acc1 (grid1.coords t) x2 x3 x4 x5 x6 x20)))) ∧ P 11 t (fin1 (grid1.coords t) x13 (k1_pay15 (hid1 (grid1.coords t) x7 (acc1 (grid1.coords t) x2 x3 x4 x5 x6 x20)) x9)) ∧ P 12 t (fin1 (grid1.coords t) x14 (s2a1 (grid1.coords t) x7 x9 x10 (acc1 (grid1.coords t) x2 x3 x4 x5 x6 x20))) ∧ P 13 t (fin1 (grid1.coords t) x15 (s2b1 (grid1.coords t) x7 x9 x10 (acc1 (grid1.coords t) x2 x3 x4 x5 x6 x20))) ∧ P 14 t (fin1 (grid1.coords t) x16 (k1_pay13 (xwt1 (grid1.coords t) x7 x8 (acc1 (grid1.coords t) x2 x3 x4 x5 x6 x20)))) ∧ P 15 t (last1 (grid1.coords t) x17 (gmax1 (grid1.coords t) x7 (acc1 (grid1.coords t) x2 x3 x4 x5 x6 x20) x22)) ∧ P 16 t (last1 (grid1.coords t) x18 (smax1 (grid1.coords t) x7 x9 x10 (acc1 (grid1.coords t) x2 x3 x4 x5 x6 x20) x23)) ∧ P 17 t (last1 (grid1.coords t) x19 (wsum1 (grid1.coords t) x7 x9 (acc1 (grid1.coords t) x2 x3 x4 x5 x6 x20) x21))

/-- The body's obligation. -/
theorem obl1 (V : Valuation τ sig (Elt F)) (P : (w : Fin cfg1.W) → Fin cfg1.N → ((cfg1.win w).block.Idx → Elt F (cfg1.win w).elt) → Prop)
    (Inv : ℕ → Vec F S512x136 .f32 → Vec F S1x16 .f32 → Vec F S1x1 .f32 → Vec F S1x1 .f32 → Prop) (c : Dev nD) (h : Step1 (Name := Name) (U := U) (Lvl := Lvl) V P Inv c) :
    (dat1 (Name := Name) (U := U) (Lvl := Lvl) V P Inv c).BodyObligation (defs₀ (F := F)) Variants.none () Set.univ := by
  intro t Y hY
  rw [bigSep_W1, bigSep_W1, row1]
  rw [show (dat1 (Name := Name) (U := U) (Lvl := Lvl) V P Inv c).Φ t.castSucc = inv1 (Inv t.val) c from rfl,
    show (dat1 (Name := Name) (U := U) (Lvl := Lvl) V P Inv c).Φ t.succ = inv1 (Inv (t.val + 1)) c from rfl,
    show (dat1 (Name := Name) (U := U) (Lvl := Lvl) V P Inv c).owesAt () t.succ = (dat1 (Name := Name) (U := U) (Lvl := Lvl) V P Inv c).owesAt () t.castSucc from rfl]
  unfold inv1
  iintro ⟨⟨⟨%x20, %x21, %x22, %x23, %hI, S20, S21, S22, S23⟩, HR⟩, HO, H0, H1, H2, H3, H4, H5, H6, H7, H8, H9, H10, H11, H12, H13, H14, H15, H16, H17⟩
  have hs := h t (Y 0) (Y 1) (Y 2) (Y 3) (Y 4) (Y 5) (Y 6) (Y 7) (Y 8) (Y 9) (Y 10) (Y 11) (Y 12) (Y 13) (Y 14) (Y 15) (Y 16) (Y 17) x20 x21 x22 x23 (hY 0) (hY 1) (hY 2) (hY 3) (hY 4) (hY 5) (hY 6) (hY 7) (hY 8) (hY 9) (hY 10) (hY 11) (hY 12) (hY 13) (hY 14) (hY 15) (hY 16) (hY 17) hI
  iapply (run1 c (grid1.coords t) _ _ _ _ _ _ _ _ _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) (Y 15) (Y 16) (Y 17) x20 x21 x22 x23 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [S20]; · iexact S20
  isplitl [S21]; · iexact S21
  isplitl [S22]; · iexact S22
  isplitl [S23]; · iexact S23
  iintro ⟨H0, H1, H2, H3, H4, H5, H6, H7, H8, H9, H10, H11, H12, H13, H14, H15, H16, H17, S20, S21, S22, S23⟩
  isplitl [S20 S21 S22 S23 HR]
  · isplitr [HR]; swap; · iexact HR
    iexists _, _, _, _; isplitr; · ipureintro; exact hs.1
    isplitl [S20]; · iexact S20
    isplitl [S21]; · iexact S21
    isplitl [S22]; · iexact S22
    iexact S23
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact hs.2.1
  isplitl [H10]
  · iexists _; isplitr; swap; · iexact H10
    ipureintro; exact hs.2.2.1
  isplitl [H11]
  · iexists _; isplitr; swap; · iexact H11
    ipureintro; exact hs.2.2.2.1
  isplitl [H12]
  · iexists _; isplitr; swap; · iexact H12
    ipureintro; exact hs.2.2.2.2.1
  isplitl [H13]
  · iexists _; isplitr; swap; · iexact H13
    ipureintro; exact hs.2.2.2.2.2.1
  isplitl [H14]
  · iexists _; isplitr; swap; · iexact H14
    ipureintro; exact hs.2.2.2.2.2.2.1
  isplitl [H15]
  · iexists _; isplitr; swap; · iexact H15
    ipureintro; exact hs.2.2.2.2.2.2.2.1
  isplitl [H16]
  · iexists _; isplitr; swap; · iexact H16
    ipureintro; exact hs.2.2.2.2.2.2.2.2.1
  · iexists _; isplitr; swap; · iexact H17
    ipureintro; exact hs.2.2.2.2.2.2.2.2.2

/-- Entering the call: its scratch at anything. -/
theorem in1 (Inv : ℕ → Vec F S512x136 .f32 → Vec F S1x16 .f32 → Vec F S1x1 .f32 → Vec F S1x1 .f32 → Prop) (c : Dev nD) (h : ∀ x20 x21 x22 x23, Inv 0 x20 x21 x22 x23) :
    (Pipeline.scopedRest spec1 c : sProp 𝕄) ⊢ inv1 (Inv 0) c := by
  rw [scopedRest1_split]; unfold inv1
  simp only [owns_whole]
  iintro ⟨⟨⟨%x20, S20⟩, ⟨%x21, S21⟩, ⟨%x22, S22⟩, ⟨%x23, S23⟩⟩, HR⟩
  isplitr [HR]; swap; · iexact HR
  iexists x20, x21, x22, x23; isplitr; · ipureintro; exact h _ _ _ _
  isplitl [S20]; · iexact S20
  isplitl [S21]; · iexact S21
  isplitl [S22]; · iexact S22
  iexact S23

/-- Leaving the call: its scratch at something. -/
theorem leave1 (I : Vec F S512x136 .f32 → Vec F S1x16 .f32 → Vec F S1x1 .f32 → Vec F S1x1 .f32 → Prop) (c : Dev nD) :
    inv1 I c ⊢ (Pipeline.scopedRest spec1 c : sProp 𝕄) := by
  rw [scopedRest1_split]; unfold inv1
  simp only [owns_whole]
  iintro ⟨⟨%x20, %x21, %x22, %x23, -, S20, S21, S22, S23⟩, HR⟩
  isplitr [HR]; swap; · iexact HR
  isplitl [S20]; · iexists _; iexact S20
  isplitl [S21]; · iexists _; iexact S21
  isplitl [S22]; · iexists _; iexact S22
  iexists _; iexact S23

end Cert.KernelIdeal.Hand
end
-- ==== Proof.I.Body2.lean ====
/- The kernel body of the second attention layer, run once at any contents of its buffers. -/
module

public import proofs.«01_k».proof.Proof.Gen.KernelIdeal.Points
public import proofs.«01_k».proof.Proof.Gen.KernelIdeal.Skeleton
public import Idealize.ShloMosaic.Lib.Pipeline.Frame
public import Idealize.ShloMosaic.Lib.Tactic
public import proofs.«01_k».proof.Proof.Full

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable {Ix : Type} [DecidableEq Ix] {Name : Type} [DecidableEq Name] {U : Type} [URA U] {Lvl : Type} [Preorder Lvl]

local notation "𝕄" => MT nD τ sig Ix (Elt F) Name U Lvl

/-- The point's first column of blocks. -/
def fst2 (i : grid2.Coords) : Prop := Scalar.cmpi .ne (Scalar.extui (Scalar.cmpi .eq (BitVec.ofNat 32 (i 1).val) 0#32) : BitVec 32) 0#32 = 1#1

open Classical in
/-- The running sum of the tree attention's weights after the point. -/
def lt2 (i : grid2.Coords) (x2 : Vec F S512x1024 .f32) (x3 : Vec F S10240x128 .bf16) (x4 : Vec F S512x128 .bf16) (x8 : Vec F S512x1 .f32) (x9 : Vec F S1x1 .f32) (x12 : Vec F S1x1024 .f32) (x15 : Vec F S512x1 .f32) : Vec F S512x1 .f32 :=
  k2_pay12 (k2_pay6 x8 x9) (k2_pay8 x2) (k2_pay9 (View.ld x3 (Rect.unit (s := S10240x128) (k2_off1 i) S1024x128.size (k2_off1_inb i))) x4) x12
    (if fst2 i then k2_pay4 else x15)

open Classical in
/-- The running sum of the edge attention's weights after the point. -/
def le2 (i : grid2.Coords) (x2 : Vec F S512x1024 .f32) (x6 : Vec F S512x1 .f32) (x7 : Vec F S1x1024 .f32) (x10 : Vec F S1x1 .f32) (x16 : Vec F S512x1 .f32) : Vec F S512x1 .f32 :=
  k2_pay13 (k2_pay7 x6 x10) (k2_pay8 x2) x6 x7 (if fst2 i then k2_pay5 else x16)

open Classical in
/-- The running weighted sum of the features after the point. -/
def acc2 (i : grid2.Coords) (x2 : Vec F S512x1024 .f32) (x3 : Vec F S10240x128 .bf16) (x4 : Vec F S512x128 .bf16) (x5 : Vec F S10240x16 .bf16) (x6 : Vec F S512x1 .f32) (x7 : Vec F S1x1024 .f32) (x8 : Vec F S512x1 .f32) (x9 : Vec F S1x1 .f32) (x10 : Vec F S1x1 .f32) (x12 : Vec F S1x1024 .f32) (x14 : Vec F S512x16 .f32) : Vec F S512x16 .f32 :=
  k2_pay1 (k2_pay10 (k2_pay6 x8 x9) (k2_pay8 x2) (k2_pay9 (View.ld x3 (Rect.unit (s := S10240x128) (k2_off1 i) S1024x128.size (k2_off1_inb i))) x4) x12)
    (k2_pay11 (k2_pay7 x6 x10) (k2_pay8 x2) x6 x7)
    (View.ld x5 (Rect.unit (s := S10240x16) (k2_off2 i) S1024x16.size (k2_off2_inb i))) (if fst2 i then k2_pay3 else x14)

open Classical in
/-- The result window after the point. -/
def out2 (i : grid2.Coords) (x2 : Vec F S512x1024 .f32) (x3 : Vec F S10240x128 .bf16) (x4 : Vec F S512x128 .bf16) (x5 : Vec F S10240x16 .bf16) (x6 : Vec F S512x1 .f32) (x7 : Vec F S1x1024 .f32) (x8 : Vec F S512x1 .f32) (x9 : Vec F S1x1 .f32) (x10 : Vec F S1x1 .f32) (x11 : Vec F S1x16 .f32) (x12 : Vec F S1x1024 .f32) (x13 : Vec F S512x16 .f32) (x14 : Vec F S512x16 .f32) (x15 : Vec F S512x1 .f32) (x16 : Vec F S512x1 .f32) : Vec F S512x16 .f32 :=
  if k2_cond2 i = 1#1 then k2_pay2 (lt2 i x2 x3 x4 x8 x9 x12 x15) (le2 i x2 x6 x7 x10 x16) x11 (acc2 i x2 x3 x4 x5 x6 x7 x8 x9 x10 x12 x14) else x13

set_option maxHeartbeats 1000000 in
/-- The body, from any contents of its windows and scratch: the result window and the three running sums at the functions above,
    every other window as it was. -/
theorem run2 [∀ e, Nonempty (Elt F e)] (c : Dev nD) (i : grid2.Coords) (arg2 : Memref sig .tc .vmem S512x1024 .f32) (harg2 : arg2.IsWhole) (arg3 : Memref sig .tc .vmem S10240x128 .bf16) (harg3 : arg3.IsWhole) (arg4 : Memref sig .tc .vmem S512x128 .bf16) (harg4 : arg4.IsWhole) (arg5 : Memref sig .tc .vmem S10240x16 .bf16) (harg5 : arg5.IsWhole) (arg6 : Memref sig .tc .vmem S512x1 .f32) (harg6 : arg6.IsWhole) (arg7 : Memref sig .tc .vmem S1x1024 .f32) (harg7 : arg7.IsWhole) (arg8 : Memref sig .tc .vmem S512x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x16 .f32) (harg11 : arg11.IsWhole) (arg12 : Memref sig .tc .vmem S1x1024 .f32) (harg12 : arg12.IsWhole) (arg13 : Memref sig .tc .vmem S512x16 .f32) (harg13 : arg13.IsWhole) (arg14 : Memref sig .tc .vmem S512x16 .f32) (harg14 : arg14.IsWhole) (arg15 : Memref sig .tc .vmem S512x1 .f32) (harg15 : arg15.IsWhole) (arg16 : Memref sig .tc .vmem S512x1 .f32) (harg16 : arg16.IsWhole)
    (x2 : Vec F S512x1024 .f32) (x3 : Vec F S10240x128 .bf16) (x4 : Vec F S512x128 .bf16) (x5 : Vec F S10240x16 .bf16) (x6 : Vec F S512x1 .f32) (x7 : Vec F S1x1024 .f32) (x8 : Vec F S512x1 .f32) (x9 : Vec F S1x1 .f32) (x10 : Vec F S1x1 .f32) (x11 : Vec F S1x16 .f32) (x12 : Vec F S1x1024 .f32) (x13 : Vec F S512x16 .f32) (x14 : Vec F S512x16 .f32) (x15 : Vec F S512x1 .f32) (x16 : Vec F S512x1 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (out2 i x2 x3 x4 x5 x6 x7 x8 x9 x10 x11 x12 x13 x14 x15 x16) ∗ owns (c : Thread nD τ) arg14 fullShare (acc2 i x2 x3 x4 x5 x6 x7 x8 x9 x10 x12 x14) ∗ owns (c : Thread nD τ) arg15 fullShare (lt2 i x2 x3 x4 x8 x9 x12 x15) ∗ owns (c : Thread nD τ) arg16 fullShare (le2 i x2 x6 x7 x10 x16)) -∗ K ⟨⟩))
      ⊢ wp frame (wpE (defs₀ (F := F)) Variants.none c none) Set.univ
          (cc2__l2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  classical
  simp only [cc2__l2_kernel_eq_skeleton]; unfold cc2__l2_kernel_skel
  simp only [k2_part1_eq_skeleton, k2_part2_eq_skeleton]; unfold k2_part1_skel k2_part2_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
  subst e2 e3 e4 e5 e6 e7 e8 e9 e10 e11 e12 e13 e14 e15 e16
  by_cases h1 : fst2 i <;> by_cases h2 : k2_cond2 i = 1#1
  all_goals have h1' := h1
  all_goals unfold fst2 at h1

  all_goals
    sl_exec
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists _; isplitr; swap; · iexact H13
      ipureintro; sl_unfold_run_names
      simp only [lt2, le2, acc2, out2, h1', h2, eq_self, if_true, if_false, View.readAt_eq_ld, Cert.Full.ld2, Cert.Full.readCov2, Cert.Full.read_writes2]
    isplitl [H14]
    · iexists _; isplitr; swap; · iexact H14
      ipureintro; sl_unfold_run_names
      simp only [lt2, le2, acc2, out2, h1', h2, eq_self, if_true, if_false, View.readAt_eq_ld, Cert.Full.ld2, Cert.Full.readCov2, Cert.Full.read_writes2]
    isplitl [H15]
    · iexists _; isplitr; swap; · iexact H15
      ipureintro; sl_unfold_run_names
      simp only [lt2, le2, acc2, out2, h1', h2, eq_self, if_true, if_false, View.readAt_eq_ld, Cert.Full.ld2, Cert.Full.readCov2, Cert.Full.read_writes2]
    · iexists _; isplitr; swap; · iexact H16
      ipureintro; sl_unfold_run_names
      simp only [lt2, le2, acc2, out2, h1', h2, eq_self, if_true, if_false, View.readAt_eq_ld, Cert.Full.ld2, Cert.Full.readCov2, Cert.Full.read_writes2]

end Cert.KernelIdeal.Hand
end
-- ==== Proof.I.Dat2.lean ====
/- Proof data of the second attention layer: what each point may leave in the windows it writes and in its scratch, and the body's obligation. -/
module

public import proofs.«01_k».proof.Proof.Gen.KernelIdeal.Launch
public import proofs.«01_k».proof.Proof.I.Body2
public import proofs.«01_k».proof.Proof.Chain

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F] [∀ e, Nonempty (Elt F e)]
variable {Name : Type} [DecidableEq Name] {U : Type} [URA U] {Lvl : Type} [Preorder Lvl]

local notation "𝕄" => MT nD τ sig Unit (Elt F) Name U Lvl

/-- The scratch at contents the invariant allows, and the other scoped buffers. -/
def inv2 (Inv : Vec F S512x16 .f32 → Vec F S512x1 .f32 → Vec F S512x1 .f32 → Prop) (c : Dev nD) : sProp 𝕄 :=
  iprop((∃ x14 x15 x16, ⌜Inv x14 x15 x16⌝ ∗ owns (c : Thread nD τ) (Memref.whole cc2_scratch0) fullShare x14 ∗ owns (c : Thread nD τ) (Memref.whole cc2_scratch1) fullShare x15 ∗ owns (c : Thread nD τ) (Memref.whole cc2_scratch2) fullShare x16)
    ∗ Pipeline.scopedRestBut spec2 c [cc2_scratch0, cc2_scratch1, cc2_scratch2])

/-- The proof data: inputs stay as they are, a written window holds something that `P` allows, the scratch something that `Inv` allows. -/
def dat2 (V : Valuation τ sig (Elt F)) (P : (w : Fin cfg2.W) → Fin cfg2.N → ((cfg2.win w).block.Idx → Elt F (cfg2.win w).elt) → Prop)
    (Inv : ℕ → Vec F S512x16 .f32 → Vec F S512x1 .f32 → Vec F S512x1 .f32 → Prop) (c : Dev nD) : RDat τ (Elt F) Unit Name U Lvl cfg2 c where
  A w := V (Proc.devRef .tc (Pipeline.arrRef spec2 w))
  after w t Y X := if w.val < 11 then X = Y else P w t X
  Φ t := inv2 (Inv t.val) c
  q _ := fullShare
  owed _ := 0

/-- Each window's array is held whole. -/
theorem share2 (V : Valuation τ sig (Elt F)) (P : (w : Fin cfg2.W) → Fin cfg2.N → ((cfg2.win w).block.Idx → Elt F (cfg2.win w).elt) → Prop)
    (Inv : ℕ → Vec F S512x16 .f32 → Vec F S512x1 .f32 → Vec F S512x1 .f32 → Prop) (c : Dev nD) (w) : (dat2 (Name := Name) (U := U) (Lvl := Lvl) V P Inv c).share w = fullShare := by
  unfold RDat.share; split <;> rfl

/-- The body table's row at the point is the body. -/
theorem row2 (t : Fin cfg2.N) : defs₀ (F := F) .tc cfg2.body (cfg2.bodyArgs t (cfg2.slots t)) = bodyAt2 t := by
  unfold defs₀; rw [Defs.onTc_tc]

/-- One point keeps the invariant and leaves the written windows at what `P` allows. -/
def Step2 (V : Valuation τ sig (Elt F)) (P : (w : Fin cfg2.W) → Fin cfg2.N → ((cfg2.win w).block.Idx → Elt F (cfg2.win w).elt) → Prop)
    (Inv : ℕ → Vec F S512x16 .f32 → Vec F S512x1 .f32 → Vec F S512x1 .f32 → Prop) (c : Dev nD) : Prop :=
  ∀ (t : Fin cfg2.N) (x2 : Vec F S512x1024 .f32) (x3 : Vec F S10240x128 .bf16) (x4 : Vec F S512x128 .bf16) (x5 : Vec F S10240x16 .bf16) (x6 : Vec F S512x1 .f32) (x7 : Vec F S1x1024 .f32) (x8 : Vec F S512x1 .f32) (x9 : Vec F S1x1 .f32) (x10 : Vec F S1x1 .f32) (x11 : Vec F S1x16 .f32) (x12 : Vec F S1x1024 .f32) (x13 : Vec F S512x16 .f32) (x14 : Vec F S512x16 .f32) (x15 : Vec F S512x1 .f32) (x16 : Vec F S512x1 .f32),
    (dat2 (Name := Name) (U := U) (Lvl := Lvl) V P Inv c).Finds 0 t x2 → (dat2 (Name := Name) (U := U) (Lvl := Lvl) V P Inv c).Finds 1 t x3 → (dat2 (Name := Name) (U := U) (Lvl := Lvl) V P Inv c).Finds 2 t x4 → (dat2 (Name := Name) (U := U) (Lvl := Lvl) V P Inv c).Finds 3 t x5 → (dat2 (Name := Name) (U := U) (Lvl := Lvl) V P Inv c).Finds 4 t x6 → (dat2 (Name := Name) (U := U) (Lvl := Lvl) V P Inv c).Finds 5 t x7 → (dat2 (Name := Name) (U := U) (Lvl := Lvl) V P Inv c).Finds 6 t x8 → (dat2 (Name := Name) (U := U) (Lvl := Lvl) V P Inv c).Finds 7 t x9 → (dat2 (Name := Name) (U := U) (Lvl := Lvl) V P Inv c).Finds 8 t x10 → (dat2 (Name := Name) (U := U) (Lvl := Lvl) V P Inv c).Finds 9 t x11 → (dat2 (Name := Name) (U := U) (Lvl := Lvl) V P Inv c).Finds 10 t x12 → (dat2 (Name := Name) (U := U) (Lvl := Lvl) V P Inv c).Finds 11 t x13
    → Inv t.val x14 x15 x16 → Inv (t.val + 1) (acc2 (grid2.coords t) x2 x3 x4 x5 x6 x7 x8 x9 x10 x12 x14) (lt2 (grid2.coords t) x2 x3 x4 x8 x9 x12 x15) (le2 (grid2.coords t) x2 x6 x7 x10 x16)
      ∧ P 11 t (out2 (grid2.coords t) x2 x3 x4 x5 x6 x7 x8 x9 x10 x11 x12 x13 x14 x15 x16)

/-- The body's obligation. -/
theorem obl2 (V : Valuation τ sig (Elt F)) (P : (w : Fin cfg2.W) → Fin cfg2.N → ((cfg2.win w).block.Idx → Elt F (cfg2.win w).elt) → Prop)
    (Inv : ℕ → Vec F S512x16 .f32 → Vec F S512x1 .f32 → Vec F S512x1 .f32 → Prop) (c : Dev nD) (h : Step2 (Name := Name) (U := U) (Lvl := Lvl) V P Inv c) :
    (dat2 (Name := Name) (U := U) (Lvl := Lvl) V P Inv c).BodyObligation (defs₀ (F := F)) Variants.none () Set.univ := by
  intro t Y hY
  rw [bigSep_W2, bigSep_W2, row2]
  rw [show (dat2 (Name := Name) (U := U) (Lvl := Lvl) V P Inv c).Φ t.castSucc = inv2 (Inv t.val) c from rfl,
    show (dat2 (Name := Name) (U := U) (Lvl := Lvl) V P Inv c).Φ t.succ = inv2 (Inv (t.val + 1)) c from rfl,
    show (dat2 (Name := Name) (U := U) (Lvl := Lvl) V P Inv c).owesAt () t.succ = (dat2 (Name := Name) (U := U) (Lvl := Lvl) V P Inv c).owesAt () t.castSucc from rfl]
  unfold inv2
  iintro ⟨⟨⟨%x14, %x15, %x16, %hI, S14, S15, S16⟩, HR⟩, HO, H0, H1, H2, H3, H4, H5, H6, H7, H8, H9, H10, H11⟩
  have hs := h t (Y 0) (Y 1) (Y 2) (Y 3) (Y 4) (Y 5) (Y 6) (Y 7) (Y 8) (Y 9) (Y 10) (Y 11) x14 x15 x16 (hY 0) (hY 1) (hY 2) (hY 3) (hY 4) (hY 5) (hY 6) (hY 7) (hY 8) (hY 9) (hY 10) (hY 11) hI
  iapply (run2 c (grid2.coords t) _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) x14 x15 x16 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S14]; · iexact S14
  isplitl [S15]; · iexact S15
  isplitl [S16]; · iexact S16
  iintro ⟨H0, H1, H2, H3, H4, H5, H6, H7, H8, H9, H10, H11, S14, S15, S16⟩
  isplitl [S14 S15 S16 HR]
  · isplitr [HR]; swap; · iexact HR
    iexists _, _, _; isplitr; · ipureintro; exact hs.1
    isplitl [S14]; · iexact S14
    isplitl [S15]; · iexact S15
    iexact S16
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  · iexists _; isplitr; swap; · iexact H11
    ipureintro; exact hs.2

/-- Entering the call: its scratch at anything. -/
theorem in2 (Inv : ℕ → Vec F S512x16 .f32 → Vec F S512x1 .f32 → Vec F S512x1 .f32 → Prop) (c : Dev nD) (h : ∀ x14 x15 x16, Inv 0 x14 x15 x16) :
    (Pipeline.scopedRest spec2 c : sProp 𝕄) ⊢ inv2 (Inv 0) c := by
  rw [scopedRest2_split]; unfold inv2
  simp only [owns_whole]
  iintro ⟨⟨⟨%x14, S14⟩, ⟨%x15, S15⟩, ⟨%x16, S16⟩⟩, HR⟩
  isplitr [HR]; swap; · iexact HR
  iexists x14, x15, x16; isplitr; · ipureintro; exact h _ _ _
  isplitl [S14]; · iexact S14
  isplitl [S15]; · iexact S15
  iexact S16

/-- Leaving the call: its scratch at something. -/
theorem leave2 (I : Vec F S512x16 .f32 → Vec F S512x1 .f32 → Vec F S512x1 .f32 → Prop) (c : Dev nD) :
    inv2 I c ⊢ (Pipeline.scopedRest spec2 c : sProp 𝕄) := by
  rw [scopedRest2_split]; unfold inv2
  simp only [owns_whole]
  iintro ⟨⟨%x14, %x15, %x16, -, S14, S15, S16⟩, HR⟩
  isplitr [HR]; swap; · iexact HR
  isplitl [S14]; · iexists _; iexact S14
  isplitl [S15]; · iexists _; iexact S15
  iexists _; iexact S16

end Cert.KernelIdeal.Hand
end
-- ==== Proof.I.Run.lean ====
/- The three calls and the host's operations around them, run in order: what is left at the end, given what each call may leave. -/
module

public import proofs.«01_k».proof.Proof.Gen.KernelIdeal.Regions
public import proofs.«01_k».proof.Proof.I.Dat0
public import proofs.«01_k».proof.Proof.I.Dat1
public import proofs.«01_k».proof.Proof.I.Dat2
public import proofs.«01_k».proof.Proof.Chain

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F] [∀ e, Nonempty (Elt F e)]

/-- The ghost state of the launch. -/
abbrev UU : Type := Cert.Chain.U2 nD τ sig

local notation "𝔹" => MT nD τ sig Unit (Elt F) ℕ UU Unit

/-- A conjunction over the three calls. -/
theorem bigSep3 {M : Type} [URA M] (Φ : Fin 3 → sProp M) : bigSep Finset.univ Φ = iprop(Φ 0 ∗ Φ 1 ∗ Φ 2) :=
  bigSep_univ_eq_bigSepL [(0 : Fin 3), (1 : Fin 3), (2 : Fin 3)] (by decide) (by decide) Φ

/-- What each call may leave in the windows it writes and in its scratch, by the contents it was entered at. -/
structure Plan where
  P0 : Valuation τ sig (Elt F) → (w : Fin cfg0.W) → Fin cfg0.N → ((cfg0.win w).block.Idx → Elt F (cfg0.win w).elt) → Prop
  I0 : Valuation τ sig (Elt F) → ℕ → Vec F S1x128 .f32 → Vec F S1x1 .f32 → Prop
  P1 : Valuation τ sig (Elt F) → (w : Fin cfg1.W) → Fin cfg1.N → ((cfg1.win w).block.Idx → Elt F (cfg1.win w).elt) → Prop
  I1 : Valuation τ sig (Elt F) → ℕ → Vec F S512x136 .f32 → Vec F S1x16 .f32 → Vec F S1x1 .f32 → Vec F S1x1 .f32 → Prop
  P2 : Valuation τ sig (Elt F) → (w : Fin cfg2.W) → Fin cfg2.N → ((cfg2.win w).block.Idx → Elt F (cfg2.win w).elt) → Prop
  I2 : Valuation τ sig (Elt F) → ℕ → Vec F S512x16 .f32 → Vec F S512x1 .f32 → Vec F S512x1 .f32 → Prop

/-- The calls' proof data, entered at `V`. -/
def fam (D : Plan (F := F)) (V : Valuation τ sig (Elt F)) : (p : Fin 3) → (c : Dev nD) → RDat τ (Elt F) Unit ℕ UU Unit (cfgs p) c
  | ⟨0, _⟩ => dat0 V (D.P0 V) (D.I0 V)
  | ⟨1, _⟩ => dat1 V (D.P1 V) (D.I1 V)
  | ⟨2, _⟩ => dat2 V (D.P2 V) (D.I2 V)

/-- What call `p` may make of the contents `V`. -/
abbrev LeftK (D : Plan (F := F)) (p : Fin 3) (c : Dev nD) (V V' : Valuation τ sig (Elt F)) : Prop :=
  Cert.Chain.Left (pcfgs (F := F)) adm (fam D V) p c V V'

/-- Call 0 entered at `V`. -/
def seg0' (D : Plan (F := F)) (V : Valuation τ sig (Elt F)) (hs : ∀ c, Step0 (Name := ℕ) (U := UU) (Lvl := Unit) V (D.P0 V) (D.I0 V) c)
    (h0 : ∀ x0 x1, D.I0 V 0 x0 x1) :
    RDat.RegionSeg (pcfgs (F := F)) adm (fam D V) () defs₀ Variants.none (fun _ => ∅) (fun _ _ => ()) 0 :=
  Cert.Chain.seg (pcfgs (F := F)) adm (fam D V) () defs₀ Variants.none (fun _ => ∅) (fun _ _ => ()) 0 launch0.toP rfl V
    (fun c => obl0 V (D.P0 V) (D.I0 V) c (hs c)) (fun _ _ => rfl) (fun _ => rfl) (fun c w => share0 V (D.P0 V) (D.I0 V) c w) (fun _ _ => rfl)
    (fun c => in0 (D.I0 V) c h0) (fun c => leave0 (D.I0 V cfg0.N) c)

/-- Call 1 entered at `V`. -/
def seg1' (D : Plan (F := F)) (V : Valuation τ sig (Elt F)) (hs : ∀ c, Step1 (Name := ℕ) (U := UU) (Lvl := Unit) V (D.P1 V) (D.I1 V) c)
    (h0 : ∀ x0 x1 x2 x3, D.I1 V 0 x0 x1 x2 x3) :
    RDat.RegionSeg (pcfgs (F := F)) adm (fam D V) () defs₀ Variants.none (fun _ => ∅) (fun _ _ => ()) 1 :=
  Cert.Chain.seg (pcfgs (F := F)) adm (fam D V) () defs₀ Variants.none (fun _ => ∅) (fun _ _ => ()) 1 launch1.toP rfl V
    (fun c => obl1 V (D.P1 V) (D.I1 V) c (hs c)) (fun _ _ => rfl) (fun _ => rfl) (fun c w => share1 V (D.P1 V) (D.I1 V) c w) (fun _ _ => rfl)
    (fun c => in1 (D.I1 V) c h0) (fun c => leave1 (D.I1 V cfg1.N) c)

/-- Call 2 entered at `V`. -/
def seg2' (D : Plan (F := F)) (V : Valuation τ sig (Elt F)) (hs : ∀ c, Step2 (Name := ℕ) (U := UU) (Lvl := Unit) V (D.P2 V) (D.I2 V) c)
    (h0 : ∀ x0 x1 x2, D.I2 V 0 x0 x1 x2) :
    RDat.RegionSeg (pcfgs (F := F)) adm (fam D V) () defs₀ Variants.none (fun _ => ∅) (fun _ _ => ()) 2 :=
  Cert.Chain.seg (pcfgs (F := F)) adm (fam D V) () defs₀ Variants.none (fun _ => ∅) (fun _ _ => ()) 2 launch2.toP rfl V
    (fun c => obl2 V (D.P2 V) (D.I2 V) c (hs c)) (fun _ _ => rfl) (fun _ => rfl) (fun c w => share2 V (D.P2 V) (D.I2 V) c w) (fun _ _ => rfl)
    (fun c => in2 (D.I2 V) c h0) (fun c => leave2 (D.I2 V cfg2.N) c)

/-- The whole program: from any launch memory it ends, and if each call, entered at contents with its property `G`, keeps its
    plan and leaves contents with the next property, then the unscoped buffers end at what the last host operations make of contents
    with the last property. -/
theorem run_main (D : Plan (F := F)) (m : (ℓ : Loc nD τ sig) → Buf (Elt F) ℓ) (g : Dev nD → PrngReg)
    (G0 G1 G2 G3 : Valuation τ sig (Elt F) → Prop)
    (h0 : ∀ c, G0 (V1 m c))
    (s0 : ∀ V, G0 V → ∀ c, Step0 (Name := ℕ) (U := UU) (Lvl := Unit) V (D.P0 V) (D.I0 V) c) (i0 : ∀ V, G0 V → ∀ x0 x1, D.I0 V 0 x0 x1)
    (l0 : ∀ c V V', G0 V → LeftK D 0 c V V' → G1 V')
    (s1 : ∀ V, G1 V → ∀ c, Step1 (Name := ℕ) (U := UU) (Lvl := Unit) V (D.P1 V) (D.I1 V) c) (i1 : ∀ V, G1 V → ∀ x0 x1 x2 x3, D.I1 V 0 x0 x1 x2 x3)
    (l1 : ∀ c V V', G1 V → LeftK D 1 c V V' → G2 V')
    (s2 : ∀ V, G2 V → ∀ c, Step2 (Name := ℕ) (U := UU) (Lvl := Unit) V (D.P2 V) (D.I2 V) c) (i2 : ∀ V, G2 V → ∀ x0 x1 x2, D.I2 V 0 x0 x1 x2)
    (l2 : ∀ c V V', G2 V → LeftK D 2 c V V' → G3 V')
    {Q : PUnit × MemSt nD τ sig (Elt F) → Prop}
    (hQ : ∀ s : MemSt nD τ sig (Elt F), (∀ c : Dev nD, ∃ V, G3 V ∧ ∀ b ∈ ucRefs τ sig, s.mem ((c.tc : Thread nD τ).1, b) = StableHlo.after hostOps3 V b) →
      s.sem = (fun _ => 0) → Q (⟨⟩, s)) :
    θ_run defs (onTc (τ := τ) (main (F := F))) ⟨m, fun _ => 0, g⟩ Q := by
  refine Cert.Chain.θ_run_open (pcfgs (F := F)) adm defs₀ Variants.none cellOf_inj (fam D (fun b => m (0, b))) m g main (V0 m)
    (fun _ _ => rfl) (fun c V => ∃ V', G3 V' ∧ V = StableHlo.after hostOps3 V') ?_ ?_
  · intro c β k K
    rw [main_chain c]
    simp only [chain, chainK, bind_assoc, pure_bind]
    unfold Cert.Chain.at_ ghostOn PerCore.ghostOn
    rw [bigSep3]
    iintro ⟨Hk, Hbd, ⟨Hh, ⟨%W0, HO⟩⟩, ⟨⟨C0, T0⟩, ⟨C1, T1⟩, ⟨C2, T2⟩⟩, #Hla⟩
    iapply (StableHlo.wp_seq _ none Set.univ c (ucRefs τ sig) _ hostOps0 (fun op h => sub_ucRefs op ((List.forall_iff_forall_mem.mp hostOps0_sub) op h))
      (fun op h => (List.forall_iff_forall_mem.mp hostOps0_fresh) op h) (V0 m c)) $$ [Hbd Hh]
    · isplitl [Hbd] <;> iassumption
    iintro ⟨Hbd, Hh⟩
    have g0 : G0 (StableHlo.after hostOps0 (V0 m c)) := h0 c
    generalize StableHlo.after hostOps0 (V0 m c) = V at g0 ⊢
    have hr := RDat.RegionSeg.wp (pcfgs (F := F)) adm (fam D V) () cellOf_inj (embR (nD := nD) (τ := τ) (sig := sig) (Ix := Unit) (Val := Elt F) (Name := ℕ) (A := URounds (GSem nD τ sig) Unit) (B := URounds (GSem nD τ sig) Unit) (Lvl := Unit))
      defs₀ Variants.none (fun _ => ∅) (fun _ _ => ()) (seg0' D V (fun c => s0 V g0 c) (i0 V g0)) c none (fun u h => nomatch h) (α := β)
    unfold seg0' Cert.Chain.seg at hr
    dsimp only at hr
    iapply (hr _ K)
    isplitr [Hbd Hh HO C0 T0]; swap
    · isplitl [Hbd]; · iexact Hbd
      isplitl [Hh HO]
      · isplitl [Hh]; · iexact Hh
        iexists _; iexact HO
      isplitr; · iexact Hla
      isplitl [C0] <;> iassumption
    iintro ⟨Hbd, ⟨%V', %hV', Hh⟩, ⟨%W1, HO⟩⟩
    have g1 := l0 c V V' g0 hV'
    clear hr hV'
    clear g0 V
    rename' V' => V
    have hr := RDat.RegionSeg.wp (pcfgs (F := F)) adm (fam D V) () cellOf_inj (embR (nD := nD) (τ := τ) (sig := sig) (Ix := Unit) (Val := Elt F) (Name := ℕ) (A := URounds (GSem nD τ sig) Unit) (B := URounds (GSem nD τ sig) Unit) (Lvl := Unit))
      defs₀ Variants.none (fun _ => ∅) (fun _ _ => ()) (seg1' D V (fun c => s1 V g1 c) (i1 V g1)) c none (fun u h => nomatch h) (α := β)
    unfold seg1' Cert.Chain.seg at hr
    dsimp only at hr
    iapply (hr _ K)
    isplitr [Hbd Hh HO C1 T1]; swap
    · isplitl [Hbd]; · iexact Hbd
      isplitl [Hh HO]
      · isplitl [Hh]; · iexact Hh
        iexists _; iexact HO
      isplitr; · iexact Hla
      isplitl [C1] <;> iassumption
    iintro ⟨Hbd, ⟨%V', %hV', Hh⟩, ⟨%W2, HO⟩⟩
    have g2 := l1 c V V' g1 hV'
    clear hr hV'
    clear g1 V
    rename' V' => V
    have hr := RDat.RegionSeg.wp (pcfgs (F := F)) adm (fam D V) () cellOf_inj (embR (nD := nD) (τ := τ) (sig := sig) (Ix := Unit) (Val := Elt F) (Name := ℕ) (A := URounds (GSem nD τ sig) Unit) (B := URounds (GSem nD τ sig) Unit) (Lvl := Unit))
      defs₀ Variants.none (fun _ => ∅) (fun _ _ => ()) (seg2' D V (fun c => s2 V g2 c) (i2 V g2)) c none (fun u h => nomatch h) (α := β)
    unfold seg2' Cert.Chain.seg at hr
    dsimp only at hr
    iapply (hr _ K)
    isplitr [Hbd Hh HO C2 T2]; swap
    · isplitl [Hbd]; · iexact Hbd
      isplitl [Hh HO]
      · isplitl [Hh]; · iexact Hh
        iexists _; iexact HO
      isplitr; · iexact Hla
      isplitl [C2] <;> iassumption
    iintro ⟨Hbd, ⟨%V', %hV', Hh⟩, ⟨%W3, HO⟩⟩
    have g3 := l2 c V V' g2 hV'
    clear hr hV'
    clear g2 V
    rename' V' => V
    rw [← bind_pure_unit (x := StableHlo.seq hostOps3), bind_assoc]
    iapply (StableHlo.wp_seq _ none Set.univ c (ucRefs τ sig) _ hostOps3 (fun op h => sub_ucRefs op ((List.forall_iff_forall_mem.mp hostOps3_sub) op h))
      (fun op h => (List.forall_iff_forall_mem.mp hostOps3_fresh) op h) V) $$ [Hbd Hh]
    · isplitl [Hbd] <;> iassumption
    iintro ⟨Hbd, Hh⟩
    iapply Hk
    isplitl [Hbd]; · iexact Hbd
    iexists _; isplitr; · ipureintro; exact ⟨V, g3, rfl⟩
    isplitl [Hh]; · iexact Hh
    iexists _; iexact HO
  · intro s h hz
    refine hQ s (fun c => ?_) (funext fun g => hz g (.inr (regions_no_unscoped g.2)))
    obtain ⟨V, ⟨V', hg, rfl⟩, hb⟩ := h c
    exact ⟨V', hg, hb⟩

end Cert.KernelIdeal.Hand
end
-- ==== Proof.I.Frame.lean ====
/- The arguments are unchanged at the end, whatever the calls compute. -/
module

public import proofs.«01_k».proof.Proof.I.Run
public import Idealize.ShloMosaic.Lib.Pipeline.FrameTail

@[expose] public section

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline

/-- The arguments that are no window's array, call by call. -/
theorem away0 : ∀ b ∈ [main_arg1, main_arg4, main_arg5, main_arg6], b ∉ Finset.univ.image (arrRef spec0) := by decide
/-- The arguments that are no window's array of the second call. -/
theorem away1 : ∀ b ∈ [main_arg0, main_arg2, main_arg3], b ∉ Finset.univ.image (arrRef spec1) := by decide
/-- The arguments that are no window's array of the third call. -/
theorem away2 : ∀ b ∈ [main_arg0, main_arg2, main_arg3, main_arg4, main_arg5, main_arg6], b ∉ Finset.univ.image (arrRef spec2) := by decide

variable {F : FTy → Type} [FloatOps F] [Named F] [∀ e, Nonempty (Elt F e)]

/-- An array that call `p` only reads is as it was. -/
theorem left_in (D : Plan (F := F)) {p : Fin 3} {c : Dev nD} {V V' : Valuation τ sig (Elt F)} (h : LeftK D p c V V')
    (w : Fin (cfgs p).W) (hw : ((cfgs p).win w).isOut = false) (hA : (fam D V p c).A w = V (Proc.devRef .tc (arrRef (cfgs p).spec w))) :
    V' (Proc.devRef .tc (arrRef (cfgs p).spec w)) = V (Proc.devRef .tc (arrRef (cfgs p).spec w)) := by
  have h1 := h.1 w
  have h2 := (fam D V p c).ArrAt_in w hw (cfgs p).N
  exact ((congrFun h2 _).mp h1).trans hA

/-- The program's arguments. -/
abbrev argsK : List (Ref sig .tc) := [main_arg0, main_arg1, main_arg2, main_arg3, main_arg4, main_arg5, main_arg6]

/-- The arguments are as they were. -/
theorem args_left0 (D : Plan (F := F)) {c : Dev nD} {V V' : Valuation τ sig (Elt F)} (h : LeftK D 0 c V V') :
    ∀ b ∈ argsK, V' (Proc.devRef .tc b) = V (Proc.devRef .tc b) := by
  intro b hb
  simp only [List.mem_cons, List.not_mem_nil, or_false] at hb
  rcases hb with rfl | rfl | rfl | rfl | rfl | rfl | rfl
  · exact left_in D h (0 : Fin cfg0.W) rfl rfl
  · exact h.2 main_arg1 (away0 main_arg1 (by simp))
  · exact left_in D h (1 : Fin cfg0.W) rfl rfl
  · exact left_in D h (2 : Fin cfg0.W) rfl rfl
  · exact h.2 main_arg4 (away0 main_arg4 (by simp))
  · exact h.2 main_arg5 (away0 main_arg5 (by simp))
  · exact h.2 main_arg6 (away0 main_arg6 (by simp))

/-- The arguments are as they were. -/
theorem args_left1 (D : Plan (F := F)) {c : Dev nD} {V V' : Valuation τ sig (Elt F)} (h : LeftK D 1 c V V') :
    ∀ b ∈ argsK, V' (Proc.devRef .tc b) = V (Proc.devRef .tc b) := by
  intro b hb
  simp only [List.mem_cons, List.not_mem_nil, or_false] at hb
  rcases hb with rfl | rfl | rfl | rfl | rfl | rfl | rfl
  · exact h.2 main_arg0 (away1 main_arg0 (by simp))
  · exact left_in D h (0 : Fin cfg1.W) rfl rfl
  · exact h.2 main_arg2 (away1 main_arg2 (by simp))
  · exact h.2 main_arg3 (away1 main_arg3 (by simp))
  · exact left_in D h (6 : Fin cfg1.W) rfl rfl
  · exact left_in D h (7 : Fin cfg1.W) rfl rfl
  · exact left_in D h (8 : Fin cfg1.W) rfl rfl

/-- The arguments are as they were. -/
theorem args_left2 (D : Plan (F := F)) {c : Dev nD} {V V' : Valuation τ sig (Elt F)} (h : LeftK D 2 c V V') :
    ∀ b ∈ argsK, V' (Proc.devRef .tc b) = V (Proc.devRef .tc b) := by
  intro b hb
  simp only [List.mem_cons, List.not_mem_nil, or_false] at hb
  rcases hb with rfl | rfl | rfl | rfl | rfl | rfl | rfl
  · exact h.2 main_arg0 (away2 main_arg0 (by simp))
  · exact left_in D h (0 : Fin cfg2.W) rfl rfl
  · exact h.2 main_arg2 (away2 main_arg2 (by simp))
  · exact h.2 main_arg3 (away2 main_arg3 (by simp))
  · exact h.2 main_arg4 (away2 main_arg4 (by simp))
  · exact h.2 main_arg5 (away2 main_arg5 (by simp))
  · exact h.2 main_arg6 (away2 main_arg6 (by simp))

/-- The contents hold the arguments that the memory holds. -/
def SameArgs (m : (ℓ : Loc nD τ sig) → Buf (Elt F) ℓ) (V : Valuation τ sig (Elt F)) : Prop :=
  ∀ b ∈ argsK, V (Proc.devRef .tc b) = m (0, Proc.devRef .tc b)

/-- Where the first call is entered, the arguments are as launched. -/
theorem same_first (m : (ℓ : Loc nD τ sig) → Buf (Elt F) ℓ) (c : Dev nD) : SameArgs m (V1 m c) := fun b hb => by
  have hb' : b ∉ hostOps0_W := by
    simp only [List.mem_cons, List.not_mem_nil, or_false] at hb
    rcases hb with rfl | rfl | rfl | rfl | rfl | rfl | rfl <;> decide
  rw [V1_of m c b hb']
  obtain rfl : c = 0 := Subsingleton.elim _ _
  rfl

/-- The last host operation leaves the arguments alone. -/
theorem same_last (m : (ℓ : Loc nD τ sig) → Buf (Elt F) ℓ) {V : Valuation τ sig (Elt F)} (h : SameArgs m V) :
    SameArgs m (StableHlo.after hostOps3 V) := fun b hb => by
  have hb' : b ∉ hostOps3_W := by
    simp only [List.mem_cons, List.not_mem_nil, or_false] at hb
    rcases hb with rfl | rfl | rfl | rfl | rfl | rfl | rfl <;> decide
  rw [StableHlo.after_of_writes_sub hostOps3 V hostOps3_writes hb']
  exact h b hb

/-- A plan that says nothing. -/
def anyPlan : Plan (F := F) where
  P0 _ _ _ _ := True
  I0 _ _ _ _ := True
  P1 _ _ _ _ := True
  I1 _ _ _ _ _ _ := True
  P2 _ _ _ _ := True
  I2 _ _ _ _ _ := True

/-- The arguments belong to the whole program, not to one call. -/
theorem arg_unscoped : ∀ b ∈ argsK, b.isScoped = false := by decide

/-- From any memory with zero counters the program ends, its arguments unchanged and each counter at zero. -/
theorem run_frame (m : (ℓ : Loc nD τ sig) → Buf (Elt F) ℓ) (g : Dev nD → PrngReg) :
    θ_run defs (onTc (τ := τ) (main (F := F))) ⟨m, fun _ => 0, g⟩ fun r =>
      (∀ c : Dev nD, ∀ b ∈ argsK, r.2.mem ((c.tc : Thread nD τ).loc b) = m ((c.tc : Thread nD τ).loc b)) ∧ r.2.sem = fun _ => 0 := by
  refine run_main anyPlan m g (SameArgs m) (SameArgs m) (SameArgs m) (SameArgs m) (same_first m)
    (fun V _ c => ?_) (fun _ _ _ _ => trivial) (fun c V V' h hl b hb => (args_left0 _ hl b hb).trans (h b hb))
    (fun V _ c => ?_) (fun _ _ _ _ _ _ => trivial) (fun c V V' h hl b hb => (args_left1 _ hl b hb).trans (h b hb))
    (fun V _ c => ?_) (fun _ _ _ _ _ => trivial) (fun c V V' h hl b hb => (args_left2 _ hl b hb).trans (h b hb)) (fun s h hz => ⟨fun c b hb => ?_, hz⟩)
  · unfold Step0; intros; exact ⟨trivial, trivial, trivial, trivial, trivial, trivial⟩
  · unfold Step1; intros; exact ⟨trivial, trivial, trivial, trivial, trivial, trivial, trivial, trivial, trivial, trivial⟩
  · unfold Step2; intros; exact ⟨trivial, trivial⟩
  · obtain ⟨V, hV, hb'⟩ := h c
    refine (hb' _ (devRef_mem_ucRefs (arg_unscoped b hb))).trans ?_
    obtain rfl : c = 0 := Subsingleton.elim _ _
    exact same_last m hV b hb

end Cert.KernelIdeal.Hand
end
-- ==== Proof.Ref.lean ====
/- The reference's run: its operations in stages, what each stage leaves as a function of what it reads, and the whole. -/
module

public import proofs.«01_k».proof.Proof.Gen.ReferenceIdeal
public import proofs.«01_k».proof.Proof.Chain
public import Idealize.ShloMosaic.Lib.StableHlo.RunRead
public import Idealize.ShloMosaic.Lib.Pipeline.FrameTail

@[expose] public section

set_option maxRecDepth 4096

noncomputable section

namespace Cert.ReferenceIdeal.Hand

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

/-! ## The stages as functions -/

/-- `x` where it is not negative, a fifth of it elsewhere. -/
def leakyF (e : Vec F S10000x10000 .f32) : Vec F S10000x10000 .f32 :=
  select (cmpf .oge e (broadcastInDim S10000x10000 ![] bcast_S_S10000x10000 (constant S_ .f32 0x00000000#32))) e
    (mulf (broadcastInDim S10000x10000 ![] bcast_S_S10000x10000 (constant S_ .f32 0x3E4CCCCD#32)) e)

/-- The scores `e` through `leakyF`, where the graph has an edge; −∞ elsewhere. -/
def maskF (adj e : Vec F S10000x10000 .f32) : Vec F S10000x10000 .f32 :=
  select (cmpf .ogt adj (broadcastInDim S10000x10000 ![] bcast_S_S10000x10000 (constant S_ .f32 0x00000000#32))) (leakyF e)
    (broadcastInDim S10000x10000 ![] bcast_S_S10000x10000 (id (constant S_ .f32 0xFF800000#32)))

/-- The first layer's products. -/
def proj1F (x : Vec F S10000x128 .f32) (w : Vec F S128x128 .f32) : Vec F S10000x128 .f32 :=
  Host.dotGeneral dot_S10000x128_S128x128_S10000x128_1_0_0_1_n_n none x w

/-- The second layer's products. -/
def proj2F (x : Vec F S10000x128 .f32) (w : Vec F S128x16 .f32) : Vec F S10000x16 .f32 :=
  Host.dotGeneral dot_S10000x128_S128x16_S10000x16_1_0_0_1_n_n none x w

/-- The first layer's pair scores. -/
def pairs1F (wh : Vec F S10000x128 .f32) (a : Vec F S256x1 .f32) : Vec F S10000x10000 .f32 :=
  addf (broadcastInDim S10000x10000 ![0, 1] bcast_S10000x1_S10000x10000_0_1
      (Host.dotGeneral dot_S10000x128_S128x1_S10000x1_1_0_0_1_n_n none wh (extractStridedSlice S128x1 ![0, 0] a slices_S256x1_S128x1_0_0)))
    (broadcastInDim S10000x10000 ![0, 1] bcast_S1x10000_S10000x10000_0_1
      (transpose S1x10000 [1, 0] (Host.dotGeneral dot_S10000x128_S128x1_S10000x1_1_0_0_1_n_n none wh (extractStridedSlice S128x1 ![128, 0] a slices_S256x1_S128x1_128_0)) transposes_S10000x1_S1x10000_1_0))

/-- The second layer's pair scores. -/
def pairs2F (wh : Vec F S10000x16 .f32) (a : Vec F S32x1 .f32) : Vec F S10000x10000 .f32 :=
  addf (broadcastInDim S10000x10000 ![0, 1] bcast_S10000x1_S10000x10000_0_1
      (Host.dotGeneral dot_S10000x16_S16x1_S10000x1_1_0_0_1_n_n none wh (extractStridedSlice S16x1 ![0, 0] a slices_S32x1_S16x1_0_0)))
    (broadcastInDim S10000x10000 ![0, 1] bcast_S1x10000_S10000x10000_0_1
      (transpose S1x10000 [1, 0] (Host.dotGeneral dot_S10000x16_S16x1_S10000x1_1_0_0_1_n_n none wh (extractStridedSlice S16x1 ![16, 0] a slices_S32x1_S16x1_16_0)) transposes_S10000x1_S1x10000_1_0))

/-- The tree scores. -/
def treeF (h : Vec F S10000x128 .f32) (wt : Vec F S128x128 .f32) : Vec F S10000x10000 .f32 :=
  Host.dotGeneral dot_S10000x128_S128x10000_S10000x10000_1_0_0_1_n_n none
    (Host.dotGeneral dot_S10000x128_S128x128_S10000x128_1_0_0_1_n_n none h wt) (transpose S128x10000 [1, 0] h transposes_S10000x128_S128x10000_1_0)

/-- A row's exponentials after subtracting its maximum. -/
def expoF (x : Vec F S10000x10000 .f32) : Vec F S10000x10000 .f32 :=
  Host.exp (subf x (broadcastInDim S10000x10000 ![0, 1] bcast_S10000x1_S10000x10000_0_1 (broadcastInDim S10000x1 ![0] bcast_S10000_S10000x1_0
    (maximumf (broadcastInDim S10000 ![] bcast_S_S10000 (constant S_ .f32 0xFF800000#32))
      (Host.reduce FloatOps.maximumf x (constant S_ .f32 0xFF800000#32) reducesTo_S10000x10000_S10000_d1 h_S_)))))

/-- The rows' softmax. -/
def softF (x : Vec F S10000x10000 .f32) : Vec F S10000x10000 .f32 :=
  Host.divf (expoF x) (broadcastInDim S10000x10000 ![0, 1] bcast_S10000x1_S10000x10000_0_1 (broadcastInDim S10000x1 ![0] bcast_S10000_S10000x1_0
    (Host.reduceAdd (expoF x) (constant S_ .f32 0x00000000#32) reducesTo_S10000x10000_S10000_d1 h_S_)))

/-- `x` where it is positive, `exp x − 1` elsewhere. -/
def eluF (x : Vec F S10000x128 .f32) : Vec F S10000x128 .f32 :=
  select (cmpf .ogt x (broadcastInDim S10000x128 ![] bcast_S_S10000x128 (constant S_ .f32 0x00000000#32))) x
    (mulf (broadcastInDim S10000x128 ![] bcast_S_S10000x128 (constant S_ .f32 0x3F800000#32))
      (Host.expm1 (select (cmpf .ogt x (broadcastInDim S10000x128 ![] bcast_S_S10000x128 (constant S_ .f32 0x00000000#32)))
        (broadcastInDim S10000x128 ![] bcast_S_S10000x128 (id (constant S_ .f32 0x00000000#32))) x)))

/-- The first layer's output. -/
def hidF (att : Vec F S10000x10000 .f32) (wh : Vec F S10000x128 .f32) : Vec F S10000x128 .f32 :=
  eluF (Host.dotGeneral dot_S10000x10000_S10000x128_S10000x128_1_0_0_1_n_n none att wh)

/-- A row less its maximum. -/
def cenF (x : Vec F S10000x16 .f32) : Vec F S10000x16 .f32 :=
  subf x (broadcastInDim S10000x16 ![0, 1] bcast_S10000x1_S10000x16_0_1 (broadcastInDim S10000x1 ![0] bcast_S10000_S10000x1_0
    (maximumf (broadcastInDim S10000 ![] bcast_S_S10000 (constant S_ .f32 0xFF800000#32))
      (Host.reduce FloatOps.maximumf x (constant S_ .f32 0xFF800000#32) reducesTo_S10000x16_S10000_d1 h_S_))))

/-- The rows' log-softmax. -/
def lsmF (x : Vec F S10000x16 .f32) : Vec F S10000x16 .f32 :=
  subf (cenF x) (broadcastInDim S10000x16 ![0, 1] bcast_S10000x1_S10000x16_0_1 (Host.log (broadcastInDim S10000x1 ![0] bcast_S10000_S10000x1_0
    (Host.reduceAdd (Host.exp (cenF x)) (constant S_ .f32 0x00000000#32) reducesTo_S10000x16_S10000_d1 h_S_))))

/-- The second layer's sums. -/
def mixF (att tree : Vec F S10000x10000 .f32) (wh : Vec F S10000x16 .f32) : Vec F S10000x16 .f32 :=
  Host.dotGeneral dot_S10000x10000_S10000x16_S10000x16_1_0_0_1_n_n none (mulf att tree) wh

/-- The first layer, of the arguments. -/
def resF (x : Vec F S10000x128 .f32) (adj : Vec F S10000x10000 .f32) (w1 : Vec F S128x128 .f32) (a1 : Vec F S256x1 .f32) : Vec F S10000x128 .f32 :=
  hidF (softF (maskF adj (pairs1F (proj1F x w1) a1))) (proj1F x w1)

/-- The result, of the arguments. -/
def outF (x : Vec F S10000x128 .f32) (adj : Vec F S10000x10000 .f32) (w1 : Vec F S128x128 .f32) (a1 : Vec F S256x1 .f32)
    (wt : Vec F S128x128 .f32) (w2 : Vec F S128x16 .f32) (a2 : Vec F S32x1 .f32) : Vec F S10000x16 .f32 :=
  lsmF (mixF (softF (maskF adj (pairs2F (proj2F (resF x adj w1 a1) w2) a2))) (softF (maskF adj (treeF (resF x adj w1 a1) wt))) (proj2F (resF x adj w1 a1) w2))

/-! ## The operations -/

/-- The operations of the scores of the first layer. -/
abbrev opsA : List (HloOp τ sig (Elt F)) :=
  [ binary main_arg0 main_arg2 main_v0 ((fun l r => Host.dotGeneral dot_S10000x128_S128x128_S10000x128_1_0_0_1_n_n none l r)),
    unary main_arg3 main_v1 ((extractStridedSlice S128x1 ![0, 0] · slices_S256x1_S128x1_0_0)),
    binary main_v0 main_v1 main_v2 ((fun l r => Host.dotGeneral dot_S10000x128_S128x1_S10000x1_1_0_0_1_n_n none l r)),
    unary main_arg3 main_v3 ((extractStridedSlice S128x1 ![128, 0] · slices_S256x1_S128x1_128_0)),
    binary main_v0 main_v3 main_v4 ((fun l r => Host.dotGeneral dot_S10000x128_S128x1_S10000x1_1_0_0_1_n_n none l r)),
    unary main_v4 main_v5 ((transpose S1x10000 [1, 0] · transposes_S10000x1_S1x10000_1_0)),
    unary main_v2 main_v6 (broadcastInDim S10000x10000 ![0, 1] bcast_S10000x1_S10000x10000_0_1),
    unary main_v5 main_v7 (broadcastInDim S10000x10000 ![0, 1] bcast_S1x10000_S10000x10000_0_1),
    binary main_v6 main_v7 main_v8 (addf),
    nullary main_cst (constant S_ .f32 0x00000000#32),
    unary main_cst main_v9 (broadcastInDim S10000x10000 ![] bcast_S_S10000x10000),
    binary main_v8 main_v9 main_v10 (cmpf .oge),
    nullary main_cst_0 (constant S_ .f32 0x3E4CCCCD#32),
    unary main_cst_0 main_v11 (broadcastInDim S10000x10000 ![] bcast_S_S10000x10000),
    binary main_v11 main_v8 main_v12 (mulf),
    ternary main_v10 main_v8 main_v12 main_v13 select,
    nullary main_cst_1 (constant S_ .f32 0x00000000#32),
    unary main_cst_1 main_v14 (broadcastInDim S10000x10000 ![] bcast_S_S10000x10000),
    binary main_arg1 main_v14 main_v15 (cmpf .ogt),
    nullary main_cst_2 (constant S_ .f32 0xFF800000#32),
    unary main_cst_2 main_call1_v0 id,
    unary main_call1_v0 main_call1_v1 (broadcastInDim S10000x10000 ![] bcast_S_S10000x10000),
    ternary main_v15 main_v13 main_call1_v1 main_v16 select ]

/-- The stage stays on the one core's buffers. -/
theorem opsA_sub : (opsA : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., unary_bufs_sub .., ternary_bufs_sub ..⟩

/-- The stage makes no buffer of its own. -/
theorem opsA_fresh : (opsA : List (HloOp τ sig (Elt F))).Forall fun op => op.fresh = ∅ := by
  simp only [List.Forall]; repeat' constructor

/-- What they write, in order. -/
abbrev wrA : List (Ref sig .tc) := [main_v0, main_v1, main_v2, main_v3, main_v4, main_v5, main_v6, main_v7, main_v8, main_cst, main_v9, main_v10, main_cst_0, main_v11, main_v12, main_v13, main_cst_1, main_v14, main_v15, main_cst_2, main_call1_v0, main_call1_v1, main_v16]

/-- The stage leaves what it does not write. -/
theorem keepA (V : Valuation τ sig (Elt F)) (r : Ref sig .tc) (h : r ∉ wrA) : after opsA V (Proc.devRef .tc r) = V (Proc.devRef .tc r) :=
  after_unwritten wrA rfl h V

/-- The operations of the softmax of the first layer. -/
abbrev opsB : List (HloOp τ sig (Elt F)) :=
  [ nullary main_cst_3 (constant S_ .f32 0xFF800000#32),
    binary main_v16 main_cst_3 main_v17 ((fun x v => Host.reduce FloatOps.maximumf x v reducesTo_S10000x10000_S10000_d1 h_S_)),
    nullary main_cst_4 (constant S_ .f32 0xFF800000#32),
    unary main_cst_4 main_v18 (broadcastInDim S10000 ![] bcast_S_S10000),
    binary main_v18 main_v17 main_v19 (maximumf),
    unary main_v19 main_v20 (broadcastInDim S10000x1 ![0] bcast_S10000_S10000x1_0),
    unary main_v20 main_v21 (broadcastInDim S10000x10000 ![0, 1] bcast_S10000x1_S10000x10000_0_1),
    binary main_v16 main_v21 main_v22 (subf),
    unary main_v22 main_v23 (Host.exp),
    nullary main_cst_5 (constant S_ .f32 0x00000000#32),
    binary main_v23 main_cst_5 main_v24 ((fun x v => Host.reduceAdd x v reducesTo_S10000x10000_S10000_d1 h_S_)),
    unary main_v24 main_v25 (broadcastInDim S10000x1 ![0] bcast_S10000_S10000x1_0),
    unary main_v25 main_v26 (broadcastInDim S10000x10000 ![0, 1] bcast_S10000x1_S10000x10000_0_1),
    binary main_v23 main_v26 main_v27 (Host.divf) ]

/-- The stage stays on the one core's buffers. -/
theorem opsB_sub : (opsB : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- The stage makes no buffer of its own. -/
theorem opsB_fresh : (opsB : List (HloOp τ sig (Elt F))).Forall fun op => op.fresh = ∅ := by
  simp only [List.Forall]; repeat' constructor

/-- What they write, in order. -/
abbrev wrB : List (Ref sig .tc) := [main_cst_3, main_v17, main_cst_4, main_v18, main_v19, main_v20, main_v21, main_v22, main_v23, main_cst_5, main_v24, main_v25, main_v26, main_v27]

/-- The stage leaves what it does not write. -/
theorem keepB (V : Valuation τ sig (Elt F)) (r : Ref sig .tc) (h : r ∉ wrB) : after opsB V (Proc.devRef .tc r) = V (Proc.devRef .tc r) :=
  after_unwritten wrB rfl h V

/-- The operations of the output of the first layer. -/
abbrev opsC : List (HloOp τ sig (Elt F)) :=
  [ binary main_v27 main_v0 main_v28 ((fun l r => Host.dotGeneral dot_S10000x10000_S10000x128_S10000x128_1_0_0_1_n_n none l r)),
    nullary main_call2_cst (constant S_ .f32 0x00000000#32),
    unary main_call2_cst main_call2_v0 (broadcastInDim S10000x128 ![] bcast_S_S10000x128),
    binary main_v28 main_call2_v0 main_call2_v1 (cmpf .ogt),
    nullary main_call2_cst_0 (constant S_ .f32 0x00000000#32),
    unary main_call2_cst_0 main_call2_v2 (broadcastInDim S10000x128 ![] bcast_S_S10000x128),
    binary main_v28 main_call2_v2 main_call2_v3 (cmpf .ogt),
    nullary main_call2_cst_1 (constant S_ .f32 0x00000000#32),
    unary main_call2_cst_1 main_call2_call0_v0 id,
    unary main_call2_call0_v0 main_call2_call0_v1 (broadcastInDim S10000x128 ![] bcast_S_S10000x128),
    ternary main_call2_v3 main_call2_call0_v1 main_v28 main_call2_v4 select,
    unary main_call2_v4 main_call2_v5 Host.expm1,
    nullary main_call2_cst_2 (constant S_ .f32 0x3F800000#32),
    unary main_call2_cst_2 main_call2_v6 (broadcastInDim S10000x128 ![] bcast_S_S10000x128),
    binary main_call2_v6 main_call2_v5 main_call2_v7 mulf,
    ternary main_call2_v1 main_v28 main_call2_v7 main_v29 select ]

/-- The stage stays on the one core's buffers. -/
theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- The stage makes no buffer of its own. -/
theorem opsC_fresh : (opsC : List (HloOp τ sig (Elt F))).Forall fun op => op.fresh = ∅ := by
  simp only [List.Forall]; repeat' constructor

/-- What they write, in order. -/
abbrev wrC : List (Ref sig .tc) := [main_v28, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v29]

/-- The stage leaves what it does not write. -/
theorem keepC (V : Valuation τ sig (Elt F)) (r : Ref sig .tc) (h : r ∉ wrC) : after opsC V (Proc.devRef .tc r) = V (Proc.devRef .tc r) :=
  after_unwritten wrC rfl h V

/-- The operations of the tree scores. -/
abbrev opsD : List (HloOp τ sig (Elt F)) :=
  [ binary main_v29 main_arg4 main_v30 ((fun l r => Host.dotGeneral dot_S10000x128_S128x128_S10000x128_1_0_0_1_n_n none l r)),
    unary main_v29 main_v31 ((transpose S128x10000 [1, 0] · transposes_S10000x128_S128x10000_1_0)),
    binary main_v30 main_v31 main_v32 ((fun l r => Host.dotGeneral dot_S10000x128_S128x10000_S10000x10000_1_0_0_1_n_n none l r)),
    nullary main_cst_6 (constant S_ .f32 0x00000000#32),
    unary main_cst_6 main_v33 (broadcastInDim S10000x10000 ![] bcast_S_S10000x10000),
    binary main_v32 main_v33 main_v34 (cmpf .oge),
    nullary main_cst_7 (constant S_ .f32 0x3E4CCCCD#32),
    unary main_cst_7 main_v35 (broadcastInDim S10000x10000 ![] bcast_S_S10000x10000),
    binary main_v35 main_v32 main_v36 (mulf),
    ternary main_v34 main_v32 main_v36 main_v37 select,
    nullary main_cst_8 (constant S_ .f32 0x00000000#32),
    unary main_cst_8 main_v38 (broadcastInDim S10000x10000 ![] bcast_S_S10000x10000),
    binary main_arg1 main_v38 main_v39 (cmpf .ogt),
    nullary main_cst_9 (constant S_ .f32 0xFF800000#32),
    unary main_cst_9 main_call4_v0 id,
    unary main_call4_v0 main_call4_v1 (broadcastInDim S10000x10000 ![] bcast_S_S10000x10000),
    ternary main_v39 main_v37 main_call4_v1 main_v40 select ]

/-- The stage stays on the one core's buffers. -/
theorem opsD_sub : (opsD : List (HloOp τ sig (Elt F))).Forall fun op => op.bufs ⊆ tcRefs τ sig :=
  ⟨binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., unary_bufs_sub .., ternary_bufs_sub ..⟩

/-- The stage makes no buffer of its own. -/
theorem opsD_fresh : (opsD : List (HloOp τ sig (Elt F))).Forall fun op => op.fresh = ∅ := by
  simp only [List.Forall]; repeat' constructor

/-- What they write, in order. -/
abbrev wrD : List (Ref sig .tc) := [main_v30, main_v31, main_v32, main_cst_6, main_v33, main_v34, main_cst_7, main_v35, main_v36, main_v37, main_cst_8, main_v38, main_v39, main_cst_9, main_call4_v0, main_call4_v1, main_v40]

/-- The stage leaves what it does not write. -/
theorem keepD (V : Valuation τ sig (Elt F)) (r : Ref sig .tc) (h : r ∉ wrD) : after opsD V (Proc.devRef .tc r) = V (Proc.devRef .tc r) :=
  after_unwritten wrD rfl h V

/-- The operations of the tree softmax. -/
abbrev opsE : List (HloOp τ sig (Elt F)) :=
  [ nullary main_cst_10 (constant S_ .f32 0xFF800000#32),
    binary main_v40 main_cst_10 main_v41 ((fun x v => Host.reduce FloatOps.maximumf x v reducesTo_S10000x10000_S10000_d1 h_S_)),
    nullary main_cst_11 (constant S_ .f32 0xFF800000#32),
    unary main_cst_11 main_v42 (broadcastInDim S10000 ![] bcast_S_S10000),
    binary main_v42 main_v41 main_v43 (maximumf),
    unary main_v43 main_v44 (broadcastInDim S10000x1 ![0] bcast_S10000_S10000x1_0),
    unary main_v44 main_v45 (broadcastInDim S10000x10000 ![0, 1] bcast_S10000x1_S10000x10000_0_1),
    binary main_v40 main_v45 main_v46 (subf),
    unary main_v46 main_v47 (Host.exp),
    nullary main_cst_12 (constant S_ .f32 0x00000000#32),
    binary main_v47 main_cst_12 main_v48 ((fun x v => Host.reduceAdd x v reducesTo_S10000x10000_S10000_d1 h_S_)),
    unary main_v48 main_v49 (broadcastInDim S10000x1 ![0] bcast_S10000_S10000x1_0),
    unary main_v49 main_v50 (broadcastInDim S10000x10000 ![0, 1] bcast_S10000x1_S10000x10000_0_1),
    binary main_v47 main_v50 main_v51 (Host.divf) ]

/-- The stage stays on the one core's buffers. -/
theorem opsE_sub : (opsE : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- The stage makes no buffer of its own. -/
theorem opsE_fresh : (opsE : List (HloOp τ sig (Elt F))).Forall fun op => op.fresh = ∅ := by
  simp only [List.Forall]; repeat' constructor

/-- What they write, in order. -/
abbrev wrE : List (Ref sig .tc) := [main_cst_10, main_v41, main_cst_11, main_v42, main_v43, main_v44, main_v45, main_v46, main_v47, main_cst_12, main_v48, main_v49, main_v50, main_v51]

/-- The stage leaves what it does not write. -/
theorem keepE (V : Valuation τ sig (Elt F)) (r : Ref sig .tc) (h : r ∉ wrE) : after opsE V (Proc.devRef .tc r) = V (Proc.devRef .tc r) :=
  after_unwritten wrE rfl h V

/-- The operations of the scores of the second layer. -/
abbrev opsF : List (HloOp τ sig (Elt F)) :=
  [ binary main_v29 main_arg5 main_v52 ((fun l r => Host.dotGeneral dot_S10000x128_S128x16_S10000x16_1_0_0_1_n_n none l r)),
    unary main_arg6 main_v53 ((extractStridedSlice S16x1 ![0, 0] · slices_S32x1_S16x1_0_0)),
    binary main_v52 main_v53 main_v54 ((fun l r => Host.dotGeneral dot_S10000x16_S16x1_S10000x1_1_0_0_1_n_n none l r)),
    unary main_arg6 main_v55 ((extractStridedSlice S16x1 ![16, 0] · slices_S32x1_S16x1_16_0)),
    binary main_v52 main_v55 main_v56 ((fun l r => Host.dotGeneral dot_S10000x16_S16x1_S10000x1_1_0_0_1_n_n none l r)),
    unary main_v56 main_v57 ((transpose S1x10000 [1, 0] · transposes_S10000x1_S1x10000_1_0)),
    unary main_v54 main_v58 (broadcastInDim S10000x10000 ![0, 1] bcast_S10000x1_S10000x10000_0_1),
    unary main_v57 main_v59 (broadcastInDim S10000x10000 ![0, 1] bcast_S1x10000_S10000x10000_0_1),
    binary main_v58 main_v59 main_v60 (addf),
    nullary main_cst_13 (constant S_ .f32 0x00000000#32),
    unary main_cst_13 main_v61 (broadcastInDim S10000x10000 ![] bcast_S_S10000x10000),
    binary main_v60 main_v61 main_v62 (cmpf .oge),
    nullary main_cst_14 (constant S_ .f32 0x3E4CCCCD#32),
    unary main_cst_14 main_v63 (broadcastInDim S10000x10000 ![] bcast_S_S10000x10000),
    binary main_v63 main_v60 main_v64 (mulf),
    ternary main_v62 main_v60 main_v64 main_v65 select,
    nullary main_cst_15 (constant S_ .f32 0x00000000#32),
    unary main_cst_15 main_v66 (broadcastInDim S10000x10000 ![] bcast_S_S10000x10000),
    binary main_arg1 main_v66 main_v67 (cmpf .ogt),
    nullary main_cst_16 (constant S_ .f32 0xFF800000#32),
    unary main_cst_16 main_call6_v0 id,
    unary main_call6_v0 main_call6_v1 (broadcastInDim S10000x10000 ![] bcast_S_S10000x10000),
    ternary main_v67 main_v65 main_call6_v1 main_v68 select ]

/-- The stage stays on the one core's buffers. -/
theorem opsF_sub : (opsF : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., unary_bufs_sub .., ternary_bufs_sub ..⟩

/-- The stage makes no buffer of its own. -/
theorem opsF_fresh : (opsF : List (HloOp τ sig (Elt F))).Forall fun op => op.fresh = ∅ := by
  simp only [List.Forall]; repeat' constructor

/-- What they write, in order. -/
abbrev wrF : List (Ref sig .tc) := [main_v52, main_v53, main_v54, main_v55, main_v56, main_v57, main_v58, main_v59, main_v60, main_cst_13, main_v61, main_v62, main_cst_14, main_v63, main_v64, main_v65, main_cst_15, main_v66, main_v67, main_cst_16, main_call6_v0, main_call6_v1, main_v68]

/-- The stage leaves what it does not write. -/
theorem keepF (V : Valuation τ sig (Elt F)) (r : Ref sig .tc) (h : r ∉ wrF) : after opsF V (Proc.devRef .tc r) = V (Proc.devRef .tc r) :=
  after_unwritten wrF rfl h V

/-- The operations of the softmax of the second layer. -/
abbrev opsG : List (HloOp τ sig (Elt F)) :=
  [ nullary main_cst_17 (constant S_ .f32 0xFF800000#32),
    binary main_v68 main_cst_17 main_v69 ((fun x v => Host.reduce FloatOps.maximumf x v reducesTo_S10000x10000_S10000_d1 h_S_)),
    nullary main_cst_18 (constant S_ .f32 0xFF800000#32),
    unary main_cst_18 main_v70 (broadcastInDim S10000 ![] bcast_S_S10000),
    binary main_v70 main_v69 main_v71 (maximumf),
    unary main_v71 main_v72 (broadcastInDim S10000x1 ![0] bcast_S10000_S10000x1_0),
    unary main_v72 main_v73 (broadcastInDim S10000x10000 ![0, 1] bcast_S10000x1_S10000x10000_0_1),
    binary main_v68 main_v73 main_v74 (subf),
    unary main_v74 main_v75 (Host.exp),
    nullary main_cst_19 (constant S_ .f32 0x00000000#32),
    binary main_v75 main_cst_19 main_v76 ((fun x v => Host.reduceAdd x v reducesTo_S10000x10000_S10000_d1 h_S_)),
    unary main_v76 main_v77 (broadcastInDim S10000x1 ![0] bcast_S10000_S10000x1_0),
    unary main_v77 main_v78 (broadcastInDim S10000x10000 ![0, 1] bcast_S10000x1_S10000x10000_0_1),
    binary main_v75 main_v78 main_v79 (Host.divf) ]

/-- The stage stays on the one core's buffers. -/
theorem opsG_sub : (opsG : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

/-- The stage makes no buffer of its own. -/
theorem opsG_fresh : (opsG : List (HloOp τ sig (Elt F))).Forall fun op => op.fresh = ∅ := by
  simp only [List.Forall]; repeat' constructor

/-- What they write, in order. -/
abbrev wrG : List (Ref sig .tc) := [main_cst_17, main_v69, main_cst_18, main_v70, main_v71, main_v72, main_v73, main_v74, main_v75, main_cst_19, main_v76, main_v77, main_v78, main_v79]

/-- The stage leaves what it does not write. -/
theorem keepG (V : Valuation τ sig (Elt F)) (r : Ref sig .tc) (h : r ∉ wrG) : after opsG V (Proc.devRef .tc r) = V (Proc.devRef .tc r) :=
  after_unwritten wrG rfl h V

/-- The operations of the sums and log-softmax. -/
abbrev opsH : List (HloOp τ sig (Elt F)) :=
  [ binary main_v79 main_v51 main_v80 (mulf),
    binary main_v80 main_v52 main_v81 ((fun l r => Host.dotGeneral dot_S10000x10000_S10000x16_S10000x16_1_0_0_1_n_n none l r)),
    nullary main_call7_cst (constant S_ .f32 0xFF800000#32),
    binary main_v81 main_call7_cst main_call7_v0 (fun x v => Host.reduce FloatOps.maximumf x v reducesTo_S10000x16_S10000_d1 h_S_),
    nullary main_call7_cst_0 (constant S_ .f32 0xFF800000#32),
    unary main_call7_cst_0 main_call7_v1 (broadcastInDim S10000 ![] bcast_S_S10000),
    binary main_call7_v1 main_call7_v0 main_call7_v2 maximumf,
    unary main_call7_v2 main_call7_v3 (broadcastInDim S10000x1 ![0] bcast_S10000_S10000x1_0),
    unary main_call7_v3 main_call7_v4 (broadcastInDim S10000x16 ![0, 1] bcast_S10000x1_S10000x16_0_1),
    binary main_v81 main_call7_v4 main_call7_v5 subf,
    unary main_call7_v5 main_call7_v6 Host.exp,
    nullary main_call7_cst_1 (constant S_ .f32 0x00000000#32),
    binary main_call7_v6 main_call7_cst_1 main_call7_v7 (fun x v => Host.reduceAdd x v reducesTo_S10000x16_S10000_d1 h_S_),
    unary main_call7_v7 main_call7_v8 (broadcastInDim S10000x1 ![0] bcast_S10000_S10000x1_0),
    unary main_call7_v8 main_call7_v9 Host.log,
    unary main_call7_v9 main_call7_v10 (broadcastInDim S10000x16 ![0, 1] bcast_S10000x1_S10000x16_0_1),
    binary main_call7_v5 main_call7_v10 main_v82 subf ]

/-- The stage stays on the one core's buffers. -/
theorem opsH_sub : (opsH : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The stage makes no buffer of its own. -/
theorem opsH_fresh : (opsH : List (HloOp τ sig (Elt F))).Forall fun op => op.fresh = ∅ := by
  simp only [List.Forall]; repeat' constructor

/-- What they write, in order. -/
abbrev wrH : List (Ref sig .tc) := [main_v80, main_v81, main_call7_cst, main_call7_v0, main_call7_cst_0, main_call7_v1, main_call7_v2, main_call7_v3, main_call7_v4, main_call7_v5, main_call7_v6, main_call7_cst_1, main_call7_v7, main_call7_v8, main_call7_v9, main_call7_v10, main_v82]

/-- The stage leaves what it does not write. -/
theorem keepH (V : Valuation τ sig (Elt F)) (r : Ref sig .tc) (h : r ∉ wrH) : after opsH V (Proc.devRef .tc r) = V (Proc.devRef .tc r) :=
  after_unwritten wrH rfl h V

/-- The first stage's products. -/
theorem valA_v0 (V : Valuation τ sig (Elt F)) : after opsA V (main_v0 : DevRef τ sig) = proj1F (V (main_arg0 : DevRef τ sig)) (V (main_arg2 : DevRef τ sig)) := by
  after_results
  rfl

/-- The first stage's masked scores. -/
theorem valA_v16 (V : Valuation τ sig (Elt F)) : after opsA V (main_v16 : DevRef τ sig) = maskF (V (main_arg1 : DevRef τ sig)) (pairs1F (proj1F (V (main_arg0 : DevRef τ sig)) (V (main_arg2 : DevRef τ sig))) (V (main_arg3 : DevRef τ sig))) := by
  after_results
  rfl

/-- The first layer's attention. -/
theorem valB_v27 (V : Valuation τ sig (Elt F)) : after opsB V (main_v27 : DevRef τ sig) = softF (V (main_v16 : DevRef τ sig)) := by
  after_results
  rfl

/-- The hidden features. -/
theorem valC_v29 (V : Valuation τ sig (Elt F)) : after opsC V (main_v29 : DevRef τ sig) = hidF (V (main_v27 : DevRef τ sig)) (V (main_v0 : DevRef τ sig)) := by
  after_results
  rfl

/-- The tree layer's masked scores. -/
theorem valD_v40 (V : Valuation τ sig (Elt F)) : after opsD V (main_v40 : DevRef τ sig) = maskF (V (main_arg1 : DevRef τ sig)) (treeF (V (main_v29 : DevRef τ sig)) (V (main_arg4 : DevRef τ sig))) := by
  after_results
  rfl

/-- The tree layer's attention. -/
theorem valE_v51 (V : Valuation τ sig (Elt F)) : after opsE V (main_v51 : DevRef τ sig) = softF (V (main_v40 : DevRef τ sig)) := by
  after_results
  rfl

/-- The second layer's products. -/
theorem valF_v52 (V : Valuation τ sig (Elt F)) : after opsF V (main_v52 : DevRef τ sig) = proj2F (V (main_v29 : DevRef τ sig)) (V (main_arg5 : DevRef τ sig)) := by
  after_results
  rfl

/-- The second layer's masked scores. -/
theorem valF_v68 (V : Valuation τ sig (Elt F)) : after opsF V (main_v68 : DevRef τ sig) = maskF (V (main_arg1 : DevRef τ sig)) (pairs2F (proj2F (V (main_v29 : DevRef τ sig)) (V (main_arg5 : DevRef τ sig))) (V (main_arg6 : DevRef τ sig))) := by
  after_results
  rfl

/-- The second layer's attention. -/
theorem valG_v79 (V : Valuation τ sig (Elt F)) : after opsG V (main_v79 : DevRef τ sig) = softF (V (main_v68 : DevRef τ sig)) := by
  after_results
  rfl

/-- The result. -/
theorem valH_v82 (V : Valuation τ sig (Elt F)) : after opsH V (main_v82 : DevRef τ sig) = lsmF (mixF (V (main_v79 : DevRef τ sig)) (V (main_v51 : DevRef τ sig)) (V (main_v52 : DevRef τ sig))) := by
  after_results
  rfl

/-- All of them. -/
abbrev ops : List (HloOp τ sig (Elt F)) := (opsA ++ (opsB ++ (opsC ++ (opsD ++ (opsE ++ (opsF ++ (opsG ++ opsH)))))))

/-- What holds throughout two lists holds throughout their concatenation. -/
theorem forall_app {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

/-- All the operations stay on the one core's buffers. -/
theorem ops_sub : (ops : List (HloOp τ sig (Elt F))).Forall fun op => op.bufs ⊆ tcRefs τ sig :=
  forall_app opsA_sub (forall_app opsB_sub (forall_app opsC_sub (forall_app opsD_sub (forall_app opsE_sub (forall_app opsF_sub (forall_app opsG_sub opsH_sub))))))

/-- No operation makes a buffer of its own. -/
theorem ops_fresh : (ops : List (HloOp τ sig (Elt F))).Forall fun op => op.fresh = ∅ :=
  forall_app opsA_fresh (forall_app opsB_fresh (forall_app opsC_fresh (forall_app opsD_fresh (forall_app opsE_fresh (forall_app opsF_fresh (forall_app opsG_fresh opsH_fresh))))))

/-- What the operations leave, a stage at a time. -/
theorem after_ops (V : Valuation τ sig (Elt F)) :
    after ops V = after opsH (after opsG (after opsF (after opsE (after opsD (after opsC (after opsB (after opsA V))))))) := by
  unfold ops; simp only [after_append]

/-- A buffer that no operation writes is as before. -/
theorem keep (V : Valuation τ sig (Elt F)) (r : Ref sig .tc) (h : r ∉ wrA ++ wrB ++ wrC ++ wrD ++ wrE ++ wrF ++ wrG ++ wrH) :
    after ops V (Proc.devRef .tc r) = V (Proc.devRef .tc r) := by
  simp only [List.mem_append, not_or] at h
  obtain ⟨⟨⟨⟨⟨⟨⟨hA, hB⟩, hC⟩, hD⟩, hE⟩, hF⟩, hG⟩, hH⟩ := h
  rw [after_ops, keepH _ _ hH, keepG _ _ hG, keepF _ _ hF, keepE _ _ hE, keepD _ _ hD, keepC _ _ hC, keepB _ _ hB, keepA _ _ hA]

/-- The result buffer after all of them. -/
theorem value (V : Valuation τ sig (Elt F)) : after ops V (main_v82 : DevRef τ sig)
    = outF (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig)) := by
  rw [after_ops, valH_v82, valG_v79, keepG _ main_v51 (by decide), keepG _ main_v52 (by decide), valF_v68, valF_v52, keepF _ main_v51 (by decide),
    valE_v51, keepE _ main_v29 (by decide), keepE _ main_arg1 (by decide), keepE _ main_arg5 (by decide), keepE _ main_arg6 (by decide),
    valD_v40, keepD _ main_v29 (by decide), keepD _ main_arg1 (by decide), keepD _ main_arg5 (by decide), keepD _ main_arg6 (by decide),
    valC_v29, keepC _ main_arg1 (by decide), keepC _ main_arg4 (by decide), keepC _ main_arg5 (by decide), keepC _ main_arg6 (by decide),
    valB_v27, keepB _ main_v0 (by decide), keepB _ main_arg1 (by decide), keepB _ main_arg4 (by decide), keepB _ main_arg5 (by decide), keepB _ main_arg6 (by decide),
    valA_v0, valA_v16, keepA _ main_arg1 (by decide), keepA _ main_arg4 (by decide), keepA _ main_arg5 (by decide), keepA _ main_arg6 (by decide)]
  rfl

set_option maxRecDepth 200000 in
/-- The program is these operations, in order. -/
theorem main_eq (c : Dev nD) : main (F := F) c = seq ops := rfl

/-- Every buffer is an unscoped one. -/
theorem tc_eq_uc : ∀ b : Ref sig .tc, b.isScoped = false := by decide

/-- The program has no unscoped semaphore. -/
theorem no_unscoped : ∀ sm : SemLoc sig, sm.isScoped .tc = true := by decide

variable [∀ e, Nonempty (Elt F e)]

/-- From any memory with zero counters the program ends, each buffer at what the operations leave and each counter at zero. -/
theorem run (m : (ℓ : Loc nD τ sig) → Buf (Elt F) ℓ) (g : Dev nD → PrngReg) :
    θ_run defs (onTc (τ := τ) (main (F := F))) ⟨m, fun _ => 0, g⟩ fun r =>
      (∀ (c : Dev nD) (b : Ref sig .tc), r.2.mem ((c.tc : Thread nD τ).loc b) = after ops (launchContents m c) (Proc.devRef .tc b))
        ∧ r.2.sem = fun _ => 0 := by
  refine Cert.Chain.θ_run_open (pcfgs (F := F)) (fun p => p.elim0) _ Variants.none (fun x => x.1.elim0) (fun p => p.elim0) m g main (launchContents m)
    (fun _ _ => rfl) (fun c V => V = after ops (launchContents m c)) ?_ ?_
  · intro c β k K
    rw [main_eq c]
    unfold Cert.Chain.at_
    iintro ⟨Hk, Hbd, ⟨Hh, HO⟩, -, -⟩
    iapply (StableHlo.wp_seq _ none Set.univ c (ucRefs τ sig) _ ops (fun op h => sub_ucRefs op ((List.forall_iff_forall_mem.mp ops_sub) op h))
      (fun op h => (List.forall_iff_forall_mem.mp ops_fresh) op h) (launchContents m c)) $$ [Hbd Hh]
    · isplitl [Hbd] <;> iassumption
    iintro ⟨Hbd, Hh⟩
    iapply Hk
    isplitl [Hbd]; · iexact Hbd
    iexists _; isplitr; · ipureintro; exact rfl
    isplitl [Hh]; · iexact Hh
    iexact HO
  · intro s h hz
    refine ⟨fun c b => ?_, funext fun g => hz g ?_⟩
    · obtain ⟨V, rfl, hb⟩ := h c
      exact hb _ (devRef_mem_ucRefs (tc_eq_uc b))
    · exact .inr (no_unscoped g.2)

end Cert.ReferenceIdeal.Hand
end
-- ==== Proof.V.Spec.lean ====
/- The two-layer graph attention in real numbers: what every stage of the computation is at an index, and the laws it rests on. -/
module

public import Idealize.ShloMosaic.Lib.Pointwise

@[expose] public section

noncomputable section

namespace Cert.Gat

open Idealize.ShloMosaic

/-- The slope of the leaky rectifier below zero: the rational that the program's word for 0.2 is. -/
def al : ℝ := 13421773 / 67108864

/-- The leaky rectifier. -/
def lk (x : ℝ) : ℝ := if 0 ≤ x then x else al * x

/-- The exponential linear unit. -/
def elu (x : ℝ) : ℝ := if 0 < x then x else Real.exp x - 1

/-- The base-two scale of a natural exponent. -/
def lb : ℝ := (Real.log 2)⁻¹

/-- The inputs as real arrays over all the natural numbers: zero, and without an edge, past the end. -/
structure Data where
  X : ℕ → ℕ → ℝ
  E : ℕ → ℕ → Prop
  W1 : ℕ → ℕ → ℝ
  A1 : ℕ → ℕ → ℝ
  Wt : ℕ → ℕ → ℝ
  W2 : ℕ → ℕ → ℝ
  A2 : ℕ → ℕ → ℝ
  X_out : ∀ i k, 10000 ≤ i → X i k = 0
  E_in : ∀ i j, E i j → i < 10000 ∧ j < 10000
  E_some : ∀ i, i < 10000 → ∃ j, E i j

namespace Data

variable (D : Data)

/-- The first layer's products. -/
def wh (i k : ℕ) : ℝ := ∑ f : Fin 128, D.X i f * D.W1 f k
/-- Their projections on the own half of the attention vector. -/
def p (i : ℕ) : ℝ := ∑ f : Fin 128, D.wh i f * D.A1 f 0
/-- Their projections on the neighbour half. -/
def q (j : ℕ) : ℝ := ∑ f : Fin 128, D.wh j f * D.A1 (128 + f) 0

open Classical in
/-- The weight of an edge with score `e`, before the row is normalised: `exp (lk e)`, and nothing where there is no edge. -/
def wgt (e : ℕ → ℕ → ℝ) (i j : ℕ) : ℝ := if D.E i j then Real.exp (lk (e i j)) else 0
/-- The sum of a row's weights. -/
def tot (e : ℕ → ℕ → ℝ) (i : ℕ) : ℝ := ∑ j : Fin 10000, D.wgt e i j

/-- The first layer's scores. -/
def e1 (i j : ℕ) : ℝ := D.p i + D.q j
/-- The first layer's weighted sums. -/
def s1 (i k : ℕ) : ℝ := ∑ j : Fin 10000, D.wgt D.e1 i j * D.wh j k
/-- The first layer's output. -/
def h (i k : ℕ) : ℝ := elu (D.s1 i k / D.tot D.e1 i)
/-- Its product with the tree weight. -/
def xw (i k : ℕ) : ℝ := ∑ f : Fin 128, D.h i f * D.Wt f k
/-- The tree scores. -/
def et (i j : ℕ) : ℝ := ∑ k : Fin 128, D.xw i k * D.h j k
/-- The second layer's products. -/
def v (j c : ℕ) : ℝ := ∑ k : Fin 128, D.h j k * D.W2 k c
/-- Their projections on the own half of the second attention vector. -/
def p2 (i : ℕ) : ℝ := ∑ c : Fin 16, D.v i c * D.A2 c 0
/-- Their projections on the neighbour half. -/
def q2 (j : ℕ) : ℝ := ∑ c : Fin 16, D.v j c * D.A2 (16 + c) 0
/-- The second layer's scores. -/
def e2 (i j : ℕ) : ℝ := D.p2 i + D.q2 j
/-- The second layer's weighted sums. -/
def s2 (i c : ℕ) : ℝ := ∑ j : Fin 10000, D.wgt D.e2 i j * D.wgt D.et i j * D.v j c
/-- The second layer before the last step. -/
def mix (i c : ℕ) : ℝ := D.s2 i c / (D.tot D.e2 i * D.tot D.et i)
/-- The result: the logarithm of the softmax. -/
def out (i c : ℕ) : ℝ := D.mix i c - Real.log (∑ k : Fin 16, Real.exp (D.mix i k))

variable {D}

/-- No weight is negative. -/
theorem wgt_nonneg (e : ℕ → ℕ → ℝ) (i j : ℕ) : 0 ≤ D.wgt e i j := by
  unfold wgt; split
  · exact (Real.exp_pos _).le
  · exact le_refl 0

/-- Off the edges the weight is zero. -/
theorem wgt_out (e : ℕ → ℕ → ℝ) {i j : ℕ} (h : ¬ D.E i j) : D.wgt e i j = 0 := by unfold wgt; rw [if_neg h]

/-- On an edge the weight is the exponential. -/
theorem wgt_in (e : ℕ → ℕ → ℝ) {i j : ℕ} (h : D.E i j) : D.wgt e i j = Real.exp (lk (e i j)) := by unfold wgt; rw [if_pos h]

/-- A row inside the array has a positive weight sum. -/
theorem tot_pos (e : ℕ → ℕ → ℝ) {i : ℕ} (hi : i < 10000) : 0 < D.tot e i := by
  obtain ⟨j, hj⟩ := D.E_some i hi
  have hj' := (D.E_in i j hj).2
  refine Finset.sum_pos' (fun j _ => wgt_nonneg e i j) ⟨⟨j, hj'⟩, Finset.mem_univ _, ?_⟩
  rw [wgt_in e hj]; exact Real.exp_pos _

/-- A sum over columns against a function that vanishes past the end is a sum over the columns inside. -/
theorem sum_pad (f : ℕ → ℝ) (h : ∀ j, 10000 ≤ j → f j = 0) {n : ℕ} (hn : 10000 ≤ n) : ∑ j ∈ Finset.range n, f j = ∑ j : Fin 10000, f j := by
  rw [Fin.sum_univ_eq_sum_range (fun j => f j)]
  symm
  refine Finset.sum_subset (fun j hj => Finset.mem_range.mpr (lt_of_lt_of_le (Finset.mem_range.mp hj) hn)) fun j _ hj => h j ?_
  exact not_lt.mp fun h' => hj (Finset.mem_range.mpr h')

/-- Past the last row nothing has a weight. -/
theorem wgt_row (e : ℕ → ℕ → ℝ) {i : ℕ} (hi : 10000 ≤ i) (j : ℕ) : D.wgt e i j = 0 :=
  wgt_out e fun h => absurd (D.E_in i j h).1 (not_lt.mpr hi)

/-- Past the last column nothing has a weight. -/
theorem wgt_col (e : ℕ → ℕ → ℝ) (i : ℕ) {j : ℕ} (hj : 10000 ≤ j) : D.wgt e i j = 0 :=
  wgt_out e fun h => absurd (D.E_in i j h).2 (not_lt.mpr hj)

/-- Past the last row the products are zero. -/
theorem wh_out {i : ℕ} (hi : 10000 ≤ i) (k : ℕ) : D.wh i k = 0 :=
  Finset.sum_eq_zero fun f _ => by rw [D.X_out i f hi, zero_mul]

/-- Past the last row the hidden features are zero. -/
theorem h_out {i : ℕ} (hi : 10000 ≤ i) (k : ℕ) : D.h i k = 0 := by
  have : D.s1 i k = 0 := Finset.sum_eq_zero fun j _ => by rw [wgt_row _ hi, zero_mul]
  unfold h elu; rw [this, zero_div, if_neg (lt_irrefl _), Real.exp_zero, sub_self]

end Data

/-! ## Real laws -/

/-- The slope is positive. -/
theorem al_pos : 0 < al := by unfold al; norm_num
/-- The slope is at most one. -/
theorem al_le : al ≤ 1 := by unfold al; norm_num
/-- 1 / log 2 is positive. -/
theorem lb_pos : 0 < lb := inv_pos.mpr (Real.log_pos (by norm_num))

/-- The rectifier as a maximum. -/
theorem max_lk (x : ℝ) : max x (al * x) = lk x := by
  unfold lk; split
  · next h => exact max_eq_left (by nlinarith [al_le])
  · next h => exact max_eq_right (by nlinarith [al_le, not_le.mp h])

/-- The rectifier commutes with a positive scale. -/
theorem lk_scale (x : ℝ) : lk (lb * x) = lb * lk x := by
  have := lb_pos
  unfold lk
  by_cases h : 0 ≤ x
  · rw [if_pos h, if_pos (mul_nonneg this.le h)]
  · rw [if_neg h, if_neg (by push Not at h ⊢; exact mul_neg_of_pos_of_neg this h)]; ring

/-- A base-two power of a scaled and shifted exponent. -/
theorem pow_scale (x m : ℝ) : (2 : ℝ) ^ (lb * x - m) = Real.exp x * (2 : ℝ) ^ (-m) := by
  have h2 : (0 : ℝ) < 2 := by norm_num
  have hl : Real.log 2 ≠ 0 := (Real.log_pos (by norm_num)).ne'
  rw [sub_eq_add_neg, Real.rpow_add h2]; congr 1
  rw [Real.rpow_def_of_pos h2]; congr 1; unfold lb; field_simp

/-- A base-two power is positive. -/
theorem two_pos (m : ℝ) : (0 : ℝ) < (2 : ℝ) ^ m := Real.rpow_pos_of_pos (by norm_num) m

/-! ## The extended reals -/

/-- A sum of reals, among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A maximum of reals, among the extended reals. -/
theorem coe_max (x y : ℝ) : ((max x y : ℝ) : EReal) = max (x : EReal) (y : EReal) := EReal.coe_strictMono.monotone.map_max

/-- The word of 0.2. -/
theorem lit_al : Ideal.ofBits .f32 0x3E4CCCCD#32 = ((al : ℝ) : EReal) := by
  unfold al; simp [Ideal.ofBits, Ideal.ieee, -EReal.coe_mul]; norm_num

/-- The word of −∞. -/
theorem lit_bot : Ideal.ofBits .f32 0xFF800000#32 = (⊥ : EReal) := by
  simp [Ideal.ofBits, Ideal.ieee]

/-- The rectifier on the extended reals, at a real. -/
theorem max_coe (x : ℝ) : max (x : EReal) ((al : EReal) * (x : EReal)) = ((lk x : ℝ) : EReal) := by
  rw [← EReal.coe_mul, ← coe_max, max_lk]

/-- The rectifier at −∞. -/
theorem max_bot : max (⊥ : EReal) ((al : EReal) * ⊥) = ⊥ := by
  rw [EReal.coe_mul_bot_of_pos al_pos, max_self]

/-- The power of two of a score in base 2 less a real bound. -/
theorem exp2_coe' (x m : ℝ) : Ideal.exp2 (((lb * x : ℝ) : EReal) - (m : EReal)) = ((Real.exp x * (2 : ℝ) ^ (-m) : ℝ) : EReal) := by
  rw [← EReal.coe_sub, Ideal.exp2_coe, ← pow_scale]; rfl

/-- The power of two of −∞ less a real bound. -/
theorem exp2_bot' (m : ℝ) : Ideal.exp2 ((⊥ : EReal) - (m : EReal)) = 0 := by
  rw [EReal.bot_sub, Ideal.exp2_bot]

/-- A quotient of reals, among the extended reals. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A maximum over a finite set of values, each real or −∞ and one of them real, with −∞ put in, is real. -/
theorem fold_max_real {ι : Type*} [Fintype ι] (f : ι → EReal) (hf : ∀ i, f i ≠ ⊤) (i₀ : ι) (h₀ : f i₀ ≠ ⊥) (a : EReal) (ha : a ≠ ⊤) :
    ∃ r : ℝ, Finset.fold max a f Finset.univ = (r : EReal) := by
  have ht : Finset.fold max a f Finset.univ ≠ ⊤ := by
    have : Finset.fold max a f Finset.univ < ⊤ :=
      (Finset.fold_max_lt (s := Finset.univ) (f := f) (b := a) ⊤).mpr ⟨lt_top_iff_ne_top.mpr ha, fun x _ => lt_top_iff_ne_top.mpr (hf x)⟩
    exact this.ne
  have hb : Finset.fold max a f Finset.univ ≠ ⊥ := by
    have : f i₀ ≤ Finset.fold max a f Finset.univ :=
      (Finset.le_fold_max (s := Finset.univ) (f := f) (b := a) (f i₀)).mpr (.inr ⟨i₀, Finset.mem_univ _, le_refl _⟩)
    exact fun e => h₀ (le_bot_iff.mp (e ▸ this))
  exact ⟨_, (EReal.coe_toReal ht hb).symm⟩

/-- The maximum of a real and something that is not ⊤ is real. -/
theorem max_real {x y : EReal} (hx : x ≠ ⊤) (hy : ∃ r : ℝ, y = (r : EReal)) : ∃ r : ℝ, max x y = (r : EReal) := by
  obtain ⟨r, rfl⟩ := hy
  have ht : max x (r : EReal) ≠ ⊤ := by
    rcases max_choice x (r : EReal) with h | h <;> rw [h]
    · exact hx
    · exact EReal.coe_ne_top r
  have hb : max x (r : EReal) ≠ ⊥ := fun e => EReal.coe_ne_bot r (le_bot_iff.mp (e ▸ le_max_right x (r : EReal)))
  exact ⟨_, (EReal.coe_toReal ht hb).symm⟩

/-- A real logarithm of a softmax does not depend on the shift. -/
theorem lsm_shift {n : ℕ} (x : Fin n → ℝ) (m : ℝ) (c : Fin n) (hn : 0 < n) :
    Real.log (∑ k, Real.exp (x k - m)) = Real.log (∑ k, Real.exp (x k)) - m := by
  have hs : 0 < ∑ k, Real.exp (x k) := Finset.sum_pos (fun k _ => Real.exp_pos _) ⟨⟨0, hn⟩, Finset.mem_univ _⟩
  have : ∑ k, Real.exp (x k - m) = (∑ k, Real.exp (x k)) * Real.exp (-m) := by
    rw [Finset.sum_mul]; exact Finset.sum_congr rfl fun k _ => by rw [sub_eq_add_neg, Real.exp_add]
  rw [this, Real.log_mul hs.ne' (Real.exp_pos _).ne', Real.log_exp]; ring

/-- An array of rank two holds `f`. -/
def Is {a b : ℕ} {φ : FTy} (x : FVec Ideal ⟨2, ![a, b]⟩ φ) (f : ℕ → ℕ → EReal) : Prop :=
  ∀ (i : Fin a) (j : Fin b), x (ix2 i j) = f i j

end Cert.Gat
end
-- ==== Proof.V.Pay0.lean ====
/- The first call's values at an index: the products, their projections, and what is laid past the end. -/
module

public import proofs.«01_k».proof.Proof.I.Body0
public import proofs.«01_k».proof.Proof.V.Spec

@[expose] public section

set_option maxRecDepth 16384

noncomputable section

namespace Cert.KernelIdeal.Hand

open Cert.KernelIdeal Cert.KernelIdeal.Gen Cert.Gat
open Idealize.ShloMosaic Idealize.ShloMosaic.TcCoe

/-- The named constant's value. -/
theorem named_lb : (Named.named (F := Ideal) (φ := .f32) κ "log2e" 0x3FB8AA3B#32 : EReal) = ((lb : ℝ) : EReal) :=
  IdealRules.named_const.ideal_named_scalar _ _ _ _ rfl

/-- The test that masks what lies past the end. -/
theorem mask_row {b r : ℕ} (hb : b < 20) (hr : r < 512) :
    IntOp.cmpi .slt (IntOp.addi (Scalar.muli (BitVec.ofNat 32 b) 512#32) (BitVec.ofNat 32 r)) 10000#32 = BitVec.ofBool (decide (512 * b + r < 10000)) := by
  have h : IntOp.addi (Scalar.muli (BitVec.ofNat 32 b) 512#32) (BitVec.ofNat 32 r) = BitVec.ofNat 32 (512 * b + r) := by
    apply BitVec.eq_of_toNat_eq
    show (BitVec.ofNat 32 b * 512#32 + BitVec.ofNat 32 r).toNat = _
    simp only [BitVec.toNat_add, BitVec.toNat_mul, BitVec.toNat_ofNat]; omega
  rw [h]; unfold IntOp.cmpi; congr 1
  show BitVec.slt _ _ = _
  rw [BitVec.slt_eq_decide]; congr 1
  have h1 : (BitVec.ofNat 32 (512 * b + r)).toInt = (512 * b + r : ℕ) := by
    rw [BitVec.toInt_eq_toNat_of_lt (by rw [BitVec.toNat_ofNat]; omega), BitVec.toNat_ofNat]; congr 1; omega
  have h2 : (10000#32).toInt = 10000 := by decide
  rw [h1, h2]; exact propext ⟨fun h => by exact_mod_cast h, fun h => by exact_mod_cast h⟩

/-- The products with a column of ones beside them. -/
def whx (D : Data) (i k : ℕ) : ℝ := if k < 128 then D.wh i k else if k = 128 then 1 else 0

/-- A row of values with −∞ past the end. -/
def padBot (f : ℕ → ℝ) (j : ℕ) : EReal := if j < 10000 then ((f j : ℝ) : EReal) else ⊥

section

variable (D : Data) (i : grid0.Coords)
  (x1 : Vec Ideal S512x128 .f32) (x2 : Vec Ideal S128x128 .f32) (x3 : Vec Ideal S256x1 .f32)
  (h1 : ∀ (r : Fin 512) (f : Fin 128), 512 * (i 0).val + r.val < 10000 → x1 (ix2 r f) = ((D.X (512 * (i 0).val + r) f : ℝ) : EReal))
  (h2 : Is (φ := .f32) x2 fun f k => ((D.W1 f k : ℝ) : EReal)) (h3 : Is (φ := .f32) x3 fun f k => ((D.A1 f k : ℝ) : EReal))

include h1 h2

/-- The masked products. -/
theorem pay0_6 (r : Fin 512) (k : Fin 128) : k0_pay6 i x1 x2 (ix2 r k) = ((D.wh (512 * (i 0).val + r) k : ℝ) : EReal) := by
  pointwise [k0_pay6]
  rw [mask_row (i 0).isLt r.isLt, Scalar.select_ofBool]
  by_cases h : 512 * (i 0).val + r.val < 10000
  · rw [if_pos (by simpa using h)]
    unfold Data.wh; rw [coe_sum]
    exact Finset.sum_congr rfl fun f _ => by rw [h1 r f h, h2 f k, EReal.coe_mul]
  · rw [if_neg (by simpa using h), Data.wh_out (not_lt.mp h)]; rfl

/-- The stored products, with the column of ones. -/
theorem pay0_7 (r : Fin 512) (k : Fin 136) : k0_pay7 i x1 x2 (ix2 r k) = ((whx D (512 * (i 0).val + r) k : ℝ) : EReal) := by
  pointwise [k0_pay7]
  unfold whx
  by_cases h : k.val < 128
  · rw [dif_pos h, if_pos h]; exact pay0_6 D i x1 x2 h1 h2 r ⟨k.val, h⟩
  · rw [dif_neg h, if_neg h]
    unfold IntOp.cmpi; rw [Scalar.select_ofBool]
    have hk := k.isLt
    by_cases h' : k.val = 128
    · rw [if_pos h', h']; rfl
    · rw [if_neg h', if_neg]; · rfl
      simp only [beq_iff_eq]
      intro e
      have := congrArg BitVec.toNat e
      simp only [BitVec.toNat_ofNat] at this; omega

include h3

/-- The scaled projections on the own half. -/
theorem val_s1a (r : Fin 512) (o : Fin 1) : s1a0 i x1 x2 x3 (ix2 r o) = ((lb * D.p (512 * (i 0).val + r) : ℝ) : EReal) := by
  pointwise [s1a0, k0_pay8]
  rw [named_lb, EReal.coe_mul]; congr 1
  unfold Data.p; rw [coe_sum]
  refine Finset.sum_congr rfl fun f _ => ?_
  rw [pay0_6 D i x1 x2 h1 h2, EReal.coe_mul]; congr 1
  exact h3 ⟨f, by omega⟩ 0

/-- The scaled projections on the neighbour half, −∞ past the end. -/
theorem val_s1b (o : Fin 1) (r : Fin 512) : s1b0 i x1 x2 x3 (ix2 o r) = padBot (fun j => lb * D.q j) (512 * (i 0).val + r) := by
  pointwise [s1b0, raw0, k0_pay9, k0_pay1]
  rw [mask_row (i 0).isLt r.isLt, Scalar.select_ofBool, lit_bot]
  unfold padBot
  by_cases h : 512 * (i 0).val + r.val < 10000
  · rw [if_pos (by simpa using h), if_pos h, named_lb, EReal.coe_mul]; congr 1
    unfold Data.q; rw [coe_sum]
    refine Finset.sum_congr rfl fun f _ => ?_
    rw [pay0_6 D i x1 x2 h1 h2, mul_comm, EReal.coe_mul]; congr 1
    exact h3 ⟨128 + f.val, by omega⟩ 0
  · rw [if_neg (by simpa using h), if_neg h]

open Classical in
/-- The running maximum stays real. -/
theorem val_max0 (x10 : Vec Ideal S1x1 .f32) (hm : ¬ fst0 i → ∃ r : ℝ, x10 (ix2 0 0) = (r : EReal)) :
    ∃ r : ℝ, max0 i x1 x2 x3 x10 (ix2 0 0) = (r : EReal) := by
  have e : max0 i x1 x2 x3 x10 (ix2 0 0) = max ((if fst0 i then k0_pay3 (F := Ideal) else x10) (ix2 0 0))
      (Finset.fold max (Ideal.ofBits FTy.f32 0xFF800000#32) (fun x => s1b0 i x1 x2 x3 (ix2 0 x)) Finset.univ) := by
    pointwise [max0, k0_pay5, s1b0]
  rw [e]
  refine max_real ?_ (fold_max_real _ (fun x => ?_) 0 ?_ _ ?_)
  · split
    · pointwise [k0_pay3]; rw [lit_bot]; exact bot_ne_top
    · next h => obtain ⟨r, hr⟩ := hm h; rw [hr]; exact EReal.coe_ne_top r
  · rw [val_s1b D i x1 x2 x3 h1 h2 h3]; unfold padBot; split
    · exact EReal.coe_ne_top _
    · exact bot_ne_top
  · rw [val_s1b D i x1 x2 x3 h1 h2 h3]; unfold padBot
    have := (i 0).isLt
    rw [if_pos (by show 512 * (i 0).val + 0 < 10000; have : (i 0).val < 20 := this; omega)]; exact EReal.coe_ne_bot _
  · rw [lit_bot]; exact bot_ne_top

end

end Cert.KernelIdeal.Hand
end
-- ==== Proof.V.Pay1.lean ====
/- The second call's values at an index: the weights, their sums, and what a finished block of rows becomes. -/
module

public import proofs.«01_k».proof.Proof.I.Body1
public import proofs.«01_k».proof.Proof.V.Pay0

@[expose] public section

set_option maxRecDepth 16384

noncomputable section

namespace Cert.KernelIdeal.Hand

open Cert.KernelIdeal Cert.KernelIdeal.Gen Cert.Gat
open Idealize.ShloMosaic Idealize.ShloMosaic.TcCoe

/-- A weight of the first kind, at an index: from scaled scores `lb * a` and `lb * b` and a real shift. -/
theorem weight_add {P : Prop} [Decidable P] {E : Prop} [Decidable E] (a b m : ℝ) (c : EReal) (hP : P ↔ E) (hc : c = ((lb * b : ℝ) : EReal)) :
    Ideal.exp2 ((if P then max (((lb * a : ℝ) : EReal) + c) (Ideal.ofBits .f32 0x3E4CCCCD#32 * (((lb * a : ℝ) : EReal) + c)) else Ideal.ofBits .f32 0xFF800000#32) - (m : EReal))
      = (((if E then Real.exp (lk (a + b)) else 0) * (2 : ℝ) ^ (-m) : ℝ) : EReal) := by
  rw [lit_al, lit_bot, hc]
  by_cases h : P
  · rw [if_pos h, if_pos (hP.mp h), ← EReal.coe_add, max_coe, ← mul_add, lk_scale, exp2_coe']
  · rw [if_neg h, if_neg (fun h' => h (hP.mpr h')), exp2_bot', zero_mul]; rfl

/-- The same against −∞. -/
theorem weight_add_bot {P : Prop} [Decidable P] (a m : ℝ) (c : EReal) (hc : c = ⊥) :
    Ideal.exp2 ((if P then max (((lb * a : ℝ) : EReal) + c) (Ideal.ofBits .f32 0x3E4CCCCD#32 * (((lb * a : ℝ) : EReal) + c)) else Ideal.ofBits .f32 0xFF800000#32) - (m : EReal)) = 0 := by
  rw [lit_al, lit_bot, hc, EReal.add_bot, max_bot, ite_self, exp2_bot']

/-- The sum of a block's columns continues the sum of the columns before it. -/
theorem sum_step (f : ℕ → ℝ) (n w : ℕ) : (∑ j ∈ Finset.range n, f j) + ∑ x : Fin w, f (n + x) = ∑ j ∈ Finset.range (n + w), f j := by
  rw [Fin.sum_univ_eq_sum_range (fun x => f (n + x)), Finset.sum_range_add]

/-- The first block of a row, in numbers. -/
theorem fst1_iff (i : grid1.Coords) : fst1 i ↔ (i 1).val = 0 :=
  (by decide +kernel : ∀ n : Fin 10, (Scalar.cmpi .ne (Scalar.extui (Scalar.cmpi .eq (BitVec.ofNat 32 n.val) 0#32) : BitVec 32) 0#32 = 1#1) ↔ n.val = 0) (i 1)

/-- The first row of blocks, in numbers. -/
theorem top1_iff (i : grid1.Coords) : top1 i ↔ (i 0).val = 0 :=
  (by decide +kernel : ∀ n : Fin 20, (Scalar.cmpi .ne (Scalar.extui (Scalar.cmpi .eq (BitVec.ofNat 32 n.val) 0#32) : BitVec 32) 0#32 = 1#1) ↔ n.val = 0) (i 0)

/-- The last block of a row, in numbers. -/
theorem fin1_iff (i : grid1.Coords) : k1_cond2 i = 1#1 ↔ (i 1).val = 9 := by
  unfold k1_cond2
  exact (by decide +kernel : ∀ n : Fin 10, (Scalar.cmpi .ne (Scalar.extui (Scalar.cmpi .eq (BitVec.ofNat 32 n.val) 9#32) : BitVec 32) 0#32 = 1#1) ↔ n.val = 9) (i 1)

/-- The last row of blocks, in numbers. -/
theorem last1_iff (i : grid1.Coords) : k1_cond4 i = 1#1 ↔ (i 0).val = 19 := by
  unfold k1_cond4
  exact (by decide +kernel : ∀ n : Fin 20, (Scalar.cmpi .ne (Scalar.extui (Scalar.cmpi .eq (BitVec.ofNat 32 n.val) 19#32) : BitVec 32) 0#32 = 1#1) ↔ n.val = 19) (i 0)

/-- The columns' products are read from the block's first column on. -/
theorem off1_0 (i : grid1.Coords) : k1_off1 i 0 = 1024 * (i 1).val := by
  unfold k1_off1
  exact (by decide +kernel : ∀ n : Fin 10, (Scalar.indexCast (Scalar.muli (BitVec.ofNat 32 n.val) 1024#32)).toNat = 1024 * n.val) (i 1)

/-- … and from their first entry on. -/
theorem off1_1 (i : grid1.Coords) : k1_off1 i 1 = 0 := rfl

/-- The shift of a row of the first layer. -/
def sh1 (D : Data) (M : ℝ) (n : ℕ) : ℝ := lk (lb * D.p n + M)

section

variable (D : Data) (M : ℝ) (i : grid1.Coords)
  (x2 : Vec Ideal S512x1024 .f32) (x3 : Vec Ideal S10240x136 .bf16) (x4 : Vec Ideal S512x1 .f32) (x5 : Vec Ideal S1x1024 .f32) (x6 : Vec Ideal S1x1 .f32)
  (h2 : ∀ (r : Fin 512) (s : Fin 1024), 512 * (i 0).val + r.val < 10000 → 1024 * (i 1).val + s.val < 10000 →
    ((0 : EReal) < x2 (ix2 r s) ↔ D.E (512 * (i 0).val + r) (1024 * (i 1).val + s)))
  (h3 : Is (φ := .bf16) x3 fun n k => ((whx D n k : ℝ) : EReal))
  (h4 : ∀ r : Fin 512, x4 (ix2 r 0) = ((lb * D.p (512 * (i 0).val + r) : ℝ) : EReal))
  (h5 : ∀ s : Fin 1024, x5 (ix2 0 s) = padBot (fun j => lb * D.q j) (1024 * (i 1).val + s))
  (h6 : x6 (ix2 0 0) = (M : EReal))

include h2 h4 h5 h6

/-- The weights of a block, scaled by the row's shift. -/
theorem val_p1 (r : Fin 512) (s : Fin 1024) (hr : 512 * (i 0).val + r.val < 10000) :
    k1_pay20 x4 x6 x4 x5 x2 (ix2 r s) = ((D.wgt D.e1 (512 * (i 0).val + r) (1024 * (i 1).val + s) * (2 : ℝ) ^ (-sh1 D M (512 * (i 0).val + r)) : ℝ) : EReal) := by
  classical
  pointwise [k1_pay20]
  have e : max (x4 (ix2 r 0) + x6 (ix2 0 0)) (Ideal.ofBits .f32 0x3E4CCCCD#32 * (x4 (ix2 r 0) + x6 (ix2 0 0))) = ((sh1 D M (512 * (i 0).val + r) : ℝ) : EReal) := by
    rw [h4, h6, lit_al, ← EReal.coe_add, max_coe]; rfl
  rw [e, h4]
  by_cases hs : 1024 * (i 1).val + s.val < 10000
  · unfold Data.wgt
    convert weight_add (D.p (512 * (i 0).val + r)) (D.q (1024 * (i 1).val + s)) _ _ (h2 r s hr hs) ((h5 s).trans (if_pos hs)) using 1
    all_goals rfl
  · rw [Data.wgt_col _ _ (not_lt.mp hs), zero_mul]
    exact weight_add_bot _ _ _ ((h5 s).trans (if_neg hs))

include h3

open Classical in
/-- The accumulator after a block of columns. -/
theorem val_acc1 (x20 : Vec Ideal S512x136 .f32) (r : Fin 512) (k : Fin 136) (hr : 512 * (i 0).val + r.val < 10000)
    (hx : (i 1).val ≠ 0 → x20 (ix2 r k) = (((∑ j ∈ Finset.range (1024 * (i 1).val), D.wgt D.e1 (512 * (i 0).val + r) j * whx D j k) * (2 : ℝ) ^ (-sh1 D M (512 * (i 0).val + r)) : ℝ) : EReal)) :
    acc1 i x2 x3 x4 x5 x6 x20 (ix2 r k)
      = (((∑ j ∈ Finset.range (1024 * ((i 1).val + 1)), D.wgt D.e1 (512 * (i 0).val + r) j * whx D j k) * (2 : ℝ) ^ (-sh1 D M (512 * (i 0).val + r)) : ℝ) : EReal) := by
  pointwise [acc1, k1_pay1, k1_pay19]
  have e0 : (if fst1 i then k1_pay18 (F := Ideal) else x20) (ix2 r k)
      = (((∑ j ∈ Finset.range (1024 * (i 1).val), D.wgt D.e1 (512 * (i 0).val + r) j * whx D j k) * (2 : ℝ) ^ (-sh1 D M (512 * (i 0).val + r)) : ℝ) : EReal) := by
    by_cases h : (i 1).val = 0
    · rw [if_pos ((fst1_iff i).mpr h)]
      pointwise [k1_pay18]
      rw [h, mul_zero, Finset.sum_range_zero, zero_mul]; rfl
    · rw [if_neg (fun h' => h ((fst1_iff i).mp h'))]; exact hx h
  rw [e0, mul_add, mul_one, ← sum_step, add_mul, EReal.coe_add]; congr 1
  rw [Finset.sum_mul, coe_sum]
  refine Finset.sum_congr rfl fun s _ => ?_
  rw [val_p1 D M i x2 x4 x5 x6 h2 h4 h5 h6 r s hr]
  have e3 := h3 ⟨k1_off1 i 0 + s.val, by rw [off1_0]; have := (i 1).isLt; have : (i 1).val < 10 := this; omega⟩ ⟨k1_off1 i 1 + k.val, by rw [off1_1]; omega⟩
  refine (congrArg _ e3).trans ?_
  rw [← EReal.coe_mul]
  dsimp only
  rw [off1_0, off1_1, zero_add]; congr 1; ring

end

/-- What a finished accumulator holds on the rows inside the array. -/
def Done1 (D : Data) (M : ℝ) (b : ℕ) (x20 : Vec Ideal S512x136 .f32) : Prop :=
  ∀ (r : Fin 512) (k : Fin 136), 512 * b + r.val < 10000 →
    x20 (ix2 r k) = (((∑ j ∈ Finset.range 10240, D.wgt D.e1 (512 * b + r) j * whx D j k) * (2 : ℝ) ^ (-sh1 D M (512 * b + r)) : ℝ) : EReal)

section

variable (D : Data) (M : ℝ) (i : grid1.Coords) (x7 : Vec Ideal S1x128 .f32) (x20 : Vec Ideal S512x136 .f32) (hd : Done1 D M (i 0).val x20)

include hd

/-- The layer's output. -/
theorem val_hid1 (r : Fin 512) (k : Fin 128) : hid1 i x7 x20 (ix2 r k) = ((D.h (512 * (i 0).val + r) k : ℝ) : EReal) := by
  pointwise [hid1, k1_pay8, den1, num1]
  rw [mask_row (i 0).isLt r.isLt, Scalar.select_ofBool]
  by_cases h : 512 * (i 0).val + r.val < 10000
  · rw [if_pos (by simpa using h)]
    have hs := two_pos (-sh1 D M (512 * (i 0).val + r))
    have ht := Data.tot_pos (D := D) D.e1 h
    have e1 : x20 (ix2 r 128) = ((D.tot D.e1 (512 * (i 0).val + r) * (2 : ℝ) ^ (-sh1 D M (512 * (i 0).val + r)) : ℝ) : EReal) := by
      rw [hd r 128 h, Data.sum_pad _ (fun j hj => by rw [Data.wgt_col _ _ hj, zero_mul]) (by norm_num)]
      congr 2; unfold Data.tot
      refine Finset.sum_congr rfl fun j _ => ?_
      unfold whx; rw [if_neg (by decide), if_pos (by decide), mul_one]
    have e2 : x20 (ix2 r ⟨k.val, by omega⟩) = ((D.s1 (512 * (i 0).val + r) k * (2 : ℝ) ^ (-sh1 D M (512 * (i 0).val + r)) : ℝ) : EReal) := by
      rw [hd r _ h, Data.sum_pad _ (fun j hj => by rw [Data.wgt_col _ _ hj, zero_mul]) (by norm_num)]
      congr 2; unfold Data.s1
      refine Finset.sum_congr rfl fun j _ => ?_
      unfold whx; rw [if_pos k.isLt]
    have e3 : (0 : EReal) < x20 (ix2 r 128) := by rw [e1]; exact_mod_cast mul_pos ht hs
    simp only [if_pos e3]
    have e4 : Ideal.div (x20 (ix2 r ⟨k.val, by omega⟩)) (x20 (ix2 r 128)) = ((D.s1 (512 * (i 0).val + r) k / D.tot D.e1 (512 * (i 0).val + r) : ℝ) : EReal) := by
      rw [e1, e2, div_coe _ _ (mul_pos ht hs).ne', mul_div_mul_right _ _ hs.ne']
    rw [e4]; unfold Data.h elu
    by_cases hp : 0 < D.s1 (512 * (i 0).val + r) k / D.tot D.e1 (512 * (i 0).val + r)
    · rw [if_pos (by exact_mod_cast hp), if_pos hp]
    · rw [if_neg (by exact_mod_cast hp), if_neg hp, Ideal.exp_coe]; rfl
  · rw [if_neg (by simpa using h), Data.h_out (not_lt.mp h)]; rfl

/-- Its scaled product with the tree weight. -/
theorem val_xwt1 (x8 : Vec Ideal S128x128 .f32) (h8 : Is (φ := .f32) x8 fun f k => ((D.Wt f k : ℝ) : EReal)) (r : Fin 512) (k : Fin 128) :
    k1_pay12 (xwt1 i x7 x8 x20) (ix2 r k) = ((lb * D.xw (512 * (i 0).val + r) k : ℝ) : EReal) := by
  pointwise [xwt1, k1_pay12, k1_pay11]
  rw [named_lb, EReal.coe_mul]; congr 1
  unfold Data.xw; rw [coe_sum]
  refine Finset.sum_congr rfl fun f _ => ?_
  rw [EReal.coe_mul, h8 f k]
  exact congrArg (· * _) (val_hid1 D M i x7 x20 hd r f)

/-- The second layer's products. -/
theorem val_v1 (x9 : Vec Ideal S128x16 .f32) (h9 : Is (φ := .f32) x9 fun f k => ((D.W2 f k : ℝ) : EReal)) (r : Fin 512) (k : Fin 16) :
    k1_pay15 (hid1 i x7 x20) x9 (ix2 r k) = ((D.v (512 * (i 0).val + r) k : ℝ) : EReal) := by
  pointwise [k1_pay15, k1_pay14]
  unfold Data.v; rw [coe_sum]
  refine Finset.sum_congr rfl fun f _ => ?_
  rw [EReal.coe_mul, h9 f k, val_hid1 D M i x7 x20 hd]

variable (x9 : Vec Ideal S128x16 .f32) (h9 : Is (φ := .f32) x9 fun f k => ((D.W2 f k : ℝ) : EReal))
  (x10 : Vec Ideal S32x1 .f32) (h10 : Is (φ := .f32) x10 fun f k => ((D.A2 f k : ℝ) : EReal))

include h9 h10

/-- Their scaled projections on the own half. -/
theorem val_s2a (r : Fin 512) (o : Fin 1) : s2a1 i x7 x9 x10 x20 (ix2 r o) = ((lb * D.p2 (512 * (i 0).val + r) : ℝ) : EReal) := by
  pointwise [s2a1, k1_pay16]
  rw [named_lb, EReal.coe_mul]; congr 1
  unfold Data.p2; rw [coe_sum]
  refine Finset.sum_congr rfl fun f _ => ?_
  rw [EReal.coe_mul]; congr 1
  · exact val_v1 D M i x7 x20 hd x9 h9 r f
  · exact h10 ⟨f.val, by omega⟩ 0

/-- Their scaled projections on the neighbour half, −∞ past the end. -/
theorem val_s2b (o : Fin 1) (r : Fin 512) : s2b1 i x7 x9 x10 x20 (ix2 o r) = padBot (fun j => lb * D.q2 j) (512 * (i 0).val + r) := by
  pointwise [s2b1, k1_pay17]
  rw [mask_row (i 0).isLt r.isLt, Scalar.select_ofBool, lit_bot]
  unfold padBot
  by_cases h : 512 * (i 0).val + r.val < 10000
  · rw [if_pos (by simpa using h), if_pos h, named_lb, EReal.coe_mul]; congr 1
    unfold Data.q2; rw [coe_sum]
    refine Finset.sum_congr rfl fun f _ => ?_
    rw [mul_comm, EReal.coe_mul]; congr 1
    · exact val_v1 D M i x7 x20 hd x9 h9 r f
    · exact h10 ⟨16 + f.val, by omega⟩ 0
  · rw [if_neg (by simpa using h), if_neg h]

open Classical in
/-- The running maximum of the second layer's projections stays real. -/
theorem val_smax (x23 : Vec Ideal S1x1 .f32) (hm : (i 0).val ≠ 0 → ∃ r : ℝ, x23 (ix2 0 0) = (r : EReal)) :
    ∃ r : ℝ, smax1 i x7 x9 x10 x20 x23 (ix2 0 0) = (r : EReal) := by
  have e : smax1 i x7 x9 x10 x20 x23 (ix2 0 0) = max ((if top1 i then k1_pay4 (F := Ideal) else x23) (ix2 0 0))
      (Finset.fold max (Ideal.ofBits FTy.f32 0xFF800000#32) (fun x => s2b1 i x7 x9 x10 x20 (ix2 0 x)) Finset.univ) := by
    pointwise [smax1, k1_pay7]
  rw [e]
  refine max_real ?_ (fold_max_real _ (fun x => ?_) 0 ?_ _ ?_)
  · split
    · pointwise [k1_pay4]; rw [lit_bot]; exact bot_ne_top
    · next h => obtain ⟨r, hr⟩ := hm (fun h' => h ((top1_iff i).mpr h')); rw [hr]; exact EReal.coe_ne_top r
  · rw [val_s2b D M i x7 x20 hd x9 h9 x10 h10]; unfold padBot; split
    · exact EReal.coe_ne_top _
    · exact bot_ne_top
  · rw [val_s2b D M i x7 x20 hd x9 h9 x10 h10]; unfold padBot
    have := (i 0).isLt
    rw [if_pos (by show 512 * (i 0).val + 0 < 10000; have : (i 0).val < 20 := this; omega)]; exact EReal.coe_ne_bot _
  · rw [lit_bot]; exact bot_ne_top

end

/-- The root of a sum of squares of reals is real. -/
theorem sqrt_real {n : ℕ} (f : Fin n → EReal) (g : Fin n → ℝ) (h : ∀ k, f k = (g k : EReal)) : ∃ r : ℝ, Ideal.sqrt (∑ k, f k * f k) = (r : EReal) := by
  have e : ∑ k, f k * f k = ((∑ k, g k * g k : ℝ) : EReal) := by
    rw [coe_sum]; exact Finset.sum_congr rfl fun k _ => by rw [h k, EReal.coe_mul]
  rw [e, Ideal.sqrt_coe, if_neg (not_lt.mpr (Finset.sum_nonneg fun k _ => mul_self_nonneg (g k)))]
  exact ⟨_, rfl⟩

section

variable (D : Data) (M : ℝ) (i : grid1.Coords) (x7 : Vec Ideal S1x128 .f32) (x20 : Vec Ideal S512x136 .f32) (hd : Done1 D M (i 0).val x20)

include hd

/-- The norms of the scaled tree products are real. -/
theorem val_nrx (x8 : Vec Ideal S128x128 .f32) (h8 : Is (φ := .f32) x8 fun f k => ((D.Wt f k : ℝ) : EReal)) (r : Fin 512) (o : Fin 1) :
    ∃ z : ℝ, k1_pay13 (xwt1 i x7 x8 x20) (ix2 r o) = (z : EReal) := by
  pointwise [k1_pay13]
  exact sqrt_real _ _ fun k => val_xwt1 D M i x7 x20 hd x8 h8 r k

/-- The norms of the output's rows are real. -/
theorem val_nrm (r : Fin 512) (o : Fin 1) : ∃ z : ℝ, nrm1 i x7 x20 (ix2 r o) = (z : EReal) := by
  pointwise [nrm1, k1_pay10, k1_pay9]
  exact sqrt_real _ _ fun k => val_hid1 D M i x7 x20 hd r k

open Classical in
/-- The running maximum of the norms stays real. -/
theorem val_gmax (x22 : Vec Ideal S1x1 .f32) (hm : (i 0).val ≠ 0 → ∃ r : ℝ, x22 (ix2 0 0) = (r : EReal)) :
    ∃ r : ℝ, gmax1 i x7 x20 x22 (ix2 0 0) = (r : EReal) := by
  have e : gmax1 i x7 x20 x22 (ix2 0 0) = max ((if top1 i then k1_pay3 (F := Ideal) else x22) (ix2 0 0))
      (Finset.fold max (Ideal.ofBits FTy.f32 0xFF800000#32) (fun x => nrm1 i x7 x20 (ix2 x 0)) Finset.univ) := by
    pointwise [gmax1, k1_pay6]
  rw [e]
  refine max_real ?_ (fold_max_real _ (fun x => ?_) 0 ?_ _ ?_)
  · split
    · pointwise [k1_pay3]; exact EReal.coe_ne_top 0
    · next h => obtain ⟨r, hr⟩ := hm (fun h' => h ((top1_iff i).mpr h')); rw [hr]; exact EReal.coe_ne_top r
  · obtain ⟨z, hz⟩ := val_nrm D M i x7 x20 hd x 0; rw [hz]; exact EReal.coe_ne_top z
  · obtain ⟨z, hz⟩ := val_nrm D M i x7 x20 hd 0 0; rw [hz]; exact EReal.coe_ne_bot z
  · rw [lit_bot]; exact bot_ne_top

end

end Cert.KernelIdeal.Hand
end
-- ==== Proof.V.Pay2.lean ====
/- The third call's values at an index: the two kinds of weights, their sums, and the result of a finished block of rows. -/
module

public import proofs.«01_k».proof.Proof.I.Body2
public import proofs.«01_k».proof.Proof.V.Pay1

@[expose] public section

set_option maxRecDepth 16384

noncomputable section

namespace Cert.KernelIdeal.Hand

open Cert.KernelIdeal Cert.KernelIdeal.Gen Cert.Gat
open Idealize.ShloMosaic Idealize.ShloMosaic.TcCoe

/-- The first block of a row, in numbers. -/
theorem fst2_iff (i : grid2.Coords) : fst2 i ↔ (i 1).val = 0 :=
  (by decide +kernel : ∀ n : Fin 10, (Scalar.cmpi .ne (Scalar.extui (Scalar.cmpi .eq (BitVec.ofNat 32 n.val) 0#32) : BitVec 32) 0#32 = 1#1) ↔ n.val = 0) (i 1)

/-- The last block of a row, in numbers. -/
theorem fin2_iff (i : grid2.Coords) : k2_cond2 i = 1#1 ↔ (i 1).val = 9 := by
  unfold k2_cond2
  exact (by decide +kernel : ∀ n : Fin 10, (Scalar.cmpi .ne (Scalar.extui (Scalar.cmpi .eq (BitVec.ofNat 32 n.val) 9#32) : BitVec 32) 0#32 = 1#1) ↔ n.val = 9) (i 1)

/-- The features are read from the block's first column on. -/
theorem off2_0 (i : grid2.Coords) : k2_off1 i 0 = 1024 * (i 1).val := by
  unfold k2_off1
  exact (by decide +kernel : ∀ n : Fin 10, (Scalar.indexCast (Scalar.muli (BitVec.ofNat 32 n.val) 1024#32)).toNat = 1024 * n.val) (i 1)

/-- … and from their first entry on. -/
theorem off2_1 (i : grid2.Coords) : k2_off1 i 1 = 0 := rfl

/-- The products are read from the block's first column on. -/
theorem off2'_0 (i : grid2.Coords) : k2_off2 i 0 = 1024 * (i 1).val := by
  unfold k2_off2
  exact (by decide +kernel : ∀ n : Fin 10, (Scalar.indexCast (Scalar.muli (BitVec.ofNat 32 n.val) 1024#32)).toNat = 1024 * n.val) (i 1)

/-- … and from their first entry on. -/
theorem off2'_1 (i : grid2.Coords) : k2_off2 i 1 = 0 := rfl

/-- The shift of a row's tree weights. -/
def sht (nx : ℕ → ℝ) (gn : ℝ) (n : ℕ) : ℝ := lk (nx n * gn)
/-- The shift of a row's edge weights. -/
def she (D : Data) (mx : ℝ) (n : ℕ) : ℝ := lk (lb * D.p2 n + mx)

/-- A running sum over columns up to `n`, of the weights of the scores `e` times `v`, scaled by a row's shift. -/
def part (D : Data) (e : ℕ → ℕ → ℝ) (s : ℝ) (i n : ℕ) : ℝ := (∑ j ∈ Finset.range n, D.wgt e i j) * (2 : ℝ) ^ (-s)

/-- A running sum over columns up to `n` of the products of the two weights and the features, scaled by both shifts. -/
def part2 (D : Data) (s s' : ℝ) (i c n : ℕ) : ℝ := (∑ j ∈ Finset.range n, D.wgt D.e2 i j * D.wgt D.et i j * D.v j c) * ((2 : ℝ) ^ (-s) * (2 : ℝ) ^ (-s'))

section

variable (D : Data) (nx : ℕ → ℝ) (gn mx : ℝ) (i : grid2.Coords)
  (x2 : Vec Ideal S512x1024 .f32) (x3 : Vec Ideal S10240x128 .bf16) (x4 : Vec Ideal S512x128 .bf16) (x5 : Vec Ideal S10240x16 .bf16)
  (x6 : Vec Ideal S512x1 .f32) (x7 : Vec Ideal S1x1024 .f32) (x8 : Vec Ideal S512x1 .f32) (x9 : Vec Ideal S1x1 .f32) (x10 : Vec Ideal S1x1 .f32)
  (x11 : Vec Ideal S1x16 .f32) (x12 : Vec Ideal S1x1024 .f32) (x13 : Vec Ideal S512x16 .f32)
  (x14 : Vec Ideal S512x16 .f32) (x15 : Vec Ideal S512x1 .f32) (x16 : Vec Ideal S512x1 .f32)
  (h2 : ∀ (r : Fin 512) (s : Fin 1024), 512 * (i 0).val + r.val < 10000 → 1024 * (i 1).val + s.val < 10000 →
    ((0 : EReal) < x2 (ix2 r s) ↔ D.E (512 * (i 0).val + r) (1024 * (i 1).val + s)))
  (h3 : Is (φ := .bf16) x3 fun n k => ((D.h n k : ℝ) : EReal))
  (h4 : ∀ (r : Fin 512) (k : Fin 128), x4 (ix2 r k) = ((lb * D.xw (512 * (i 0).val + r) k : ℝ) : EReal))
  (h5 : Is (φ := .bf16) x5 fun n k => ((D.v n k : ℝ) : EReal))
  (h6 : ∀ r : Fin 512, x6 (ix2 r 0) = ((lb * D.p2 (512 * (i 0).val + r) : ℝ) : EReal))
  (h7 : ∀ s : Fin 1024, x7 (ix2 0 s) = padBot (fun j => lb * D.q2 j) (1024 * (i 1).val + s))
  (h8 : ∀ r : Fin 512, x8 (ix2 r 0) = ((nx (512 * (i 0).val + r) : ℝ) : EReal))
  (h9 : x9 (ix2 0 0) = (gn : EReal)) (h10 : x10 (ix2 0 0) = (mx : EReal))
  (h12 : ∀ s : Fin 1024, x12 (ix2 0 s) = padBot (fun _ => 0) (1024 * (i 1).val + s))

include h2 h6 h7 h10 in
/-- The edge weights of a block, scaled by the row's shift. -/
theorem val_pe (r : Fin 512) (s : Fin 1024) (hr : 512 * (i 0).val + r.val < 10000) :
    k2_pay11 (k2_pay7 x6 x10) (k2_pay8 x2) x6 x7 (ix2 r s)
      = ((D.wgt D.e2 (512 * (i 0).val + r) (1024 * (i 1).val + s) * (2 : ℝ) ^ (-she D mx (512 * (i 0).val + r)) : ℝ) : EReal) := by
  classical
  pointwise [k2_pay11, k2_pay7, k2_pay8]
  have e : max (x6 (ix2 r 0) + x10 (ix2 0 0)) (Ideal.ofBits .f32 0x3E4CCCCD#32 * (x6 (ix2 r 0) + x10 (ix2 0 0))) = ((she D mx (512 * (i 0).val + r) : ℝ) : EReal) := by
    rw [h6, h10, lit_al, ← EReal.coe_add, max_coe]; rfl
  rw [e, h6]
  by_cases hs : 1024 * (i 1).val + s.val < 10000
  · unfold Data.wgt
    convert weight_add (D.p2 (512 * (i 0).val + r)) (D.q2 (1024 * (i 1).val + s)) _ _ (h2 r s hr hs) ((h7 s).trans (if_pos hs)) using 1
    all_goals rfl
  · rw [Data.wgt_col _ _ (not_lt.mp hs), zero_mul]
    exact weight_add_bot _ _ _ ((h7 s).trans (if_neg hs))

include h2 h3 h4 h8 h9 h12 in
/-- The tree weights of a block, scaled by the row's shift. -/
theorem val_pt (r : Fin 512) (s : Fin 1024) (hr : 512 * (i 0).val + r.val < 10000) :
    k2_pay10 (k2_pay6 x8 x9) (k2_pay8 x2) (k2_pay9 (View.ld x3 (Rect.unit (s := S10240x128) (k2_off1 i) S1024x128.size (k2_off1_inb i))) x4) x12 (ix2 r s)
      = ((D.wgt D.et (512 * (i 0).val + r) (1024 * (i 1).val + s) * (2 : ℝ) ^ (-sht nx gn (512 * (i 0).val + r)) : ℝ) : EReal) := by
  classical
  pointwise [k2_pay10, k2_pay6, k2_pay8, k2_pay9]
  have e : max (x8 (ix2 r 0) * x9 (ix2 0 0)) (Ideal.ofBits .f32 0x3E4CCCCD#32 * (x8 (ix2 r 0) * x9 (ix2 0 0))) = ((sht nx gn (512 * (i 0).val + r) : ℝ) : EReal) := by
    rw [h8, h9, lit_al, ← EReal.coe_mul, max_coe]; rfl
  have ed : ∑ x : Fin 128, x4 (ix2 r x) * x3 (ix2 ⟨k2_off1 i 0 + s.val, by rw [off2_0]; have := (i 1).isLt; have : (i 1).val < 10 := this; omega⟩ ⟨k2_off1 i 1 + x.val, by rw [off2_1]; omega⟩)
      = ((lb * D.et (512 * (i 0).val + r) (1024 * (i 1).val + s) : ℝ) : EReal) := by
    unfold Data.et; rw [Finset.mul_sum, coe_sum]
    refine Finset.sum_congr rfl fun x _ => ?_
    rw [h4]
    refine (congrArg _ (h3 _ _)).trans ?_
    dsimp only
    rw [off2_0, off2_1, zero_add, ← EReal.coe_mul]; congr 1; ring
  rw [e, ed, lit_al, lit_bot, max_coe, lk_scale, h12]
  by_cases hs : 1024 * (i 1).val + s.val < 10000
  · unfold padBot; rw [if_pos hs]
    unfold Data.wgt
    by_cases hE : D.E (512 * (i 0).val + r) (1024 * (i 1).val + s)
    · rw [if_pos ((h2 r s hr hs).mpr hE), if_pos hE, EReal.coe_zero, add_zero]
      exact exp2_coe' _ _
    · rw [if_neg (fun h => hE ((h2 r s hr hs).mp h)), if_neg hE, zero_mul]
      exact exp2_bot' _
  · rw [Data.wgt_col _ _ (not_lt.mp hs), zero_mul]
    unfold padBot; rw [if_neg hs, EReal.add_bot, ite_self]
    exact exp2_bot' _

include h2 h6 h7 h10 in
open Classical in
/-- The sum of the edge weights after a block of columns. -/
theorem val_le2 (r : Fin 512) (o : Fin 1) (hr : 512 * (i 0).val + r.val < 10000)
    (hx : (i 1).val ≠ 0 → x16 (ix2 r o) = ((part D D.e2 (she D mx (512 * (i 0).val + r)) (512 * (i 0).val + r) (1024 * (i 1).val) : ℝ) : EReal)) :
    le2 i x2 x6 x7 x10 x16 (ix2 r o) = ((part D D.e2 (she D mx (512 * (i 0).val + r)) (512 * (i 0).val + r) (1024 * ((i 1).val + 1)) : ℝ) : EReal) := by
  pointwise [le2, k2_pay13]
  have e0 : (if fst2 i then k2_pay5 (F := Ideal) else x16) (ix2 r o) = ((part D D.e2 (she D mx (512 * (i 0).val + r)) (512 * (i 0).val + r) (1024 * (i 1).val) : ℝ) : EReal) := by
    by_cases h : (i 1).val = 0
    · rw [if_pos ((fst2_iff i).mpr h)]
      pointwise [k2_pay5]
      unfold part; rw [h, mul_zero, Finset.sum_range_zero, zero_mul]; rfl
    · rw [if_neg (fun h' => h ((fst2_iff i).mp h'))]; exact hx h
  rw [e0]; unfold part
  rw [mul_add, mul_one, ← sum_step, add_mul, EReal.coe_add]; congr 1
  rw [Finset.sum_mul, coe_sum]
  exact Finset.sum_congr rfl fun s _ => val_pe D mx i x2 x6 x7 x10 h2 h6 h7 h10 r s hr

include h2 h3 h4 h8 h9 h12 in
open Classical in
/-- The sum of the tree weights after a block of columns. -/
theorem val_lt2 (r : Fin 512) (o : Fin 1) (hr : 512 * (i 0).val + r.val < 10000)
    (hx : (i 1).val ≠ 0 → x15 (ix2 r o) = ((part D D.et (sht nx gn (512 * (i 0).val + r)) (512 * (i 0).val + r) (1024 * (i 1).val) : ℝ) : EReal)) :
    lt2 i x2 x3 x4 x8 x9 x12 x15 (ix2 r o) = ((part D D.et (sht nx gn (512 * (i 0).val + r)) (512 * (i 0).val + r) (1024 * ((i 1).val + 1)) : ℝ) : EReal) := by
  pointwise [lt2, k2_pay12]
  have e0 : (if fst2 i then k2_pay4 (F := Ideal) else x15) (ix2 r o) = ((part D D.et (sht nx gn (512 * (i 0).val + r)) (512 * (i 0).val + r) (1024 * (i 1).val) : ℝ) : EReal) := by
    by_cases h : (i 1).val = 0
    · rw [if_pos ((fst2_iff i).mpr h)]
      pointwise [k2_pay4]
      unfold part; rw [h, mul_zero, Finset.sum_range_zero, zero_mul]; rfl
    · rw [if_neg (fun h' => h ((fst2_iff i).mp h'))]; exact hx h
  rw [e0]; unfold part
  rw [mul_add, mul_one, ← sum_step, add_mul, EReal.coe_add]; congr 1
  rw [Finset.sum_mul, coe_sum]
  exact Finset.sum_congr rfl fun s _ => val_pt D nx gn i x2 x3 x4 x8 x9 x12 h2 h3 h4 h8 h9 h12 r s hr

include h2 h3 h4 h5 h6 h7 h8 h9 h10 h12 in
open Classical in
/-- The weighted sum of the features after a block of columns. -/
theorem val_acc2 (r : Fin 512) (c : Fin 16) (hr : 512 * (i 0).val + r.val < 10000)
    (hx : (i 1).val ≠ 0 → x14 (ix2 r c) = ((part2 D (she D mx (512 * (i 0).val + r)) (sht nx gn (512 * (i 0).val + r)) (512 * (i 0).val + r) c (1024 * (i 1).val) : ℝ) : EReal)) :
    acc2 i x2 x3 x4 x5 x6 x7 x8 x9 x10 x12 x14 (ix2 r c)
      = ((part2 D (she D mx (512 * (i 0).val + r)) (sht nx gn (512 * (i 0).val + r)) (512 * (i 0).val + r) c (1024 * ((i 1).val + 1)) : ℝ) : EReal) := by
  pointwise [acc2, k2_pay1]
  have e0 : (if fst2 i then k2_pay3 (F := Ideal) else x14) (ix2 r c)
      = ((part2 D (she D mx (512 * (i 0).val + r)) (sht nx gn (512 * (i 0).val + r)) (512 * (i 0).val + r) c (1024 * (i 1).val) : ℝ) : EReal) := by
    by_cases h : (i 1).val = 0
    · rw [if_pos ((fst2_iff i).mpr h)]
      pointwise [k2_pay3]
      unfold part2; rw [h, mul_zero, Finset.sum_range_zero, zero_mul]; rfl
    · rw [if_neg (fun h' => h ((fst2_iff i).mp h'))]; exact hx h
  rw [e0]; unfold part2
  rw [mul_add, mul_one, ← sum_step, add_mul, EReal.coe_add]; congr 1
  rw [Finset.sum_mul, coe_sum]
  refine Finset.sum_congr rfl fun s _ => ?_
  rw [val_pe D mx i x2 x6 x7 x10 h2 h6 h7 h10 r s hr, val_pt D nx gn i x2 x3 x4 x8 x9 x12 h2 h3 h4 h8 h9 h12 r s hr]
  have e5 := h5 ⟨k2_off2 i 0 + s.val, by rw [off2'_0]; have := (i 1).isLt; have : (i 1).val < 10 := this; omega⟩ ⟨k2_off2 i 1 + c.val, by rw [off2'_1]; omega⟩
  refine (congrArg _ e5).trans ?_
  dsimp only
  rw [off2'_0, off2'_1, zero_add, ← EReal.coe_mul, ← EReal.coe_mul]; congr 1; ring

end

/-- The result of a finished block of rows. -/
theorem val_out2 (D : Data) (s s' : ℝ) (n : ℕ) (hn : n < 10000) (x11 : Vec Ideal S1x16 .f32) (a : Vec Ideal S512x16 .f32) (lt le : Vec Ideal S512x1 .f32) (r : Fin 512)
    (ht : lt (ix2 r 0) = ((part D D.et s' n 10240 : ℝ) : EReal)) (he : le (ix2 r 0) = ((part D D.e2 s n 10240 : ℝ) : EReal))
    (ha : ∀ c : Fin 16, a (ix2 r c) = ((part2 D s s' n c 10240 : ℝ) : EReal)) (c : Fin 16) :
    k2_pay2 lt le x11 a (ix2 r c) = ((D.out n c : ℝ) : EReal) := by
  classical
  have q1 : part D D.et s' n 10240 = D.tot D.et n * (2 : ℝ) ^ (-s') := by
    unfold part; rw [Data.sum_pad _ (fun j hj => Data.wgt_col _ _ hj) (by norm_num)]; rfl
  have q2 : part D D.e2 s n 10240 = D.tot D.e2 n * (2 : ℝ) ^ (-s) := by
    unfold part; rw [Data.sum_pad _ (fun j hj => Data.wgt_col _ _ hj) (by norm_num)]; rfl
  have q3 : ∀ c : Fin 16, part2 D s s' n c 10240 = D.s2 n c * ((2 : ℝ) ^ (-s) * (2 : ℝ) ^ (-s')) := fun c => by
    unfold part2; rw [Data.sum_pad _ (fun j hj => by rw [Data.wgt_col _ _ hj, zero_mul, zero_mul]) (by norm_num)]; rfl
  have p1 := two_pos (-s)
  have p2 := two_pos (-s')
  have t1 := Data.tot_pos (D := D) D.et hn
  have t2 := Data.tot_pos (D := D) D.e2 hn
  have hd : lt (ix2 r 0) * le (ix2 r 0) = (((D.tot D.e2 n * D.tot D.et n) * ((2 : ℝ) ^ (-s) * (2 : ℝ) ^ (-s')) : ℝ) : EReal) := by
    rw [ht, he, q1, q2, ← EReal.coe_mul]; congr 1; ring
  have hp : (0 : EReal) < lt (ix2 r 0) * le (ix2 r 0) := by
    rw [hd]; exact_mod_cast mul_pos (mul_pos t2 t1) (mul_pos p1 p2)
  have hm : ∀ c : Fin 16, Ideal.div (a (ix2 r c)) (lt (ix2 r 0) * le (ix2 r 0)) = ((D.mix n c : ℝ) : EReal) := fun c => by
    rw [hd, ha c, q3 c, div_coe _ _ (mul_pos (mul_pos t2 t1) (mul_pos p1 p2)).ne', mul_div_mul_right _ _ (mul_pos p1 p2).ne']; rfl
  pointwise [k2_pay2]
  simp only [if_pos hp, hm]
  obtain ⟨m, hmx⟩ := fold_max_real (fun k : Fin 16 => ((D.mix n k : ℝ) : EReal)) (fun _ => EReal.coe_ne_top _) 0 (EReal.coe_ne_bot _) (Ideal.ofBits FTy.f32 0xFF800000#32)
    (by rw [lit_bot]; exact bot_ne_top)
  rw [hmx]
  have e2 : ∑ k : Fin 16, Ideal.exp (((D.mix n k : ℝ) : EReal) - (m : EReal)) = ((∑ k : Fin 16, Real.exp (D.mix n k - m) : ℝ) : EReal) := by
    rw [coe_sum]; exact Finset.sum_congr rfl fun k _ => by rw [← EReal.coe_sub, Ideal.exp_coe]
  have hs : 0 < ∑ k : Fin 16, Real.exp (D.mix n k - m) := Finset.sum_pos (fun _ _ => Real.exp_pos _) ⟨0, Finset.mem_univ _⟩
  rw [e2, Ideal.log_coe, if_neg (not_le.mpr hs), lsm_shift (fun k : Fin 16 => D.mix n k) m 0 (by norm_num), ← EReal.coe_add, ← EReal.coe_sub]
  unfold Data.out; congr 1; ring

end Cert.KernelIdeal.Hand
end
-- ==== Proof.V.Win.lean ====
/- Two laws of a pipelined call's windows: what an input's buffer holds at an index, and what an output's array holds at one. -/
module

public import Idealize.ShloMosaic.Lib.Pipeline.ArrRel
public import Idealize.ShloMosaic.Lib.Pipeline.Covers
public import Idealize.ShloMosaic.Lib.Pipeline.ValueKit

@[expose] public section

noncomputable section

namespace Cert.Chain

open Idealize.ShloMosaic Idealize.ShloMosaic.TcCoe Idealize.ShloMosaic.Pipeline
open Idealize.SL Idealize.SL.RA

variable {nD : ℕ} {τ : Topo} {sig : RefSig} {Val : EltTy → Type} [∀ e, Nonempty (Val e)]
variable {Ix : Type} [DecidableEq Ix] {Name : Type} [DecidableEq Name] {U : Type} [URA U] {Lvl : Type}
variable {Λ₀ : Idealize.SL.Sem.Labels} {cfg : Cfg sig Λ₀} {c : Dev nD} (rd : RDat τ Val Ix Name U Lvl cfg c)

/-- A property of every element that the body may leave at a flushing point is one of every element of a covered array. -/
theorem arr_forall {w : Fin cfg.W} {G : Buf Val ((cfg.win w).arr.view.loc (c.tc : Thread nD τ))} (hG : rd.ArrAt w cfg.N G)
    (P : ((cfg.win w).arr.view.loc (c.tc : Thread nD τ)).2.ty.Idx → Val ((cfg.win w).arr.view.loc (c.tc : Thread nD τ)).2.ty.elt → Prop)
    (hcov : (cfg.win w).Covers) (harr : (cfg.win w).arr.IsWhole)
    (hP : ∀ t, (cfg.win w).flush t = true → ∀ X, rd.Leaves w t X → ∀ y : ((cfg.win w).xblock (cfg.grid.coords t)).Idx,
      P (((cfg.win w).blk t).view.emb y) (_root_.cast (congrArg Val ((cfg.win w).blk t).view.elt_eq.symm) (X ((cfg.win w).xinj (cfg.grid.coords t) y))))
    (i : ((cfg.win w).arr.view.loc (c.tc : Thread nD τ)).2.ty.Idx) : P i (G i) := by
  obtain ⟨X, hX, hA⟩ := hG.exists_exact
  have e := hA (Function.update (fun _ _ _ => Classical.arbitrary _) w X) fun u _ _ => by rw [Function.update_self]
  rw [e]
  refine (rd.withAfter _).arrAt_forall_of_covers w P hcov (fun t hf y => ?_) i harr
  rw [RDat.withAfter_after, Function.update_self]
  exact hP t hf _ (hX t t.isLt hf) y

/-- An input's buffer at an index of the fetched part is its array at that index moved by the block's offset. -/
theorem found (w : Fin cfg.W) (hw : (cfg.win w).isOut = false)
    (hclip : ∀ t t' : Fin cfg.N, (cfg.win w).index t = (cfg.win w).index t' → (cfg.win w).clip (cfg.grid.coords t) = (cfg.win w).clip (cfg.grid.coords t'))
    (hkeep : ∀ t Y X, rd.after w t Y X → X = Y) (t : Fin cfg.N) {X : (cfg.win w).block.Idx → Val (cfg.win w).elt} (hX : rd.Finds w t X)
    (y : (cfg.win w).block.Idx) (hy : ∀ a, (y a).val < (cfg.win w).xsize (cfg.grid.coords t) a) (z : (cfg.win w).shape.Idx)
    (hz : ∀ a, (z a).val = (cfg.win w).kind.off ((cfg.win w).index t a) ((cfg.win w).size a) + (y a).val) :
    X y = _root_.cast (congrArg Val (cfg.win w).arr.view.elt_eq) (rd.A w ((cfg.win w).arr.view.emb z)) := by
  obtain ⟨d, rfl⟩ := rd.finds_in_eq_fetched w hw hclip hkeep t X hX
  unfold RDat.fetched Window.fill
  rw [dif_pos (((cfg.win w).moved_iff _ _).mpr hy)]
  unfold RDat.blockOf
  rw [View.read_apply]
  have : ((cfg.win w).blk t).view.emb (fun a => ⟨(y a).val, hy a⟩) = (cfg.win w).arr.view.emb z := by
    show (cfg.win w).arr.view.emb (((cfg.win w).rect t).emb _) = _
    congr 1; funext a; apply Fin.ext
    rw [Window.rect_emb_val_off, hz]
  rw [this]

/-- A coordinate of a cut block that lies inside the array is among those moved. -/
theorem cut_lt {ix k d j : ℕ} (hj : j < k) (h : ix * k + j < d) : j < (Clip.of ix k d).extent k := by
  unfold Clip.of; split
  · exact hj
  · show j < d - ix * k; omega

/-- A coordinate of a block at the array's start. -/
theorem off_zero (k n : ℕ) : n = 0 * k + n := by omega

/-- A coordinate of block `b` of blocks of `k`. -/
theorem off_mul (b k n : ℕ) : b * k + n = k * b + n := by rw [Nat.mul_comm]

end Cert.Chain
end
-- ==== Proof.V.Plan0.lean ====
/- The first call end to end: what it reads at each point, what it leaves there, and what its outputs hold. -/
module

public import proofs.«01_k».proof.Proof.I.Dat0
public import proofs.«01_k».proof.Proof.I.Frame
public import proofs.«01_k».proof.Proof.V.Pay0
public import proofs.«01_k».proof.Proof.V.Win

@[expose] public section

set_option maxRecDepth 16384

noncomputable section

namespace Cert.KernelIdeal.Hand

open Cert.KernelIdeal Cert.KernelIdeal.Gen Cert.Gat
open Idealize.ShloMosaic Idealize.ShloMosaic.TcCoe
open Idealize.SL Idealize.SL.RA

/-- The contents hold the arrays of `D` as arguments. -/
structure Holds (D : Data) (V : Valuation τ sig (Elt Ideal)) : Prop where
  x : Is (φ := .f32) (V (Proc.devRef .tc main_arg0)) fun i k => ((D.X i k : ℝ) : EReal)
  adj : ∀ i j : Fin 10000, (0 : EReal) < V (Proc.devRef .tc main_arg1) (ix2 i j) ↔ D.E i j
  w1 : Is (φ := .f32) (V (Proc.devRef .tc main_arg2)) fun i k => ((D.W1 i k : ℝ) : EReal)
  a1 : Is (φ := .f32) (V (Proc.devRef .tc main_arg3)) fun i k => ((D.A1 i k : ℝ) : EReal)
  wt : Is (φ := .f32) (V (Proc.devRef .tc main_arg4)) fun i k => ((D.Wt i k : ℝ) : EReal)
  w2 : Is (φ := .f32) (V (Proc.devRef .tc main_arg5)) fun i k => ((D.W2 i k : ℝ) : EReal)
  a2 : Is (φ := .f32) (V (Proc.devRef .tc main_arg6)) fun i k => ((D.A2 i k : ℝ) : EReal)

/-- Where the first call's blocks begin. -/
theorem at0 : ∀ t : Fin cfg0.N, win0_0.index t = ![(grid0.coords t 0).val, 0] ∧ win0_3.index t = ![(grid0.coords t 0).val, 0]
    ∧ win0_4.index t = ![(grid0.coords t 0).val, 0] ∧ win0_5.index t = ![0, (grid0.coords t 0).val] := by decide +kernel

/-- The point's number is its block's. -/
theorem num0 : ∀ t : Fin cfg0.N, (grid0.coords t 0).val = t.val := by decide +kernel

variable {Name : Type} [DecidableEq Name] {U : Type} [URA U] {Lvl : Type} [Preorder Lvl]
variable (V : Valuation τ sig (Elt Ideal)) (P : (w : Fin cfg0.W) → Fin cfg0.N → ((cfg0.win w).block.Idx → Elt Ideal (cfg0.win w).elt) → Prop)
  (Inv : ℕ → Vec Ideal S1x128 .f32 → Vec Ideal S1x1 .f32 → Prop) (c : Dev nD)

/-- The rows of features that a point reads. -/
theorem read0_0 (t : Fin cfg0.N) (x : Vec Ideal S512x128 .f32) (h : (dat0 (Name := Name) (U := U) (Lvl := Lvl) V P Inv c).Finds 0 t x)
    (r : Fin 512) (f : Fin 128) (hr : 512 * (grid0.coords t 0).val + r.val < 10000) :
    x (ix2 r f) = V (Proc.devRef .tc main_arg0) (ix2 ⟨512 * (grid0.coords t 0).val + r.val, hr⟩ f) := by
  refine Cert.Chain.found (dat0 (Name := Name) (U := U) (Lvl := Lvl) V P Inv c) 0 rfl
    (fun t t' h => funext fun a => congrArg (fun i : Fin 2 → ℕ => Pipeline.Clip.of (i a) (win0_0.size a) (win0_0.shape.size a)) h)
    (fun t Y X h => h) t h (ix2 r f) ?_ (ix2 ⟨512 * (grid0.coords t 0).val + r.val, hr⟩ f) ?_
  · intro a
    refine Cert.Chain.cut_lt (ix2 r f a).isLt ?_
    show win0_0.index t a * win0_0.size a + _ < _
    rw [(at0 t).1]
    match a with
    | 0 => show (grid0.coords t 0).val * 512 + r.val < 10000; omega
    | 1 => show 0 * 128 + f.val < 128; omega
  · intro a
    show _ = win0_0.index t a * win0_0.size a + _
    rw [(at0 t).1]
    match a with
    | 0 => show 512 * (grid0.coords t 0).val + r.val = (grid0.coords t 0).val * 512 + r.val; omega
    | 1 => show f.val = 0 * 128 + f.val; omega

/-- The first layer's weight, whole. -/
theorem read0_1 (t : Fin cfg0.N) (x : Vec Ideal S128x128 .f32) (h : (dat0 (Name := Name) (U := U) (Lvl := Lvl) V P Inv c).Finds 1 t x) :
    x = V (Proc.devRef .tc main_arg2) := by
  funext y
  refine Cert.Chain.found (dat0 (Name := Name) (U := U) (Lvl := Lvl) V P Inv c) 1 rfl (fun _ _ _ => rfl) (fun t Y X h => h) t h y
    (fun a => (y a).isLt) y (fun a => ?_)
  match a with
  | 0 => exact Cert.Chain.off_zero 128 _
  | 1 => exact Cert.Chain.off_zero 128 _

/-- The first attention vector, whole. -/
theorem read0_2 (t : Fin cfg0.N) (x : Vec Ideal S256x1 .f32) (h : (dat0 (Name := Name) (U := U) (Lvl := Lvl) V P Inv c).Finds 2 t x) :
    x = V (Proc.devRef .tc main_arg3) := by
  funext y
  refine Cert.Chain.found (dat0 (Name := Name) (U := U) (Lvl := Lvl) V P Inv c) 2 rfl (fun _ _ _ => rfl) (fun t Y X h => h) t h y
    (fun a => (y a).isLt) y (fun a => ?_)
  match a with
  | 0 => exact Cert.Chain.off_zero 256 _
  | 1 => exact Cert.Chain.off_zero 1 _

/-- What each point of the first call leaves. -/
def P0 (D : Data) : (w : Fin cfg0.W) → Fin cfg0.N → ((cfg0.win w).block.Idx → Elt Ideal (cfg0.win w).elt) → Prop
  | ⟨3, _⟩ => fun t (X : Vec Ideal S512x136 .bf16) => ∀ r k, X (ix2 r k) = ((whx D (512 * (grid0.coords t 0).val + r.val) k : ℝ) : EReal)
  | ⟨4, _⟩ => fun t (X : Vec Ideal S512x1 .f32) => ∀ r o, X (ix2 r o) = ((lb * D.p (512 * (grid0.coords t 0).val + r.val) : ℝ) : EReal)
  | ⟨5, _⟩ => fun t (X : Vec Ideal S1x512 .f32) => ∀ o r, X (ix2 o r) = padBot (fun j => lb * D.q j) (512 * (grid0.coords t 0).val + r.val)
  | ⟨6, _⟩ => fun t (X : Vec Ideal S1x1 .f32) => (grid0.coords t 0).val = 19 → ∃ r : ℝ, X (ix2 0 0) = (r : EReal)
  | _ => fun _ _ => True

/-- What the first call's scratch holds between points: after the first, a real number as the maximum. -/
def I0 (n : ℕ) (_ : Vec Ideal S1x128 .f32) (x10 : Vec Ideal S1x1 .f32) : Prop := 0 < n → ∃ r : ℝ, x10 (ix2 0 0) = (r : EReal)

/-- The first block, in numbers. -/
theorem fst0_iff (i : grid0.Coords) : fst0 i ↔ (i 0).val = 0 :=
  (by decide +kernel : ∀ n : Fin 20, (Scalar.cmpi .ne (Scalar.extui (Scalar.cmpi .eq (BitVec.ofNat 32 n.val) 0#32) : BitVec 32) 0#32 = 1#1) ↔ n.val = 0) (i 0)

/-- The last block, in numbers. -/
theorem top0_iff : ∀ i : grid0.Coords, k0_cond2 i = 1#1 ↔ (i 0).val = 19 := by
  intro i; unfold k0_cond2
  exact (by decide +kernel : ∀ n : Fin 20, (Scalar.cmpi .ne (Scalar.extui (Scalar.cmpi .eq (BitVec.ofNat 32 n.val) 19#32) : BitVec 32) 0#32 = 1#1) ↔ n.val = 19) (i 0)

/-- Each point keeps the plan. -/
theorem step0 (D : Data) (hD : Holds D V) : Step0 (Name := Name) (U := U) (Lvl := Lvl) V (P0 D) I0 c := by
  intro t x1 x2 x3 x4 x5 x6 x7 x8 x9 x10 f1 f2 f3 _ _ _ _ _ hI
  have h1 : ∀ (r : Fin 512) (f : Fin 128), 512 * (grid0.coords t 0).val + r.val < 10000 →
      x1 (ix2 r f) = ((D.X (512 * (grid0.coords t 0).val + r) f : ℝ) : EReal) := fun r f hr =>
    (read0_0 V _ _ c t x1 f1 r f hr).trans (hD.x _ _)
  have h2 : Is (φ := .f32) x2 fun f k => ((D.W1 f k : ℝ) : EReal) := read0_1 V _ _ c t x2 f2 ▸ hD.w1
  have h3 : Is (φ := .f32) x3 fun f k => ((D.A1 f k : ℝ) : EReal) := read0_2 V _ _ c t x3 f3 ▸ hD.a1
  have hm := val_max0 D _ x1 x2 x3 h1 h2 h3 x10 (fun h => hI (by rw [fst0_iff, num0] at h; omega))
  refine ⟨fun _ => hm, fun r k => ?_, fun r o => ?_, fun o r => ?_, fun ht => ?_, trivial⟩
  · exact pay0_7 D _ x1 x2 h1 h2 r k
  · exact val_s1a D _ x1 x2 x3 h1 h2 h3 r o
  · exact val_s1b D _ x1 x2 x3 h1 h2 h3 o r
  · unfold omax0; rw [if_pos ((top0_iff _).mpr ht)]; exact hm

/-- The blocks of this output cover its array. -/
theorem cov0_3 : win0_3.Covers := win0_3.covers_of_indexMap_surj rfl (by decide) (by decide +kernel)
/-- The blocks of this output cover its array. -/
theorem cov0_4 : win0_4.Covers := win0_4.covers_of_indexMap_surj rfl (by decide) (by decide +kernel)
/-- The blocks of this output cover its array. -/
theorem cov0_5 : win0_5.Covers := win0_5.covers_of_indexMap_surj rfl (by decide) (by decide +kernel)
/-- The blocks of this output cover its array. -/
theorem cov0_6 : win0_6.Covers := win0_6.covers_of_indexMap_surj rfl (by decide) (by decide +kernel)

/-- What the first call leaves in its outputs. -/
structure Made0 (D : Data) (V' : Valuation τ sig (Elt Ideal)) : Prop where
  wh : Is (φ := .bf16) (V' (Proc.devRef .tc main_call0_v5_0)) fun i k => ((whx D i k : ℝ) : EReal)
  s1a : ∀ (i : Fin 10240) (o : Fin 1), V' (Proc.devRef .tc main_call0_v5_1) (ix2 i o) = ((lb * D.p i : ℝ) : EReal)
  s1b : ∀ (o : Fin 1) (j : Fin 10240), V' (Proc.devRef .tc main_call0_v5_2) (ix2 o j) = padBot (fun j => lb * D.q j) j
  mb : ∃ r : ℝ, V' (Proc.devRef .tc main_call0_v5_3) (ix2 0 0) = (r : EReal)

/-- The first call's products, with ones beside them. -/
theorem made0_wh (D : Data) (G : Vec Ideal S10240x136 .bf16) (hG : (dat0 (Name := Name) (U := U) (Lvl := Lvl) V (P0 D) Inv c).ArrAt 3 cfg0.N G) :
    Is (φ := .bf16) G fun i k => ((whx D i k : ℝ) : EReal) := by
  intro i k
  refine Cert.Chain.arr_forall (dat0 (Name := Name) (U := U) (Lvl := Lvl) V (P0 D) Inv c) (w := 3) hG
    (fun (z : S10240x136.Idx) (v : EReal) => v = ((whx D (z 0) (z 1) : ℝ) : EReal)) cov0_3 (Memref.isWhole_whole _)
    (fun t _ X hX y => ?_) (ix2 i k)
  obtain ⟨Y, -, hX⟩ := hX
  have hX : ∀ r k, X (ix2 r k) = ((whx D (512 * (grid0.coords t 0).val + r.val) k : ℝ) : EReal) := hX
  have e0 := win0_3.rect_emb_val_off t y 0
  have e1 := win0_3.rect_emb_val_off t y 1
  rw [(at0 t).2.1] at e0 e1
  refine ((congrArg X (eq_ix2 _)).trans (hX (y 0) (y 1))).trans ?_
  show _ = ((whx D ((win0_3.rect t).emb y 0).val ((win0_3.rect t).emb y 1).val : ℝ) : EReal)
  rw [show ((win0_3.rect t).emb y 0).val = 512 * (grid0.coords t 0).val + (y 0).val from e0.trans (Cert.Chain.off_mul _ 512 _),
    show ((win0_3.rect t).emb y 1).val = (y 1).val from e1.trans (Cert.Chain.off_zero 136 _).symm]

/-- The first call's row scores. -/
theorem made0_s1a (D : Data) (G : Vec Ideal S10240x1 .f32) (hG : (dat0 (Name := Name) (U := U) (Lvl := Lvl) V (P0 D) Inv c).ArrAt 4 cfg0.N G)
    (i : Fin 10240) (o : Fin 1) : G (ix2 i o) = ((lb * D.p i : ℝ) : EReal) := by
  refine Cert.Chain.arr_forall (dat0 (Name := Name) (U := U) (Lvl := Lvl) V (P0 D) Inv c) (w := 4) hG
    (fun (z : S10240x1.Idx) (v : EReal) => v = ((lb * D.p (z 0) : ℝ) : EReal)) cov0_4 (Memref.isWhole_whole _)
    (fun t _ X hX y => ?_) (ix2 i o)
  obtain ⟨Y, -, hX⟩ := hX
  have hX : ∀ r o, X (ix2 r o) = ((lb * D.p (512 * (grid0.coords t 0).val + r.val) : ℝ) : EReal) := hX
  have e0 := win0_4.rect_emb_val_off t y 0
  rw [(at0 t).2.2.1] at e0
  refine ((congrArg X (eq_ix2 _)).trans (hX (y 0) (y 1))).trans ?_
  show _ = ((lb * D.p ((win0_4.rect t).emb y 0).val : ℝ) : EReal)
  rw [show ((win0_4.rect t).emb y 0).val = 512 * (grid0.coords t 0).val + (y 0).val from e0.trans (Cert.Chain.off_mul _ 512 _)]

/-- The first call's column scores, −∞ past the end. -/
theorem made0_s1b (D : Data) (G : Vec Ideal S1x10240 .f32) (hG : (dat0 (Name := Name) (U := U) (Lvl := Lvl) V (P0 D) Inv c).ArrAt 5 cfg0.N G)
    (o : Fin 1) (j : Fin 10240) : G (ix2 o j) = padBot (fun j => lb * D.q j) j := by
  refine Cert.Chain.arr_forall (dat0 (Name := Name) (U := U) (Lvl := Lvl) V (P0 D) Inv c) (w := 5) hG
    (fun (z : S1x10240.Idx) (v : EReal) => v = padBot (fun j => lb * D.q j) (z 1)) cov0_5 (Memref.isWhole_whole _)
    (fun t _ X hX y => ?_) (ix2 o j)
  obtain ⟨Y, -, hX⟩ := hX
  have hX : ∀ o r, X (ix2 o r) = padBot (fun j => lb * D.q j) (512 * (grid0.coords t 0).val + r.val) := hX
  have e1 := win0_5.rect_emb_val_off t y 1
  rw [(at0 t).2.2.2] at e1
  refine ((congrArg X (eq_ix2 _)).trans (hX (y 0) (y 1))).trans ?_
  show _ = padBot (fun j => lb * D.q j) ((win0_5.rect t).emb y 1).val
  rw [show ((win0_5.rect t).emb y 1).val = 512 * (grid0.coords t 0).val + (y 1).val from e1.trans (Cert.Chain.off_mul _ 512 _)]

/-- The one index of a one-by-one array. -/
theorem one_idx (z : S1x1.Idx) : z = ix2 0 0 :=
  (eq_ix2 z).trans (congrArg₂ ix2 (Subsingleton.elim (α := Fin 1) _ _) (Subsingleton.elim (α := Fin 1) _ _))

/-- The first call's bound is a real number. -/
theorem made0_mb (D : Data) (G : Vec Ideal S1x1 .f32) (hG : (dat0 (Name := Name) (U := U) (Lvl := Lvl) V (P0 D) Inv c).ArrAt 6 cfg0.N G) :
    ∃ r : ℝ, G (ix2 0 0) = (r : EReal) := by
  refine Cert.Chain.arr_forall (dat0 (Name := Name) (U := U) (Lvl := Lvl) V (P0 D) Inv c) (w := 6) hG
    (fun (z : S1x1.Idx) (v : EReal) => ∃ r : ℝ, v = (r : EReal)) cov0_6 (Memref.isWhole_whole _)
    (fun t ht X hX y => ?_) (ix2 0 0)
  obtain ⟨Y, -, hX⟩ := hX
  have hX : (grid0.coords t 0).val = 19 → ∃ r : ℝ, X (ix2 0 0) = (r : EReal) := hX
  have ht := (flush0_6 t).mp ht
  obtain ⟨r, hr⟩ := hX (by rw [num0]; have : t.val < 20 := t.isLt; omega)
  exact ⟨r, (congrArg X (one_idx _)).trans hr⟩

/-- The first call's outputs, whatever plan the other calls follow. -/
theorem made0 (D : Data) (p : Plan (F := Ideal)) (hp : p.P0 V = P0 D) {V' : Valuation τ sig (Elt Ideal)} (h : LeftK p 0 c V V') : Made0 D V' := by
  have h' : ∀ w : Fin cfg0.W, (dat0 (Name := ℕ) (U := UU) (Lvl := Unit) V (P0 D) (p.I0 V) c).ArrAt w cfg0.N (V' (Proc.devRef .tc (Pipeline.arrRef spec0 w))) :=
    hp ▸ h.1
  exact ⟨made0_wh V _ c D _ (h' 3), made0_s1a V _ c D _ (h' 4), made0_s1b V _ c D _ (h' 5), made0_mb V _ c D _ (h' 6)⟩

end Cert.KernelIdeal.Hand
end
-- ==== Proof.V.Plan1.lean ====
/- The second call end to end: what it reads at each point, what it leaves there, and what its outputs hold. -/
module

public import proofs.«01_k».proof.Proof.I.Dat1
public import proofs.«01_k».proof.Proof.V.Pay1
public import proofs.«01_k».proof.Proof.V.Plan0

@[expose] public section

set_option maxRecDepth 16384

noncomputable section

namespace Cert.KernelIdeal.Hand

open Cert.KernelIdeal Cert.KernelIdeal.Gen Cert.Gat
open Idealize.ShloMosaic Idealize.ShloMosaic.TcCoe
open Idealize.SL Idealize.SL.RA

/-- Where window 0's blocks begin. -/
theorem at1_0 : ∀ t : Fin cfg1.N, win1_0.index t = ![(grid1.coords t 0).val, (grid1.coords t 1).val] := by decide +kernel
/-- Where window 2's blocks begin. -/
theorem at1_2 : ∀ t : Fin cfg1.N, win1_2.index t = ![(grid1.coords t 0).val, 0] := by decide +kernel
/-- Where window 3's blocks begin. -/
theorem at1_3 : ∀ t : Fin cfg1.N, win1_3.index t = ![0, (grid1.coords t 1).val] := by decide +kernel
/-- Where window 9's blocks begin. -/
theorem at1_9 : ∀ t : Fin cfg1.N, win1_9.index t = ![(grid1.coords t 0).val, 0] := by decide +kernel
/-- Where window 10's blocks begin. -/
theorem at1_10 : ∀ t : Fin cfg1.N, win1_10.index t = ![(grid1.coords t 0).val, 0] := by decide +kernel
/-- Where window 11's blocks begin. -/
theorem at1_11 : ∀ t : Fin cfg1.N, win1_11.index t = ![(grid1.coords t 0).val, 0] := by decide +kernel
/-- Where window 12's blocks begin. -/
theorem at1_12 : ∀ t : Fin cfg1.N, win1_12.index t = ![(grid1.coords t 0).val, 0] := by decide +kernel
/-- Where window 13's blocks begin. -/
theorem at1_13 : ∀ t : Fin cfg1.N, win1_13.index t = ![0, (grid1.coords t 0).val] := by decide +kernel
/-- Where window 14's blocks begin. -/
theorem at1_14 : ∀ t : Fin cfg1.N, win1_14.index t = ![(grid1.coords t 0).val, 0] := by decide +kernel

/-- The point's row and column of blocks from its number. -/
theorem pt1 : ∀ t : Fin cfg1.N, (grid1.coords t 0).val = t.val / 10 ∧ (grid1.coords t 1).val = t.val % 10 := by decide +kernel

section

variable {Name : Type} [DecidableEq Name] {U : Type} [URA U] {Lvl : Type} [Preorder Lvl]
variable (V : Valuation τ sig (Elt Ideal)) (P : (w : Fin cfg1.W) → Fin cfg1.N → ((cfg1.win w).block.Idx → Elt Ideal (cfg1.win w).elt) → Prop)
  (Inv : ℕ → Vec Ideal S512x136 .f32 → Vec Ideal S1x16 .f32 → Vec Ideal S1x1 .f32 → Vec Ideal S1x1 .f32 → Prop) (c : Dev nD)

/-- The block of the adjacency that a point reads, where it lies inside the array. -/
theorem read1_0 (t : Fin cfg1.N) (x : Vec Ideal S512x1024 .f32) (h : (dat1 (Name := Name) (U := U) (Lvl := Lvl) V P Inv c).Finds 0 t x)
    (r : Fin 512) (s : Fin 1024) (hr : 512 * (grid1.coords t 0).val + r.val < 10000) (hs : 1024 * (grid1.coords t 1).val + s.val < 10000) :
    x (ix2 r s) = V (Proc.devRef .tc main_arg1) (ix2 ⟨512 * (grid1.coords t 0).val + r.val, hr⟩ ⟨1024 * (grid1.coords t 1).val + s.val, hs⟩) := by
  refine Cert.Chain.found (dat1 (Name := Name) (U := U) (Lvl := Lvl) V P Inv c) 0 rfl
    (fun t t' h => funext fun a => congrArg (fun i : Fin 2 → ℕ => Pipeline.Clip.of (i a) (win1_0.size a) (win1_0.shape.size a)) h)
    (fun t Y X h => h) t h (ix2 r s) ?_ (ix2 ⟨512 * (grid1.coords t 0).val + r.val, hr⟩ ⟨1024 * (grid1.coords t 1).val + s.val, hs⟩) ?_
  · intro a
    refine Cert.Chain.cut_lt (ix2 r s a).isLt ?_
    show win1_0.index t a * win1_0.size a + _ < _
    rw [at1_0 t]
    match a with
    | 0 => show (grid1.coords t 0).val * 512 + r.val < 10000; omega
    | 1 => show (grid1.coords t 1).val * 1024 + s.val < 10000; omega
  · intro a
    show _ = win1_0.index t a * win1_0.size a + _
    rw [at1_0 t]
    match a with
    | 0 => exact (Cert.Chain.off_mul (grid1.coords t 0).val 512 r.val).symm
    | 1 => exact (Cert.Chain.off_mul (grid1.coords t 1).val 1024 s.val).symm

/-- The first layer's products, whole. -/
theorem read1_1 (t : Fin cfg1.N) (x : Vec Ideal S10240x136 .bf16) (h : (dat1 (Name := Name) (U := U) (Lvl := Lvl) V P Inv c).Finds 1 t x) : x = V (Proc.devRef .tc main_call0_v5_0) := by
  funext y
  refine Cert.Chain.found (dat1 (Name := Name) (U := U) (Lvl := Lvl) V P Inv c) 1 rfl (fun _ _ _ => rfl) (fun t Y X h => h) t h y
    (fun a => (y a).isLt) y (fun a => ?_)
  match a with
  | 0 => exact Cert.Chain.off_zero 10240 _
  | 1 => exact Cert.Chain.off_zero 136 _

/-- The rows' own projections. -/
theorem read1_2 (t : Fin cfg1.N) (x : Vec Ideal S512x1 .f32) (h : (dat1 (Name := Name) (U := U) (Lvl := Lvl) V P Inv c).Finds 2 t x) (r : Fin 512) (o : Fin 1)
    (hr : 512 * (grid1.coords t 0).val + r.val < 10240) : x (ix2 r o) = V (Proc.devRef .tc main_call0_v5_1) (ix2 ⟨512 * (grid1.coords t 0).val + r.val, hr⟩ o) := by
  refine Cert.Chain.found (dat1 (Name := Name) (U := U) (Lvl := Lvl) V P Inv c) 2 rfl (fun _ _ _ => rfl) (fun t Y X h => h) t h (ix2 r o)
    (fun a => (ix2 r o a).isLt) (ix2 ⟨512 * (grid1.coords t 0).val + r.val, hr⟩ o) (fun a => ?_)
  show _ = win1_2.index t a * win1_2.size a + _
  rw [at1_2 t]
  match a with
  | 0 => exact (Cert.Chain.off_mul (grid1.coords t 0).val 512 r.val).symm
  | 1 => exact Cert.Chain.off_zero 1 _

/-- The columns' projections. -/
theorem read1_3 (t : Fin cfg1.N) (x : Vec Ideal S1x1024 .f32) (h : (dat1 (Name := Name) (U := U) (Lvl := Lvl) V P Inv c).Finds 3 t x) (o : Fin 1) (s : Fin 1024)
    (hs : 1024 * (grid1.coords t 1).val + s.val < 10240) : x (ix2 o s) = V (Proc.devRef .tc main_call0_v5_2) (ix2 o ⟨1024 * (grid1.coords t 1).val + s.val, hs⟩) := by
  refine Cert.Chain.found (dat1 (Name := Name) (U := U) (Lvl := Lvl) V P Inv c) 3 rfl (fun _ _ _ => rfl) (fun t Y X h => h) t h (ix2 o s)
    (fun a => (ix2 o s a).isLt) (ix2 o ⟨1024 * (grid1.coords t 1).val + s.val, hs⟩) (fun a => ?_)
  show _ = win1_3.index t a * win1_3.size a + _
  rw [at1_3 t]
  match a with
  | 0 => exact Cert.Chain.off_zero 1 _
  | 1 => exact (Cert.Chain.off_mul (grid1.coords t 1).val 1024 s.val).symm

/-- Their maximum. -/
theorem read1_4 (t : Fin cfg1.N) (x : Vec Ideal S1x1 .f32) (h : (dat1 (Name := Name) (U := U) (Lvl := Lvl) V P Inv c).Finds 4 t x) : x = V (Proc.devRef .tc main_call0_v5_3) := by
  funext y
  refine Cert.Chain.found (dat1 (Name := Name) (U := U) (Lvl := Lvl) V P Inv c) 4 rfl (fun _ _ _ => rfl) (fun t Y X h => h) t h y
    (fun a => (y a).isLt) y (fun a => ?_)
  match a with
  | 0 => exact Cert.Chain.off_zero 1 _
  | 1 => exact Cert.Chain.off_zero 1 _

/-- The tree weight, whole. -/
theorem read1_6 (t : Fin cfg1.N) (x : Vec Ideal S128x128 .f32) (h : (dat1 (Name := Name) (U := U) (Lvl := Lvl) V P Inv c).Finds 6 t x) : x = V (Proc.devRef .tc main_arg4) := by
  funext y
  refine Cert.Chain.found (dat1 (Name := Name) (U := U) (Lvl := Lvl) V P Inv c) 6 rfl (fun _ _ _ => rfl) (fun t Y X h => h) t h y
    (fun a => (y a).isLt) y (fun a => ?_)
  match a with
  | 0 => exact Cert.Chain.off_zero 128 _
  | 1 => exact Cert.Chain.off_zero 128 _

/-- The second layer's weight, whole. -/
theorem read1_7 (t : Fin cfg1.N) (x : Vec Ideal S128x16 .f32) (h : (dat1 (Name := Name) (U := U) (Lvl := Lvl) V P Inv c).Finds 7 t x) : x = V (Proc.devRef .tc main_arg5) := by
  funext y
  refine Cert.Chain.found (dat1 (Name := Name) (U := U) (Lvl := Lvl) V P Inv c) 7 rfl (fun _ _ _ => rfl) (fun t Y X h => h) t h y
    (fun a => (y a).isLt) y (fun a => ?_)
  match a with
  | 0 => exact Cert.Chain.off_zero 128 _
  | 1 => exact Cert.Chain.off_zero 16 _

/-- The second attention vector, whole. -/
theorem read1_8 (t : Fin cfg1.N) (x : Vec Ideal S32x1 .f32) (h : (dat1 (Name := Name) (U := U) (Lvl := Lvl) V P Inv c).Finds 8 t x) : x = V (Proc.devRef .tc main_arg6) := by
  funext y
  refine Cert.Chain.found (dat1 (Name := Name) (U := U) (Lvl := Lvl) V P Inv c) 8 rfl (fun _ _ _ => rfl) (fun t Y X h => h) t h y
    (fun a => (y a).isLt) y (fun a => ?_)
  match a with
  | 0 => exact Cert.Chain.off_zero 32 _
  | 1 => exact Cert.Chain.off_zero 1 _

end

/-- The bound on the columns' projections that the second call enters with. -/
def mb (V : Valuation τ sig (Elt Ideal)) : ℝ := EReal.toReal (V (Proc.devRef .tc main_call0_v5_3) (ix2 0 0))

/-- What each point of the second call leaves. -/
def P1 (D : Data) : (w : Fin cfg1.W) → Fin cfg1.N → ((cfg1.win w).block.Idx → Elt Ideal (cfg1.win w).elt) → Prop
  | ⟨9, _⟩ => fun t (X : Vec Ideal S512x128 .bf16) => (grid1.coords t 1).val = 9 → ∀ r k, X (ix2 r k) = ((D.h (512 * (grid1.coords t 0).val + r.val) k : ℝ) : EReal)
  | ⟨10, _⟩ => fun t (X : Vec Ideal S512x128 .bf16) => (grid1.coords t 1).val = 9 → ∀ r k, X (ix2 r k) = ((lb * D.xw (512 * (grid1.coords t 0).val + r.val) k : ℝ) : EReal)
  | ⟨11, _⟩ => fun t (X : Vec Ideal S512x16 .bf16) => (grid1.coords t 1).val = 9 → ∀ r k, X (ix2 r k) = ((D.v (512 * (grid1.coords t 0).val + r.val) k : ℝ) : EReal)
  | ⟨12, _⟩ => fun t (X : Vec Ideal S512x1 .f32) => (grid1.coords t 1).val = 9 → ∀ r o, X (ix2 r o) = ((lb * D.p2 (512 * (grid1.coords t 0).val + r.val) : ℝ) : EReal)
  | ⟨13, _⟩ => fun t (X : Vec Ideal S1x512 .f32) => (grid1.coords t 1).val = 9 → ∀ o r, X (ix2 o r) = padBot (fun j => lb * D.q2 j) (512 * (grid1.coords t 0).val + r.val)
  | ⟨14, _⟩ => fun t (X : Vec Ideal S512x1 .f32) => (grid1.coords t 1).val = 9 → ∀ r o, ∃ z : ℝ, X (ix2 r o) = (z : EReal)
  | ⟨15, _⟩ => fun t (X : Vec Ideal S1x1 .f32) => (grid1.coords t 1).val = 9 → (grid1.coords t 0).val = 19 → ∃ z : ℝ, X (ix2 0 0) = (z : EReal)
  | ⟨16, _⟩ => fun t (X : Vec Ideal S1x1 .f32) => (grid1.coords t 1).val = 9 → (grid1.coords t 0).val = 19 → ∃ z : ℝ, X (ix2 0 0) = (z : EReal)
  | _ => fun _ _ => True

/-- What the second call's scratch holds between points: inside a row of blocks, the sums over the columns gone by; after the first
    row, real numbers as the maxima. -/
def I1 (D : Data) (M : ℝ) (n : ℕ) (x20 : Vec Ideal S512x136 .f32) (_ : Vec Ideal S1x16 .f32) (x22 x23 : Vec Ideal S1x1 .f32) : Prop :=
  (n % 10 ≠ 0 → ∀ (r : Fin 512) (k : Fin 136), 512 * (n / 10) + r.val < 10000 →
    x20 (ix2 r k) = (((∑ j ∈ Finset.range (1024 * (n % 10)), D.wgt D.e1 (512 * (n / 10) + r) j * whx D j k) * (2 : ℝ) ^ (-sh1 D M (512 * (n / 10) + r)) : ℝ) : EReal))
  ∧ (10 ≤ n → (∃ z : ℝ, x22 (ix2 0 0) = (z : EReal)) ∧ ∃ z : ℝ, x23 (ix2 0 0) = (z : EReal))

/-- At a row's last block the second value is taken. -/
theorem fin1_pos {α : Type} {i : grid1.Coords} (h : (i 1).val = 9) (x y : α) : fin1 i x y = y := if_pos ((fin1_iff i).mpr h)
/-- At the other blocks the first is kept. -/
theorem fin1_neg {α : Type} {i : grid1.Coords} (h : (i 1).val ≠ 9) (x y : α) : fin1 i x y = x := if_neg fun h' => h ((fin1_iff i).mp h')
/-- At the very last block the second value is taken. -/
theorem last1_pos {α : Type} {i : grid1.Coords} (h : (i 1).val = 9) (h' : (i 0).val = 19) (x y : α) : last1 i x y = y := by
  unfold last1; rw [if_pos ((fin1_iff i).mpr h), if_pos ((last1_iff i).mpr h')]

variable {Name : Type} [DecidableEq Name] {U : Type} [URA U] {Lvl : Type} [Preorder Lvl]

/-- Each point keeps the plan. -/
theorem step1 (D : Data) (V : Valuation τ sig (Elt Ideal)) (c : Dev nD) (hD : Holds D V) (hM : Made0 D V) :
    Step1 (Name := Name) (U := U) (Lvl := Lvl) V (P1 D) (I1 D (mb V)) c := by
  intro t x2 x3 x4 x5 x6 x7 x8 x9 x10 x11 x12 x13 x14 x15 x16 x17 x18 x19 x20 x21 x22 x23 f2 f3 f4 f5 f6 _ f8 f9 f10 _ _ _ _ _ _ _ _ _ hI
  obtain ⟨n0, n1⟩ := pt1 t
  have ht : t.val < 200 := t.isLt
  have b0 : (grid1.coords t 0).val < 20 := by omega
  have b1 : (grid1.coords t 1).val < 10 := by omega
  have h2 : ∀ (r : Fin 512) (s : Fin 1024), 512 * (grid1.coords t 0).val + r.val < 10000 → 1024 * (grid1.coords t 1).val + s.val < 10000 →
      ((0 : EReal) < x2 (ix2 r s) ↔ D.E (512 * (grid1.coords t 0).val + r) (1024 * (grid1.coords t 1).val + s)) := fun r s hr hs => by
    rw [read1_0 V _ _ c t x2 f2 r s hr hs]; exact hD.adj _ _
  have h3 : Is (φ := .bf16) x3 fun n k => ((whx D n k : ℝ) : EReal) := read1_1 V _ _ c t x3 f3 ▸ hM.wh
  have h4 : ∀ r : Fin 512, x4 (ix2 r 0) = ((lb * D.p (512 * (grid1.coords t 0).val + r) : ℝ) : EReal) := fun r =>
    (read1_2 V _ _ c t x4 f4 r 0 (by omega)).trans (hM.s1a _ _)
  have h5 : ∀ s : Fin 1024, x5 (ix2 0 s) = padBot (fun j => lb * D.q j) (1024 * (grid1.coords t 1).val + s) := fun s =>
    (read1_3 V _ _ c t x5 f5 0 s (by omega)).trans (hM.s1b _ _)
  have h6 : x6 (ix2 0 0) = (mb V : EReal) := by
    rw [read1_4 V _ _ c t x6 f6]
    obtain ⟨z, hz⟩ := hM.mb
    unfold mb; rw [hz]; rfl
  have h8 : Is (φ := .f32) x8 fun f k => ((D.Wt f k : ℝ) : EReal) := read1_6 V _ _ c t x8 f8 ▸ hD.wt
  have h9 : Is (φ := .f32) x9 fun f k => ((D.W2 f k : ℝ) : EReal) := read1_7 V _ _ c t x9 f9 ▸ hD.w2
  have h10 : Is (φ := .f32) x10 fun f k => ((D.A2 f k : ℝ) : EReal) := read1_8 V _ _ c t x10 f10 ▸ hD.a2
  have hA := fun r k hr => val_acc1 D (mb V) (grid1.coords t) x2 x3 x4 x5 x6 h2 h3 h4 h5 h6 x20 r k hr fun h => by
    rw [n0, n1]; exact hI.1 (by omega) r k (by omega)
  generalize acc1 (grid1.coords t) x2 x3 x4 x5 x6 x20 = A at hA
  have hd : (grid1.coords t 1).val = 9 → Done1 D (mb V) (grid1.coords t 0).val A := fun h r k hr => by
    have := hA r k hr; rw [h] at this; exact this
  have hr2 : (grid1.coords t 0).val ≠ 0 → (∃ z : ℝ, x22 (ix2 0 0) = (z : EReal)) ∧ ∃ z : ℝ, x23 (ix2 0 0) = (z : EReal) := fun h => hI.2 (by omega)
  have hg := fun h => val_gmax D (mb V) (grid1.coords t) x7 A (hd h) x22 fun h => (hr2 h).1
  have hs := fun h => val_smax D (mb V) (grid1.coords t) x7 A (hd h) x9 h9 x10 h10 x23 fun h => (hr2 h).2
  refine ⟨⟨fun h r k hr => ?_, fun h => ?_⟩, fun h r k => ?_, fun h r k => ?_, fun h r k => ?_, fun h r o => ?_, fun h o r => ?_, fun h r o => ?_,
    fun h h' => ?_, fun h h' => ?_, trivial⟩
  · have e0 : (t.val + 1) / 10 = (grid1.coords t 0).val := by omega
    have e1 : (t.val + 1) % 10 = (grid1.coords t 1).val + 1 := by omega
    rw [e0] at hr ⊢; rw [e1]
    exact hA r k hr
  · by_cases h' : (grid1.coords t 1).val = 9
    · rw [fin1_pos h', fin1_pos h']; exact ⟨hg h', hs h'⟩
    · rw [fin1_neg h', fin1_neg h']; exact hr2 (by omega)
  · rw [fin1_pos h]; exact val_hid1 D (mb V) _ x7 A (hd h) r k
  · rw [fin1_pos h]; exact val_xwt1 D (mb V) _ x7 A (hd h) x8 h8 r k
  · rw [fin1_pos h]; exact val_v1 D (mb V) _ x7 A (hd h) x9 h9 r k
  · rw [fin1_pos h]; exact val_s2a D (mb V) _ x7 A (hd h) x9 h9 x10 h10 r o
  · rw [fin1_pos h]; exact val_s2b D (mb V) _ x7 A (hd h) x9 h9 x10 h10 o r
  · rw [fin1_pos h]; exact val_nrx D (mb V) _ x7 A (hd h) x8 h8 r o
  · rw [last1_pos h h']; exact hg h
  · rw [last1_pos h h']; exact hs h

/-- What the second call leaves in its outputs. -/
structure Made1 (D : Data) (V' : Valuation τ sig (Elt Ideal)) : Prop where
  res : ∀ (i : Fin 10240) (k : Fin 128), V' (Proc.devRef .tc main_call0_v6_0) (ix2 i k) = ((D.h i k : ℝ) : EReal)
  xwt : ∀ (i : Fin 10240) (k : Fin 128), V' (Proc.devRef .tc main_call0_v6_1) (ix2 i k) = ((lb * D.xw i k : ℝ) : EReal)
  wh2 : ∀ (i : Fin 10240) (k : Fin 16), V' (Proc.devRef .tc main_call0_v6_2) (ix2 i k) = ((D.v i k : ℝ) : EReal)
  s2a : ∀ (i : Fin 10240) (o : Fin 1), V' (Proc.devRef .tc main_call0_v6_3) (ix2 i o) = ((lb * D.p2 i : ℝ) : EReal)
  s2b : ∀ (o : Fin 1) (j : Fin 10240), V' (Proc.devRef .tc main_call0_v6_4) (ix2 o j) = padBot (fun j => lb * D.q2 j) j
  nx : ∀ (i : Fin 10240) (o : Fin 1), ∃ z : ℝ, V' (Proc.devRef .tc main_call0_v6_5) (ix2 i o) = (z : EReal)
  gn : ∃ z : ℝ, V' (Proc.devRef .tc main_call0_v6_6) (ix2 0 0) = (z : EReal)
  ms : ∃ z : ℝ, V' (Proc.devRef .tc main_call0_v6_7) (ix2 0 0) = (z : EReal)

variable (V : Valuation τ sig (Elt Ideal)) (c : Dev nD) (D : Data) (Inv : ℕ → Vec Ideal S512x136 .f32 → Vec Ideal S1x16 .f32 → Vec Ideal S1x1 .f32 → Vec Ideal S1x1 .f32 → Prop)

/-- A point whose number ends in nine is a row's last block. -/
theorem col1 (t : Fin cfg1.N) (h : t.val % 10 = 9) : (grid1.coords t 1).val = 9 := (pt1 t).2.trans h

/-- The blocks of this output cover its array. -/
theorem cov1_9 : win1_9.Covers := win1_9.covers_of_indexMap_surj rfl (by decide) (by decide +kernel)
/-- The blocks of this output cover its array. -/
theorem cov1_10 : win1_10.Covers := win1_10.covers_of_indexMap_surj rfl (by decide) (by decide +kernel)
/-- The blocks of this output cover its array. -/
theorem cov1_11 : win1_11.Covers := win1_11.covers_of_indexMap_surj rfl (by decide) (by decide +kernel)
/-- The blocks of this output cover its array. -/
theorem cov1_12 : win1_12.Covers := win1_12.covers_of_indexMap_surj rfl (by decide) (by decide +kernel)
/-- The blocks of this output cover its array. -/
theorem cov1_13 : win1_13.Covers := win1_13.covers_of_indexMap_surj rfl (by decide) (by decide +kernel)
/-- The blocks of this output cover its array. -/
theorem cov1_14 : win1_14.Covers := win1_14.covers_of_indexMap_surj rfl (by decide) (by decide +kernel)
/-- The blocks of this output cover its array. -/
theorem cov1_15 : win1_15.Covers := win1_15.covers_of_indexMap_surj rfl (by decide) (by decide +kernel)
/-- The blocks of this output cover its array. -/
theorem cov1_16 : win1_16.Covers := win1_16.covers_of_indexMap_surj rfl (by decide) (by decide +kernel)

/-- The second call's hidden features. -/
theorem made1_res (G : Vec Ideal S10240x128 .bf16) (hG : (dat1 (Name := Name) (U := U) (Lvl := Lvl) V (P1 D) Inv c).ArrAt 9 cfg1.N G) (i : Fin 10240) (k : Fin 128) :
    G (ix2 i k) = ((D.h i k : ℝ) : EReal) := by
  refine Cert.Chain.arr_forall (dat1 (Name := Name) (U := U) (Lvl := Lvl) V (P1 D) Inv c) (w := 9) hG
    (fun (z : S10240x128.Idx) (v : EReal) => v = ((D.h (z 0) (z 1) : ℝ) : EReal)) cov1_9 (Memref.isWhole_whole _)
    (fun t ht X hX y => ?_) (ix2 i k)
  obtain ⟨Y, -, hX⟩ := hX
  have hX : (grid1.coords t 1).val = 9 → ∀ r k, X (ix2 r k) = ((D.h (512 * (grid1.coords t 0).val + r.val) k : ℝ) : EReal) := hX
  have hX := hX (col1 t ((flush1_9 t).mp ht)) (y 0) (y 1)
  have e0 := win1_9.rect_emb_val_off t y 0
  have e1 := win1_9.rect_emb_val_off t y 1
  rw [at1_9 t] at e0 e1
  refine ((congrArg X (eq_ix2 _)).trans hX).trans ?_
  show _ = ((D.h ((win1_9.rect t).emb y 0).val ((win1_9.rect t).emb y 1).val : ℝ) : EReal)
  rw [show ((win1_9.rect t).emb y 0).val = 512 * (grid1.coords t 0).val + (y 0).val from e0.trans (Cert.Chain.off_mul _ 512 _),
    show ((win1_9.rect t).emb y 1).val = (y 1).val from e1.trans (Cert.Chain.off_zero 128 _).symm]

/-- The second call's left factors of the tree scores. -/
theorem made1_xwt (G : Vec Ideal S10240x128 .bf16) (hG : (dat1 (Name := Name) (U := U) (Lvl := Lvl) V (P1 D) Inv c).ArrAt 10 cfg1.N G) (i : Fin 10240) (k : Fin 128) :
    G (ix2 i k) = ((lb * D.xw i k : ℝ) : EReal) := by
  refine Cert.Chain.arr_forall (dat1 (Name := Name) (U := U) (Lvl := Lvl) V (P1 D) Inv c) (w := 10) hG
    (fun (z : S10240x128.Idx) (v : EReal) => v = ((lb * D.xw (z 0) (z 1) : ℝ) : EReal)) cov1_10 (Memref.isWhole_whole _)
    (fun t ht X hX y => ?_) (ix2 i k)
  obtain ⟨Y, -, hX⟩ := hX
  have hX : (grid1.coords t 1).val = 9 → ∀ r k, X (ix2 r k) = ((lb * D.xw (512 * (grid1.coords t 0).val + r.val) k : ℝ) : EReal) := hX
  have hX := hX (col1 t ((flush1_10 t).mp ht)) (y 0) (y 1)
  have e0 := win1_10.rect_emb_val_off t y 0
  have e1 := win1_10.rect_emb_val_off t y 1
  rw [at1_10 t] at e0 e1
  refine ((congrArg X (eq_ix2 _)).trans hX).trans ?_
  show _ = ((lb * D.xw ((win1_10.rect t).emb y 0).val ((win1_10.rect t).emb y 1).val : ℝ) : EReal)
  rw [show ((win1_10.rect t).emb y 0).val = 512 * (grid1.coords t 0).val + (y 0).val from e0.trans (Cert.Chain.off_mul _ 512 _),
    show ((win1_10.rect t).emb y 1).val = (y 1).val from e1.trans (Cert.Chain.off_zero 128 _).symm]

/-- The second call's products for the second layer. -/
theorem made1_wh2 (G : Vec Ideal S10240x16 .bf16) (hG : (dat1 (Name := Name) (U := U) (Lvl := Lvl) V (P1 D) Inv c).ArrAt 11 cfg1.N G) (i : Fin 10240) (k : Fin 16) :
    G (ix2 i k) = ((D.v i k : ℝ) : EReal) := by
  refine Cert.Chain.arr_forall (dat1 (Name := Name) (U := U) (Lvl := Lvl) V (P1 D) Inv c) (w := 11) hG
    (fun (z : S10240x16.Idx) (v : EReal) => v = ((D.v (z 0) (z 1) : ℝ) : EReal)) cov1_11 (Memref.isWhole_whole _)
    (fun t ht X hX y => ?_) (ix2 i k)
  obtain ⟨Y, -, hX⟩ := hX
  have hX : (grid1.coords t 1).val = 9 → ∀ r k, X (ix2 r k) = ((D.v (512 * (grid1.coords t 0).val + r.val) k : ℝ) : EReal) := hX
  have hX := hX (col1 t ((flush1_11 t).mp ht)) (y 0) (y 1)
  have e0 := win1_11.rect_emb_val_off t y 0
  have e1 := win1_11.rect_emb_val_off t y 1
  rw [at1_11 t] at e0 e1
  refine ((congrArg X (eq_ix2 _)).trans hX).trans ?_
  show _ = ((D.v ((win1_11.rect t).emb y 0).val ((win1_11.rect t).emb y 1).val : ℝ) : EReal)
  rw [show ((win1_11.rect t).emb y 0).val = 512 * (grid1.coords t 0).val + (y 0).val from e0.trans (Cert.Chain.off_mul _ 512 _),
    show ((win1_11.rect t).emb y 1).val = (y 1).val from e1.trans (Cert.Chain.off_zero 16 _).symm]

/-- The second call's row scores. -/
theorem made1_s2a (G : Vec Ideal S10240x1 .f32) (hG : (dat1 (Name := Name) (U := U) (Lvl := Lvl) V (P1 D) Inv c).ArrAt 12 cfg1.N G) (i : Fin 10240) (k : Fin 1) :
    G (ix2 i k) = ((lb * D.p2 i : ℝ) : EReal) := by
  refine Cert.Chain.arr_forall (dat1 (Name := Name) (U := U) (Lvl := Lvl) V (P1 D) Inv c) (w := 12) hG
    (fun (z : S10240x1.Idx) (v : EReal) => v = ((lb * D.p2 (z 0) : ℝ) : EReal)) cov1_12 (Memref.isWhole_whole _)
    (fun t ht X hX y => ?_) (ix2 i k)
  obtain ⟨Y, -, hX⟩ := hX
  have hX : (grid1.coords t 1).val = 9 → ∀ r k, X (ix2 r k) = ((lb * D.p2 (512 * (grid1.coords t 0).val + r.val) : ℝ) : EReal) := hX
  have hX := hX (col1 t ((flush1_12 t).mp ht)) (y 0) (y 1)
  have e0 := win1_12.rect_emb_val_off t y 0
  rw [at1_12 t] at e0
  refine ((congrArg X (eq_ix2 _)).trans hX).trans ?_
  show _ = ((lb * D.p2 ((win1_12.rect t).emb y 0).val : ℝ) : EReal)
  rw [show ((win1_12.rect t).emb y 0).val = 512 * (grid1.coords t 0).val + (y 0).val from e0.trans (Cert.Chain.off_mul _ 512 _)]

/-- The second call's norms are real numbers. -/
theorem made1_nx (G : Vec Ideal S10240x1 .f32) (hG : (dat1 (Name := Name) (U := U) (Lvl := Lvl) V (P1 D) Inv c).ArrAt 14 cfg1.N G) (i : Fin 10240) (k : Fin 1) :
    ∃ z : ℝ, G (ix2 i k) = (z : EReal) := by
  refine Cert.Chain.arr_forall (dat1 (Name := Name) (U := U) (Lvl := Lvl) V (P1 D) Inv c) (w := 14) hG
    (fun (z : S10240x1.Idx) (v : EReal) => ∃ x : ℝ, v = (x : EReal)) cov1_14 (Memref.isWhole_whole _)
    (fun t ht X hX y => ?_) (ix2 i k)
  obtain ⟨Y, -, hX⟩ := hX
  have hX : (grid1.coords t 1).val = 9 → ∀ r k, ∃ z : ℝ, X (ix2 r k) = (z : EReal) := hX
  have hX := hX (col1 t ((flush1_14 t).mp ht)) (y 0) (y 1)
  obtain ⟨z, hz⟩ := hX
  exact ⟨z, (congrArg X (eq_ix2 _)).trans hz⟩

/-- The second call's column scores, −∞ past the end. -/
theorem made1_s2b (G : Vec Ideal S1x10240 .f32) (hG : (dat1 (Name := Name) (U := U) (Lvl := Lvl) V (P1 D) Inv c).ArrAt 13 cfg1.N G) (o : Fin 1) (j : Fin 10240) :
    G (ix2 o j) = padBot (fun j => lb * D.q2 j) j := by
  refine Cert.Chain.arr_forall (dat1 (Name := Name) (U := U) (Lvl := Lvl) V (P1 D) Inv c) (w := 13) hG
    (fun (z : S1x10240.Idx) (v : EReal) => v = padBot (fun j => lb * D.q2 j) (z 1)) cov1_13 (Memref.isWhole_whole _)
    (fun t ht X hX y => ?_) (ix2 o j)
  obtain ⟨Y, -, hX⟩ := hX
  have hX : (grid1.coords t 1).val = 9 → ∀ o r, X (ix2 o r) = padBot (fun j => lb * D.q2 j) (512 * (grid1.coords t 0).val + r.val) := hX
  have hX := hX (col1 t ((flush1_13 t).mp ht)) (y 0) (y 1)
  have e1 := win1_13.rect_emb_val_off t y 1
  rw [at1_13 t] at e1
  refine ((congrArg X (eq_ix2 _)).trans hX).trans ?_
  show _ = padBot (fun j => lb * D.q2 j) ((win1_13.rect t).emb y 1).val
  rw [show ((win1_13.rect t).emb y 1).val = 512 * (grid1.coords t 0).val + (y 1).val from e1.trans (Cert.Chain.off_mul _ 512 _)]

/-- The largest norm is a real number. -/
theorem made1_gn (G : Vec Ideal S1x1 .f32) (hG : (dat1 (Name := Name) (U := U) (Lvl := Lvl) V (P1 D) Inv c).ArrAt 15 cfg1.N G) : ∃ z : ℝ, G (ix2 0 0) = (z : EReal) := by
  refine Cert.Chain.arr_forall (dat1 (Name := Name) (U := U) (Lvl := Lvl) V (P1 D) Inv c) (w := 15) hG
    (fun (z : S1x1.Idx) (v : EReal) => ∃ r : ℝ, v = (r : EReal)) cov1_15 (Memref.isWhole_whole _)
    (fun t ht X hX y => ?_) (ix2 0 0)
  obtain ⟨Y, -, hX⟩ := hX
  have hX : (grid1.coords t 1).val = 9 → (grid1.coords t 0).val = 19 → ∃ r : ℝ, X (ix2 0 0) = (r : EReal) := hX
  have ht := (flush1_15 t).mp ht
  have hn : t.val < 200 := t.isLt
  obtain ⟨n0, n1⟩ := pt1 t
  obtain ⟨r, hr⟩ := hX (by omega) (by omega)
  exact ⟨r, (congrArg X (one_idx _)).trans hr⟩

/-- The largest column score is a real number. -/
theorem made1_ms (G : Vec Ideal S1x1 .f32) (hG : (dat1 (Name := Name) (U := U) (Lvl := Lvl) V (P1 D) Inv c).ArrAt 16 cfg1.N G) : ∃ z : ℝ, G (ix2 0 0) = (z : EReal) := by
  refine Cert.Chain.arr_forall (dat1 (Name := Name) (U := U) (Lvl := Lvl) V (P1 D) Inv c) (w := 16) hG
    (fun (z : S1x1.Idx) (v : EReal) => ∃ r : ℝ, v = (r : EReal)) cov1_16 (Memref.isWhole_whole _)
    (fun t ht X hX y => ?_) (ix2 0 0)
  obtain ⟨Y, -, hX⟩ := hX
  have hX : (grid1.coords t 1).val = 9 → (grid1.coords t 0).val = 19 → ∃ r : ℝ, X (ix2 0 0) = (r : EReal) := hX
  have ht := (flush1_16 t).mp ht
  have hn : t.val < 200 := t.isLt
  obtain ⟨n0, n1⟩ := pt1 t
  obtain ⟨r, hr⟩ := hX (by omega) (by omega)
  exact ⟨r, (congrArg X (one_idx _)).trans hr⟩

/-- The second call's outputs, whatever plan the other calls follow. -/
theorem made1 (p : Plan (F := Ideal)) (hp : p.P1 V = P1 D) {V' : Valuation τ sig (Elt Ideal)} (h : LeftK p 1 c V V') : Made1 D V' := by
  have h' : ∀ w : Fin cfg1.W, (dat1 (Name := ℕ) (U := UU) (Lvl := Unit) V (P1 D) (p.I1 V) c).ArrAt w cfg1.N (V' (Proc.devRef .tc (Pipeline.arrRef spec1 w))) :=
    hp ▸ h.1
  exact ⟨made1_res V c D _ _ (h' 9), made1_xwt V c D _ _ (h' 10), made1_wh2 V c D _ _ (h' 11), made1_s2a V c D _ _ (h' 12), made1_s2b V c D _ _ (h' 13),
    made1_nx V c D _ _ (h' 14), made1_gn V c D _ _ (h' 15), made1_ms V c D _ _ (h' 16)⟩

end Cert.KernelIdeal.Hand
end
-- ==== Proof.V.Plan2.lean ====
/- The third call end to end: what it reads at each point, what it leaves there, and what its outputs hold. -/
module

public import proofs.«01_k».proof.Proof.I.Dat2
public import proofs.«01_k».proof.Proof.V.Pay2
public import proofs.«01_k».proof.Proof.V.Plan1

@[expose] public section

set_option maxRecDepth 16384

noncomputable section

namespace Cert.KernelIdeal.Hand

open Cert.KernelIdeal Cert.KernelIdeal.Gen Cert.Gat
open Idealize.ShloMosaic Idealize.ShloMosaic.TcCoe
open Idealize.SL Idealize.SL.RA

/-- Where window 0's blocks begin. -/
theorem at2_0 : ∀ t : Fin cfg2.N, win2_0.index t = ![(grid2.coords t 0).val, (grid2.coords t 1).val] := by decide +kernel
/-- Where window 2's blocks begin. -/
theorem at2_2 : ∀ t : Fin cfg2.N, win2_2.index t = ![(grid2.coords t 0).val, 0] := by decide +kernel
/-- Where window 4's blocks begin. -/
theorem at2_4 : ∀ t : Fin cfg2.N, win2_4.index t = ![(grid2.coords t 0).val, 0] := by decide +kernel
/-- Where window 5's blocks begin. -/
theorem at2_5 : ∀ t : Fin cfg2.N, win2_5.index t = ![0, (grid2.coords t 1).val] := by decide +kernel
/-- Where window 6's blocks begin. -/
theorem at2_6 : ∀ t : Fin cfg2.N, win2_6.index t = ![(grid2.coords t 0).val, 0] := by decide +kernel
/-- Where window 10's blocks begin. -/
theorem at2_10 : ∀ t : Fin cfg2.N, win2_10.index t = ![0, (grid2.coords t 1).val] := by decide +kernel
/-- Where window 11's blocks begin. -/
theorem at2_11 : ∀ t : Fin cfg2.N, win2_11.index t = ![(grid2.coords t 0).val, 0] := by decide +kernel

/-- The point's row and column of blocks from its number. -/
theorem pt2 : ∀ t : Fin cfg2.N, (grid2.coords t 0).val = t.val / 10 ∧ (grid2.coords t 1).val = t.val % 10 := by decide +kernel

section

variable {Name : Type} [DecidableEq Name] {U : Type} [URA U] {Lvl : Type} [Preorder Lvl]
variable (V : Valuation τ sig (Elt Ideal)) (P : (w : Fin cfg2.W) → Fin cfg2.N → ((cfg2.win w).block.Idx → Elt Ideal (cfg2.win w).elt) → Prop)
  (Inv : ℕ → Vec Ideal S512x16 .f32 → Vec Ideal S512x1 .f32 → Vec Ideal S512x1 .f32 → Prop) (c : Dev nD)

/-- The block of the adjacency that a point reads, where it lies inside the array. -/
theorem read2_0 (t : Fin cfg2.N) (x : Vec Ideal S512x1024 .f32) (h : (dat2 (Name := Name) (U := U) (Lvl := Lvl) V P Inv c).Finds 0 t x)
    (r : Fin 512) (s : Fin 1024) (hr : 512 * (grid2.coords t 0).val + r.val < 10000) (hs : 1024 * (grid2.coords t 1).val + s.val < 10000) :
    x (ix2 r s) = V (Proc.devRef .tc main_arg1) (ix2 ⟨512 * (grid2.coords t 0).val + r.val, hr⟩ ⟨1024 * (grid2.coords t 1).val + s.val, hs⟩) := by
  refine Cert.Chain.found (dat2 (Name := Name) (U := U) (Lvl := Lvl) V P Inv c) 0 rfl
    (fun t t' h => funext fun a => congrArg (fun i : Fin 2 → ℕ => Pipeline.Clip.of (i a) (win2_0.size a) (win2_0.shape.size a)) h)
    (fun t Y X h => h) t h (ix2 r s) ?_ (ix2 ⟨512 * (grid2.coords t 0).val + r.val, hr⟩ ⟨1024 * (grid2.coords t 1).val + s.val, hs⟩) ?_
  · intro a
    refine Cert.Chain.cut_lt (ix2 r s a).isLt ?_
    show win2_0.index t a * win2_0.size a + _ < _
    rw [at2_0 t]
    match a with
    | 0 => show (grid2.coords t 0).val * 512 + r.val < 10000; omega
    | 1 => show (grid2.coords t 1).val * 1024 + s.val < 10000; omega
  · intro a
    show _ = win2_0.index t a * win2_0.size a + _
    rw [at2_0 t]
    match a with
    | 0 => exact (Cert.Chain.off_mul (grid2.coords t 0).val 512 r.val).symm
    | 1 => exact (Cert.Chain.off_mul (grid2.coords t 1).val 1024 s.val).symm

/-- The first layer's output, whole. -/
theorem read2_1 (t : Fin cfg2.N) (x : Vec Ideal S10240x128 .bf16) (h : (dat2 (Name := Name) (U := U) (Lvl := Lvl) V P Inv c).Finds 1 t x) : x = V (Proc.devRef .tc main_call0_v6_0) := by
  funext y
  refine Cert.Chain.found (dat2 (Name := Name) (U := U) (Lvl := Lvl) V P Inv c) 1 rfl (fun _ _ _ => rfl) (fun t Y X h => h) t h y
    (fun a => (y a).isLt) y (fun a => ?_)
  match a with
  | 0 => exact Cert.Chain.off_zero 10240 _
  | 1 => exact Cert.Chain.off_zero 128 _

/-- The rows' tree products. -/
theorem read2_2 (t : Fin cfg2.N) (x : Vec Ideal S512x128 .bf16) (h : (dat2 (Name := Name) (U := U) (Lvl := Lvl) V P Inv c).Finds 2 t x) (r : Fin 512) (o : Fin 128)
    (hr : 512 * (grid2.coords t 0).val + r.val < 10240) : x (ix2 r o) = V (Proc.devRef .tc main_call0_v6_1) (ix2 ⟨512 * (grid2.coords t 0).val + r.val, hr⟩ o) := by
  refine Cert.Chain.found (dat2 (Name := Name) (U := U) (Lvl := Lvl) V P Inv c) 2 rfl (fun _ _ _ => rfl) (fun t Y X h => h) t h (ix2 r o)
    (fun a => (ix2 r o a).isLt) (ix2 ⟨512 * (grid2.coords t 0).val + r.val, hr⟩ o) (fun a => ?_)
  show _ = win2_2.index t a * win2_2.size a + _
  rw [at2_2 t]
  match a with
  | 0 => exact (Cert.Chain.off_mul (grid2.coords t 0).val 512 r.val).symm
  | 1 => exact Cert.Chain.off_zero 128 _

/-- The second layer's products, whole. -/
theorem read2_3 (t : Fin cfg2.N) (x : Vec Ideal S10240x16 .bf16) (h : (dat2 (Name := Name) (U := U) (Lvl := Lvl) V P Inv c).Finds 3 t x) : x = V (Proc.devRef .tc main_call0_v6_2) := by
  funext y
  refine Cert.Chain.found (dat2 (Name := Name) (U := U) (Lvl := Lvl) V P Inv c) 3 rfl (fun _ _ _ => rfl) (fun t Y X h => h) t h y
    (fun a => (y a).isLt) y (fun a => ?_)
  match a with
  | 0 => exact Cert.Chain.off_zero 10240 _
  | 1 => exact Cert.Chain.off_zero 16 _

/-- The rows' own projections. -/
theorem read2_4 (t : Fin cfg2.N) (x : Vec Ideal S512x1 .f32) (h : (dat2 (Name := Name) (U := U) (Lvl := Lvl) V P Inv c).Finds 4 t x) (r : Fin 512) (o : Fin 1)
    (hr : 512 * (grid2.coords t 0).val + r.val < 10240) : x (ix2 r o) = V (Proc.devRef .tc main_call0_v6_3) (ix2 ⟨512 * (grid2.coords t 0).val + r.val, hr⟩ o) := by
  refine Cert.Chain.found (dat2 (Name := Name) (U := U) (Lvl := Lvl) V P Inv c) 4 rfl (fun _ _ _ => rfl) (fun t Y X h => h) t h (ix2 r o)
    (fun a => (ix2 r o a).isLt) (ix2 ⟨512 * (grid2.coords t 0).val + r.val, hr⟩ o) (fun a => ?_)
  show _ = win2_4.index t a * win2_4.size a + _
  rw [at2_4 t]
  match a with
  | 0 => exact (Cert.Chain.off_mul (grid2.coords t 0).val 512 r.val).symm
  | 1 => exact Cert.Chain.off_zero 1 _

/-- The columns' projections. -/
theorem read2_5 (t : Fin cfg2.N) (x : Vec Ideal S1x1024 .f32) (h : (dat2 (Name := Name) (U := U) (Lvl := Lvl) V P Inv c).Finds 5 t x) (o : Fin 1) (s : Fin 1024)
    (hs : 1024 * (grid2.coords t 1).val + s.val < 10240) : x (ix2 o s) = V (Proc.devRef .tc main_call0_v6_4) (ix2 o ⟨1024 * (grid2.coords t 1).val + s.val, hs⟩) := by
  refine Cert.Chain.found (dat2 (Name := Name) (U := U) (Lvl := Lvl) V P Inv c) 5 rfl (fun _ _ _ => rfl) (fun t Y X h => h) t h (ix2 o s)
    (fun a => (ix2 o s a).isLt) (ix2 o ⟨1024 * (grid2.coords t 1).val + s.val, hs⟩) (fun a => ?_)
  show _ = win2_5.index t a * win2_5.size a + _
  rw [at2_5 t]
  match a with
  | 0 => exact Cert.Chain.off_zero 1 _
  | 1 => exact (Cert.Chain.off_mul (grid2.coords t 1).val 1024 s.val).symm

/-- The norms of the rows' tree products. -/
theorem read2_6 (t : Fin cfg2.N) (x : Vec Ideal S512x1 .f32) (h : (dat2 (Name := Name) (U := U) (Lvl := Lvl) V P Inv c).Finds 6 t x) (r : Fin 512) (o : Fin 1)
    (hr : 512 * (grid2.coords t 0).val + r.val < 10240) : x (ix2 r o) = V (Proc.devRef .tc main_call0_v6_5) (ix2 ⟨512 * (grid2.coords t 0).val + r.val, hr⟩ o) := by
  refine Cert.Chain.found (dat2 (Name := Name) (U := U) (Lvl := Lvl) V P Inv c) 6 rfl (fun _ _ _ => rfl) (fun t Y X h => h) t h (ix2 r o)
    (fun a => (ix2 r o a).isLt) (ix2 ⟨512 * (grid2.coords t 0).val + r.val, hr⟩ o) (fun a => ?_)
  show _ = win2_6.index t a * win2_6.size a + _
  rw [at2_6 t]
  match a with
  | 0 => exact (Cert.Chain.off_mul (grid2.coords t 0).val 512 r.val).symm
  | 1 => exact Cert.Chain.off_zero 1 _

/-- The largest norm of an output row. -/
theorem read2_7 (t : Fin cfg2.N) (x : Vec Ideal S1x1 .f32) (h : (dat2 (Name := Name) (U := U) (Lvl := Lvl) V P Inv c).Finds 7 t x) : x = V (Proc.devRef .tc main_call0_v6_6) := by
  funext y
  refine Cert.Chain.found (dat2 (Name := Name) (U := U) (Lvl := Lvl) V P Inv c) 7 rfl (fun _ _ _ => rfl) (fun t Y X h => h) t h y
    (fun a => (y a).isLt) y (fun a => ?_)
  match a with
  | 0 => exact Cert.Chain.off_zero 1 _
  | 1 => exact Cert.Chain.off_zero 1 _

/-- The largest of the columns' projections. -/
theorem read2_8 (t : Fin cfg2.N) (x : Vec Ideal S1x1 .f32) (h : (dat2 (Name := Name) (U := U) (Lvl := Lvl) V P Inv c).Finds 8 t x) : x = V (Proc.devRef .tc main_call0_v6_7) := by
  funext y
  refine Cert.Chain.found (dat2 (Name := Name) (U := U) (Lvl := Lvl) V P Inv c) 8 rfl (fun _ _ _ => rfl) (fun t Y X h => h) t h y
    (fun a => (y a).isLt) y (fun a => ?_)
  match a with
  | 0 => exact Cert.Chain.off_zero 1 _
  | 1 => exact Cert.Chain.off_zero 1 _

/-- The columns' mask. -/
theorem read2_10 (t : Fin cfg2.N) (x : Vec Ideal S1x1024 .f32) (h : (dat2 (Name := Name) (U := U) (Lvl := Lvl) V P Inv c).Finds 10 t x) (o : Fin 1) (s : Fin 1024)
    (hs : 1024 * (grid2.coords t 1).val + s.val < 10240) : x (ix2 o s) = V (Proc.devRef .tc main_call0_v4) (ix2 o ⟨1024 * (grid2.coords t 1).val + s.val, hs⟩) := by
  refine Cert.Chain.found (dat2 (Name := Name) (U := U) (Lvl := Lvl) V P Inv c) 10 rfl (fun _ _ _ => rfl) (fun t Y X h => h) t h (ix2 o s)
    (fun a => (ix2 o s a).isLt) (ix2 o ⟨1024 * (grid2.coords t 1).val + s.val, hs⟩) (fun a => ?_)
  show _ = win2_10.index t a * win2_10.size a + _
  rw [at2_10 t]
  match a with
  | 0 => exact Cert.Chain.off_zero 1 _
  | 1 => exact (Cert.Chain.off_mul (grid2.coords t 1).val 1024 s.val).symm

end

/-- The norms of the rows that the third call enters with. -/
def nx (V : Valuation τ sig (Elt Ideal)) (i : ℕ) : ℝ := if h : i < 10240 then EReal.toReal (V (Proc.devRef .tc main_call0_v6_5) (ix2 ⟨i, h⟩ 0)) else 0

/-- The largest norm that the third call enters with. -/
def gn (V : Valuation τ sig (Elt Ideal)) : ℝ := EReal.toReal (V (Proc.devRef .tc main_call0_v6_6) (ix2 0 0))

/-- The largest projection that the third call enters with. -/
def ms (V : Valuation τ sig (Elt Ideal)) : ℝ := EReal.toReal (V (Proc.devRef .tc main_call0_v6_7) (ix2 0 0))

/-- The mask of the columns: zero inside the array, −∞ past its end. -/
def Masked (V : Valuation τ sig (Elt Ideal)) : Prop :=
  ∀ (o : Fin 1) (j : Fin 10240), V (Proc.devRef .tc main_call0_v4) (ix2 o j) = padBot (fun _ => 0) j

/-- What each point of the third call leaves. -/
def P2 (D : Data) : (w : Fin cfg2.W) → Fin cfg2.N → ((cfg2.win w).block.Idx → Elt Ideal (cfg2.win w).elt) → Prop
  | ⟨11, _⟩ => fun t (X : Vec Ideal S512x16 .f32) => (grid2.coords t 1).val = 9 → ∀ r c, 512 * (grid2.coords t 0).val + r.val < 10000 →
    X (ix2 r c) = ((D.out (512 * (grid2.coords t 0).val + r.val) c : ℝ) : EReal)
  | _ => fun _ _ => True

/-- What the third call's scratch holds between points: inside a row of blocks, the sums over the columns gone by. -/
def I2 (D : Data) (nx : ℕ → ℝ) (gn mx : ℝ) (n : ℕ) (x14 : Vec Ideal S512x16 .f32) (x15 x16 : Vec Ideal S512x1 .f32) : Prop :=
  n % 10 ≠ 0 → ∀ r : Fin 512, 512 * (n / 10) + r.val < 10000 →
    (∀ c : Fin 16, x14 (ix2 r c) = ((part2 D (she D mx (512 * (n / 10) + r)) (sht nx gn (512 * (n / 10) + r)) (512 * (n / 10) + r) c (1024 * (n % 10)) : ℝ) : EReal))
    ∧ (∀ o : Fin 1, x15 (ix2 r o) = ((part D D.et (sht nx gn (512 * (n / 10) + r)) (512 * (n / 10) + r) (1024 * (n % 10)) : ℝ) : EReal))
    ∧ ∀ o : Fin 1, x16 (ix2 r o) = ((part D D.e2 (she D mx (512 * (n / 10) + r)) (512 * (n / 10) + r) (1024 * (n % 10)) : ℝ) : EReal)

variable {Name : Type} [DecidableEq Name] {U : Type} [URA U] {Lvl : Type} [Preorder Lvl]

/-- Each point keeps the plan. -/
theorem step2 (D : Data) (V : Valuation τ sig (Elt Ideal)) (c : Dev nD) (hD : Holds D V) (hM : Made1 D V) (hZ : Masked V) :
    Step2 (Name := Name) (U := U) (Lvl := Lvl) V (P2 D) (I2 D (nx V) (gn V) (ms V)) c := by
  intro t x2 x3 x4 x5 x6 x7 x8 x9 x10 x11 x12 x13 x14 x15 x16 f2 f3 f4 f5 f6 f7 f8 f9 f10 _ f12 _ hI
  obtain ⟨n0, n1⟩ := pt2 t
  have ht : t.val < 200 := t.isLt
  have b0 : (grid2.coords t 0).val < 20 := by omega
  have b1 : (grid2.coords t 1).val < 10 := by omega
  have h2 : ∀ (r : Fin 512) (s : Fin 1024), 512 * (grid2.coords t 0).val + r.val < 10000 → 1024 * (grid2.coords t 1).val + s.val < 10000 →
      ((0 : EReal) < x2 (ix2 r s) ↔ D.E (512 * (grid2.coords t 0).val + r) (1024 * (grid2.coords t 1).val + s)) := fun r s hr hs => by
    rw [read2_0 V _ _ c t x2 f2 r s hr hs]; exact hD.adj _ _
  have h3 : Is (φ := .bf16) x3 fun n k => ((D.h n k : ℝ) : EReal) := read2_1 V _ _ c t x3 f3 ▸ hM.res
  have h4 : ∀ (r : Fin 512) (k : Fin 128), x4 (ix2 r k) = ((lb * D.xw (512 * (grid2.coords t 0).val + r) k : ℝ) : EReal) := fun r k =>
    (read2_2 V _ _ c t x4 f4 r k (by omega)).trans (hM.xwt _ _)
  have h5 : Is (φ := .bf16) x5 fun n k => ((D.v n k : ℝ) : EReal) := read2_3 V _ _ c t x5 f5 ▸ hM.wh2
  have h6 : ∀ r : Fin 512, x6 (ix2 r 0) = ((lb * D.p2 (512 * (grid2.coords t 0).val + r) : ℝ) : EReal) := fun r =>
    (read2_4 V _ _ c t x6 f6 r 0 (by omega)).trans (hM.s2a _ _)
  have h7 : ∀ s : Fin 1024, x7 (ix2 0 s) = padBot (fun j => lb * D.q2 j) (1024 * (grid2.coords t 1).val + s) := fun s =>
    (read2_5 V _ _ c t x7 f7 0 s (by omega)).trans (hM.s2b _ _)
  have h8 : ∀ r : Fin 512, x8 (ix2 r 0) = ((nx V (512 * (grid2.coords t 0).val + r) : ℝ) : EReal) := fun r => by
    have hr : 512 * (grid2.coords t 0).val + r.val < 10240 := by omega
    rw [read2_6 V _ _ c t x8 f8 r 0 hr]
    obtain ⟨z, hz⟩ := hM.nx ⟨512 * (grid2.coords t 0).val + r.val, hr⟩ 0
    unfold nx; rw [dif_pos hr, hz]; rfl
  have h9 : x9 (ix2 0 0) = (gn V : EReal) := by
    rw [read2_7 V _ _ c t x9 f9]
    obtain ⟨z, hz⟩ := hM.gn
    unfold gn; rw [hz]; rfl
  have h10 : x10 (ix2 0 0) = (ms V : EReal) := by
    rw [read2_8 V _ _ c t x10 f10]
    obtain ⟨z, hz⟩ := hM.ms
    unfold ms; rw [hz]; rfl
  have h12 : ∀ s : Fin 1024, x12 (ix2 0 s) = padBot (fun _ => 0) (1024 * (grid2.coords t 1).val + s) := fun s =>
    (read2_10 V _ _ c t x12 f12 0 s (by omega)).trans (hZ _ _)
  have hp := fun (h : (grid2.coords t 1).val ≠ 0) (r : Fin 512) (hr : 512 * (grid2.coords t 0).val + r.val < 10000) => by
    have := hI (by omega) r (by omega)
    rw [← n0, ← n1] at this
    exact this
  have hA := fun (r : Fin 512) (c : Fin 16) hr => val_acc2 D (nx V) (gn V) (ms V) (grid2.coords t) x2 x3 x4 x5 x6 x7 x8 x9 x10 x12 x14 h2 h3 h4 h5 h6 h7 h8 h9 h10 h12 r c hr
    fun h => (hp h r hr).1 c
  have hT := fun (r : Fin 512) (o : Fin 1) hr => val_lt2 D (nx V) (gn V) (grid2.coords t) x2 x3 x4 x8 x9 x12 x15 h2 h3 h4 h8 h9 h12 r o hr
    fun h => (hp h r hr).2.1 o
  have hE := fun (r : Fin 512) (o : Fin 1) hr => val_le2 D (ms V) (grid2.coords t) x2 x6 x7 x10 x16 h2 h6 h7 h10 r o hr
    fun h => (hp h r hr).2.2 o
  refine ⟨fun h r hr => ?_, fun h r k hr => ?_⟩
  · have e0 : (t.val + 1) / 10 = (grid2.coords t 0).val := by omega
    have e1 : (t.val + 1) % 10 = (grid2.coords t 1).val + 1 := by omega
    rw [e0] at hr ⊢; rw [e1]
    exact ⟨fun c => hA r c hr, fun o => hT r o hr, fun o => hE r o hr⟩
  · unfold out2; rw [if_pos ((fin2_iff _).mpr h)]
    have e : 1024 * ((grid2.coords t 1).val + 1) = 10240 := by omega
    rw [e] at hA hT hE
    exact val_out2 D _ _ _ hr x11 _ _ _ r (hT r 0 hr) (hE r 0 hr) (fun c => hA r c hr) k

/-- The blocks of this output cover its array. -/
theorem cov2_11 : win2_11.Covers := win2_11.covers_of_indexMap_surj rfl (by decide) (by decide +kernel)

/-- What the third call leaves in its output. -/
def Made2 (D : Data) (V' : Valuation τ sig (Elt Ideal)) : Prop :=
  ∀ (i : Fin 10240) (k : Fin 16), i.val < 10000 → V' (Proc.devRef .tc main_call0_v7) (ix2 i k) = ((D.out i k : ℝ) : EReal)

variable (V : Valuation τ sig (Elt Ideal)) (c : Dev nD) (D : Data) (Inv : ℕ → Vec Ideal S512x16 .f32 → Vec Ideal S512x1 .f32 → Vec Ideal S512x1 .f32 → Prop)

/-- The third call's result, in the rows inside the array. -/
theorem made2_out (G : Vec Ideal S10240x16 .f32) (hG : (dat2 (Name := Name) (U := U) (Lvl := Lvl) V (P2 D) Inv c).ArrAt 11 cfg2.N G) (i : Fin 10240) (k : Fin 16) :
    i.val < 10000 → G (ix2 i k) = ((D.out i k : ℝ) : EReal) := by
  refine Cert.Chain.arr_forall (dat2 (Name := Name) (U := U) (Lvl := Lvl) V (P2 D) Inv c) (w := 11) hG
    (fun (z : S10240x16.Idx) (v : EReal) => (z 0).val < 10000 → v = ((D.out (z 0) (z 1) : ℝ) : EReal)) cov2_11 (Memref.isWhole_whole _)
    (fun t ht X hX y => ?_) (ix2 i k)
  obtain ⟨Y, -, hX⟩ := hX
  have hX : (grid2.coords t 1).val = 9 → ∀ r k, 512 * (grid2.coords t 0).val + r.val < 10000 → X (ix2 r k) = ((D.out (512 * (grid2.coords t 0).val + r.val) k : ℝ) : EReal) := hX
  have hX := hX ((pt2 t).2.trans ((flush2_11 t).mp ht)) (y 0) (y 1)
  have e0 := win2_11.rect_emb_val_off t y 0
  have e1 := win2_11.rect_emb_val_off t y 1
  rw [at2_11 t] at e0 e1
  have e0 : ((win2_11.rect t).emb y 0).val = 512 * (grid2.coords t 0).val + (y 0).val := e0.trans (Cert.Chain.off_mul _ 512 _)
  have e1 : ((win2_11.rect t).emb y 1).val = (y 1).val := e1.trans (Cert.Chain.off_zero 16 _).symm
  show ((win2_11.rect t).emb y 0).val < 10000 → _ = ((D.out ((win2_11.rect t).emb y 0).val ((win2_11.rect t).emb y 1).val : ℝ) : EReal)
  rw [e0, e1]
  exact fun h => (congrArg X (eq_ix2 _)).trans (hX h)

/-- The third call's output, whatever plan the other calls follow. -/
theorem made2 (p : Plan (F := Ideal)) (hp : p.P2 V = P2 D) {V' : Valuation τ sig (Elt Ideal)} (h : LeftK p 2 c V V') : Made2 D V' := by
  have h' : ∀ w : Fin cfg2.W, (dat2 (Name := ℕ) (U := UU) (Lvl := Unit) V (P2 D) (p.I2 V) c).ArrAt w cfg2.N (V' (Proc.devRef .tc (Pipeline.arrRef spec2 w))) :=
    hp ▸ h.1
  exact made2_out V c D _ _ (h' 11)

end Cert.KernelIdeal.Hand
end
-- ==== Proof.V.Value.lean ====
/- The kernel's result: the three calls one after another, from the column mask to the rows cut out at the end. -/
module

public import proofs.«01_k».proof.Proof.V.Plan2
public import Idealize.ShloMosaic.Lib.StableHlo.RunRead

@[expose] public section

set_option maxRecDepth 16384

noncomputable section

namespace Cert.KernelIdeal.Hand

open Cert.KernelIdeal Cert.KernelIdeal.Gen Cert.Gat
open Idealize.ShloMosaic Idealize.ShloMosaic.TcCoe Idealize.ShloMosaic.StableHlo
open Idealize.SL Idealize.SL.RA Idealize.SL.Sem
open Idealize.ShloMosaic.Pipeline

/-- The column mask that the first host operations compute. -/
theorem mask_made (V : Valuation τ sig (Elt Ideal)) : after hostOps0 V (Proc.devRef .tc main_call0_v4)
    = select (cmpi .slt (broadcastInDim S1x10240 ![1] bcast_S10240_S1x10240_1 (iotaInDim S10240 32 0)) (broadcastInDim S1x10240 ![] bcast_S_S1x10240 (constantI S_ 32 10000#32)))
      (broadcastInDim S1x10240 ![] bcast_S_S1x10240 (constant S_ .f32 0x00000000#32 : FVec Ideal S_ .f32))
      (broadcastInDim S1x10240 ![] bcast_S_S1x10240 (id (constant S_ .f32 0xFF800000#32 : FVec Ideal S_ .f32))) := by
  after_results
  rfl

/-- A column number against the number of columns, as signed words. -/
theorem mask_col {j : ℕ} (hj : j < 10240) : IntOp.cmpi .slt (BitVec.ofNat 32 j) 10000#32 = BitVec.ofBool (decide (j < 10000)) := by
  have hb : j / 512 < 20 := by omega
  have hr : j % 512 < 512 := Nat.mod_lt _ (by omega)
  have h2 := mask_row hb hr
  have e : IntOp.addi (Scalar.muli (BitVec.ofNat 32 (j / 512)) 512#32) (BitVec.ofNat 32 (j % 512)) = BitVec.ofNat 32 j := by
    apply BitVec.eq_of_toNat_eq
    show (BitVec.ofNat 32 (j / 512) * 512#32 + BitVec.ofNat 32 (j % 512)).toNat = _
    simp only [BitVec.toNat_add, BitVec.toNat_mul, BitVec.toNat_ofNat]; omega
  rw [e, Nat.div_add_mod] at h2
  exact h2

/-- After the first host operations the mask is zero inside the array and −∞ past its end. -/
theorem masked_first (V : Valuation τ sig (Elt Ideal)) : Masked (after hostOps0 V) := by
  intro o j
  rw [mask_made]
  show Scalar.select (IntOp.cmpi .slt (BitVec.ofNat 32 j.val) 10000#32) (Ideal.ofBits .f32 0x00000000#32) (Ideal.ofBits .f32 0xFF800000#32) = _
  rw [mask_col j.isLt, Scalar.select_ofBool, lit_bot, Ideal.ofBits_zero_f32]
  unfold padBot
  by_cases h : j.val < 10000
  · rw [if_pos (by simpa using h), if_pos h]; rfl
  · rw [if_neg (by simpa using h), if_neg h]

/-- The last host operation keeps the rows inside the array. -/
theorem cut_rows (V : Valuation τ sig (Elt Ideal)) (i : Fin 10000) (k : Fin 16) :
    after hostOps3 V (Proc.devRef .tc main_v0) (ix2 i k) = V (Proc.devRef .tc main_call0_v7) (ix2 ⟨i.val, by omega⟩ k) := by
  have h : after hostOps3 V (Proc.devRef .tc main_v0) = extractStridedSlice S10000x16 ![0, 0] (V (Proc.devRef .tc main_call0_v7)) slices_S10240x16_S10000x16_0_0 := by
    after_results
    rfl
  rw [h]
  show V (Proc.devRef .tc main_call0_v7) _ = _
  refine congrArg _ (funext fun a => Fin.ext ?_)
  match a with
  | 0 => show 0 + i.val = i.val; omega
  | 1 => show 0 + k.val = k.val; omega

/-- The arguments that a memory holds are the arrays of `D`. -/
def Given (D : Data) (m : (ℓ : Loc nD τ sig) → Buf (Elt Ideal) ℓ) : Prop := Holds D fun b => m (0, b)

/-- Contents with the launched arguments hold the same arrays. -/
theorem same_holds {D : Data} {m : (ℓ : Loc nD τ sig) → Buf (Elt Ideal) ℓ} (hm : Given D m) {V : Valuation τ sig (Elt Ideal)}
    (h : SameArgs m V) : Holds D V where
  x := by rw [h main_arg0 (by simp)]; exact hm.x
  adj := by rw [h main_arg1 (by simp)]; exact hm.adj
  w1 := by rw [h main_arg2 (by simp)]; exact hm.w1
  a1 := by rw [h main_arg3 (by simp)]; exact hm.a1
  wt := by rw [h main_arg4 (by simp)]; exact hm.wt
  w2 := by rw [h main_arg5 (by simp)]; exact hm.w2
  a2 := by rw [h main_arg6 (by simp)]; exact hm.a2

/-- What the three calls compute, entered at any contents. -/
def thePlan (D : Data) : Plan (F := Ideal) where
  P0 _ := P0 D
  I0 _ := I0
  P1 _ := P1 D
  I1 V := I1 D (mb V)
  P2 _ := P2 D
  I2 V := I2 D (nx V) (gn V) (ms V)

/-- The mask is no window's array of the first call. -/
theorem mask_away0 : main_call0_v4 ∉ Finset.univ.image (arrRef spec0) := by decide
/-- The mask is no window's array of the second call. -/
theorem mask_away1 : main_call0_v4 ∉ Finset.univ.image (arrRef spec1) := by decide

/-- Where the mask is unchanged it still masks. -/
theorem masked_of {V V' : Valuation τ sig (Elt Ideal)} (h : V' (Proc.devRef .tc main_call0_v4) = V (Proc.devRef .tc main_call0_v4))
    (hV : Masked V) : Masked V' := fun o j => by rw [h]; exact hV o j

/-- From a memory that holds the arrays of `D` the kernel ends with the two layers' result on them, its arguments unchanged. -/
theorem run_value (D : Data) (m : (ℓ : Loc nD τ sig) → Buf (Elt Ideal) ℓ) (hm : Given D m) (g : Dev nD → PrngReg) :
    θ_run defs (onTc (τ := τ) (main (F := Ideal))) ⟨m, fun _ => 0, g⟩ fun r =>
      ∀ c : Dev nD, Is (φ := .f32) (r.2.mem ((c.tc : Thread nD τ).loc main_v0)) (fun i k => ((D.out i k : ℝ) : EReal))
        ∧ ∀ b ∈ argsK, r.2.mem ((c.tc : Thread nD τ).loc b) = m ((c.tc : Thread nD τ).loc b) := by
  refine run_main (thePlan D) m g (fun V => SameArgs m V ∧ Masked V) (fun V => SameArgs m V ∧ Masked V ∧ Made0 D V)
    (fun V => SameArgs m V ∧ Masked V ∧ Made1 D V) (fun V => SameArgs m V ∧ Made2 D V) (fun c => ⟨same_first m c, masked_first _⟩)
    (fun V h c => step0 V c D (same_holds hm h.1)) (fun V _ x0 x1 h => absurd h (lt_irrefl 0))
    (fun c V V' h hl => ⟨fun b hb => (args_left0 _ hl b hb).trans (h.1 b hb), masked_of (hl.2 _ mask_away0) h.2, made0 V c D _ rfl hl⟩)
    (fun V h c => step1 D V c (same_holds hm h.1) h.2.2) (fun V _ x0 x1 x2 x3 => ⟨fun h => absurd rfl h, fun h => absurd h (by omega)⟩)
    (fun c V V' h hl => ⟨fun b hb => (args_left1 _ hl b hb).trans (h.1 b hb), masked_of (hl.2 _ mask_away1) h.2.1, made1 V c D _ rfl hl⟩)
    (fun V h c => step2 D V c (same_holds hm h.1) h.2.2 h.2.1) (fun V _ x0 x1 x2 h => absurd rfl h)
    (fun c V V' h hl => ⟨fun b hb => (args_left2 _ hl b hb).trans (h.1 b hb), made2 V c D _ rfl hl⟩)
    (fun s h hz c => ?_)
  obtain ⟨V, hV, hb⟩ := h c
  refine ⟨fun i k => ?_, fun b hb' => ?_⟩
  · have e : s.mem ((c.tc : Thread nD τ).loc main_v0) = after hostOps3 V (Proc.devRef .tc main_v0) := hb _ (devRef_mem_ucRefs (by decide))
    show s.mem ((c.tc : Thread nD τ).loc main_v0) (ix2 i k) = _
    rw [e]
    exact (cut_rows V i k).trans (hV.2 ⟨i.val, by omega⟩ k i.isLt)
  · refine (hb _ (devRef_mem_ucRefs (arg_unscoped b hb'))).trans ?_
    obtain rfl : c = 0 := Subsingleton.elim _ _
    exact same_last m hV.1 b hb'

end Cert.KernelIdeal.Hand
end
-- ==== Proof.V.RefVal.lean ====
/- The reference's values at an index, over the reals. -/
module

public import proofs.«01_k».proof.Proof.Ref
public import proofs.«01_k».proof.Proof.V.Spec
public import Idealize.ShloMosaic.Lib.StackMember
public import Idealize.ShloMosaic.Lib.ValueLayout
public import Idealize.ShloMosaic.Lib.KernelVsHost

@[expose] public section

set_option maxRecDepth 16384

noncomputable section

namespace Cert.ReferenceIdeal.Hand

open Cert.ReferenceIdeal Cert.ReferenceIdeal.Gen Cert.Gat
open Idealize.ShloMosaic Idealize.ShloMosaic.TcCoe Idealize.ShloMosaic.StackMember

/-! ## Layout, at an index -/

/-- A column spread over columns. -/
theorem spread_col {n m : ℕ} {α : Type} (h : (⟨2, ![n, 1]⟩ : Shape).BroadcastsInDim ⟨2, ![n, m]⟩ ![0, 1]) (x : (⟨2, ![n, 1]⟩ : Shape).Idx → α)
    (r : Fin n) (c : Fin m) : broadcastInDim ⟨2, ![n, m]⟩ ![0, 1] h x (ix2 r c) = x (ix2 r 0) := by
  refine broadcastInDim_apply _ h x _ _ fun a => ?_
  fin_cases a
  · show r.val = if n = 1 then 0 else r.val
    split_ifs with hn
    · have := r.isLt; omega
    · rfl
  · show (0 : ℕ) = if (1 : ℕ) = 1 then 0 else _
    simp

/-- A vector as a column. -/
theorem as_col {n : ℕ} {α : Type} (h : (⟨1, ![n]⟩ : Shape).BroadcastsInDim ⟨2, ![n, 1]⟩ ![0]) (x : (⟨1, ![n]⟩ : Shape).Idx → α)
    (r : Fin n) (c : Fin 1) : broadcastInDim ⟨2, ![n, 1]⟩ ![0] h x (ix2 r c) = x (ix1 r) := by
  refine broadcastInDim_apply _ h x _ _ fun a => ?_
  fin_cases a
  show r.val = if n = 1 then 0 else r.val
  split_ifs with hn
  · have := r.isLt; omega
  · rfl

/-- The rows' maxima. -/
theorem row_max {n m : ℕ} (x : FVec Ideal ⟨2, ![n, m]⟩ .f32) (init : FVec Ideal ⟨0, ![]⟩ .f32) (h : (⟨2, ![n, m]⟩ : Shape).ReducesTo [1] ⟨1, ![n]⟩)
    (hu : 0 < (⟨0, ![]⟩ : Shape).numel) (r : Fin n) :
    Host.reduce (FloatOps.maximumf : Ideal .f32 → Ideal .f32 → Ideal .f32) x init h hu (ix1 r)
      = Finset.fold max (init (Shape.Idx.first hu)) (fun k => x (ix2 r k)) Finset.univ := by
  rw [Ideal.maximumf_eq_max]
  exact (Host.reduce_eq_fold max x init h hu _).trans (h.fold_fiber_r2_a1 (ix1 r) max _ x)

/-- The rows' sums. -/
theorem row_sum {n m : ℕ} (x : FVec Ideal ⟨2, ![n, m]⟩ .f32) (init : FVec Ideal ⟨0, ![]⟩ .f32) (h : (⟨2, ![n, m]⟩ : Shape).ReducesTo [1] ⟨1, ![n]⟩)
    (hu : 0 < (⟨0, ![]⟩ : Shape).numel) (r : Fin n) :
    Host.reduceAdd x init h hu (ix1 r) = init (Shape.Idx.first hu) + ∑ k : Fin m, x (ix2 r k) :=
  Ideal.hostReduceAdd_r2_a1 h x (init (Shape.Idx.first hu)) (ix1 r)

/-- Rows of a column from an offset on. -/
theorem col_slice {n m : ℕ} {α : Type} (o : ℕ) (x : (⟨2, ![n, 1]⟩ : Shape).Idx → α) (h : (⟨2, ![n, 1]⟩ : Shape).Slices ![o, 0] ⟨2, ![m, 1]⟩) (r : Fin m) (c : Fin 1)
    (hr : o + r.val < n) : extractStridedSlice ⟨2, ![m, 1]⟩ ![o, 0] x h (ix2 r c) = x (ix2 ⟨o + r.val, hr⟩ 0) := by
  refine extractStridedSlice_apply _ x h _ _ fun a => ?_
  fin_cases a
  · rfl
  · show (0 : ℕ) = 0 + c.val; omega

/-- The word of zero. -/
theorem lit_zero : Ideal.ofBits .f32 0x00000000#32 = (0 : EReal) := Ideal.ofBits_zero_f32
/-- The word of one. -/
theorem lit_one : Ideal.ofBits .f32 0x3F800000#32 = (1 : EReal) := Ideal.ofBits_one_f32

/-- A matrix less its rows' maxima. -/
theorem less_max {n m : ℕ} (x : FVec Ideal ⟨2, ![n, m]⟩ .f32) (h1 : (⟨2, ![n, 1]⟩ : Shape).BroadcastsInDim ⟨2, ![n, m]⟩ ![0, 1])
    (h2 : (⟨1, ![n]⟩ : Shape).BroadcastsInDim ⟨2, ![n, 1]⟩ ![0]) (h3 : (⟨0, ![]⟩ : Shape).BroadcastsInDim ⟨1, ![n]⟩ ![])
    (h : (⟨2, ![n, m]⟩ : Shape).ReducesTo [1] ⟨1, ![n]⟩) (hu : 0 < (⟨0, ![]⟩ : Shape).numel) (r : Fin n) (k : Fin m) :
    subf x (broadcastInDim ⟨2, ![n, m]⟩ ![0, 1] h1 (broadcastInDim ⟨2, ![n, 1]⟩ ![0] h2
      (maximumf (broadcastInDim ⟨1, ![n]⟩ ![] h3 (constant ⟨0, ![]⟩ .f32 0xFF800000#32))
        (Host.reduce FloatOps.maximumf x (constant ⟨0, ![]⟩ .f32 0xFF800000#32) h hu)))) (ix2 r k)
      = x (ix2 r k) - max (⊥ : EReal) (Finset.fold max (⊥ : EReal) (fun k => x (ix2 r k)) Finset.univ) := by
  refine congrArg (fun z : EReal => x (ix2 r k) - z) ((spread_col _ _ r k).trans ((as_col _ _ r 0).trans ?_))
  refine congrArg₂ max lit_bot ((row_max x _ h hu r).trans ?_)
  exact congrArg (fun z : EReal => Finset.fold max z (fun k => x (ix2 r k)) Finset.univ) lit_bot

/-- The rows' sums as a column. -/
theorem sum_col {n m : ℕ} (x : FVec Ideal ⟨2, ![n, m]⟩ .f32) (h2 : (⟨1, ![n]⟩ : Shape).BroadcastsInDim ⟨2, ![n, 1]⟩ ![0])
    (h : (⟨2, ![n, m]⟩ : Shape).ReducesTo [1] ⟨1, ![n]⟩) (hu : 0 < (⟨0, ![]⟩ : Shape).numel) (r : Fin n) :
    broadcastInDim ⟨2, ![n, 1]⟩ ![0] h2 (Host.reduceAdd x (constant ⟨0, ![]⟩ .f32 0x00000000#32) h hu) (ix2 r 0) = ∑ k : Fin m, x (ix2 r k) :=
  (as_col _ _ r 0).trans ((row_sum x _ h hu r).trans ((congrArg (· + _) lit_zero).trans (zero_add _)))

/-! ## The stages -/

variable (D : Data)

/-- A product of two real matrices is the real product. -/
theorem dot_real {m k n : ℕ} (A : FVec Ideal ⟨2, ![m, k]⟩ .f32) (B : FVec Ideal ⟨2, ![k, n]⟩ .f32) (f g : ℕ → ℕ → ℝ)
    (hA : Is A fun i j => ((f i j : ℝ) : EReal)) (hB : Is B fun i j => ((g i j : ℝ) : EReal)) :
    Is (Host.dotGeneral (DotDims.plain m k n) none A B) fun i j => ((∑ c : Fin k, f i c * g c j : ℝ) : EReal) := fun i j => by
  show _ = ((∑ c : Fin k, f i c * g c j : ℝ) : EReal)
  refine (dotGeneral_plain_apply none A B i j).trans ?_
  rw [coe_sum]
  refine Finset.sum_congr rfl fun c _ => ?_
  rw [EReal.coe_mul]
  exact congrArg₂ (· * ·) (hA i c) (hB c j)

section

variable (x : Vec Ideal S10000x128 .f32) (adj : Vec Ideal S10000x10000 .f32) (w1 : Vec Ideal S128x128 .f32) (a1 : Vec Ideal S256x1 .f32)
  (wt : Vec Ideal S128x128 .f32) (w2 : Vec Ideal S128x16 .f32) (a2 : Vec Ideal S32x1 .f32)
  (hx : Is (φ := .f32) x fun i k => ((D.X i k : ℝ) : EReal)) (hE : ∀ i j : Fin 10000, (0 : EReal) < adj (ix2 i j) ↔ D.E i j)
  (hw1 : Is (φ := .f32) w1 fun i k => ((D.W1 i k : ℝ) : EReal)) (ha1 : Is (φ := .f32) a1 fun i k => ((D.A1 i k : ℝ) : EReal))
  (hwt : Is (φ := .f32) wt fun i k => ((D.Wt i k : ℝ) : EReal)) (hw2 : Is (φ := .f32) w2 fun i k => ((D.W2 i k : ℝ) : EReal))
  (ha2 : Is (φ := .f32) a2 fun i k => ((D.A2 i k : ℝ) : EReal))

/-- The rectified scores at an edge, −∞ elsewhere. -/
def masked (e : ℕ → ℕ → ℝ) (i j : ℕ) : EReal := open Classical in if D.E i j then ((lk (e i j) : ℝ) : EReal) else ⊥

include hE in
/-- Masked scores: the rectified score on an edge, −∞ elsewhere. -/
theorem val_mask (s : Vec Ideal S10000x10000 .f32) (e : ℕ → ℕ → ℝ) (hs : Is (φ := .f32) s fun i j => ((e i j : ℝ) : EReal)) :
    Is (φ := .f32) (maskF adj s) (masked D e) := fun i j => by
  classical
  show Scalar.select (Ideal.cmp .ogt (adj (ix2 i j)) (Ideal.ofBits .f32 0x00000000#32))
    (Scalar.select (Ideal.cmp .oge (s (ix2 i j)) (Ideal.ofBits .f32 0x00000000#32)) (s (ix2 i j)) (Ideal.ofBits .f32 0x3E4CCCCD#32 * s (ix2 i j)))
    (Ideal.ofBits .f32 0xFF800000#32) = _
  rw [hs i j, lit_zero, lit_al, lit_bot]
  have e1 : Ideal.cmp .ogt (adj (ix2 i j)) (0 : EReal) = BitVec.ofBool (decide ((0 : EReal) < adj (ix2 i j))) := rfl
  have e2 : Ideal.cmp .oge (((e i j : ℝ) : EReal)) (0 : EReal) = BitVec.ofBool (decide ((0 : EReal) ≤ ((e i j : ℝ) : EReal))) := rfl
  rw [e1, e2, Scalar.select_ofBool, Scalar.select_ofBool]
  unfold masked
  by_cases h : D.E i j
  · rw [if_pos h, if_pos (by simpa using (hE i j).mpr h)]
    unfold lk
    by_cases h0 : 0 ≤ e i j
    · rw [if_pos h0, if_pos (by simpa using h0)]
    · rw [if_neg h0, if_neg (by simpa using h0), EReal.coe_mul]
  · rw [if_neg h, if_neg (by simpa using fun h' => h ((hE i j).mp h'))]

/-- The exponentials of a row less its maximum are the weights up to a positive factor of the row. -/
theorem val_expo (s : Vec Ideal S10000x10000 .f32) (e : ℕ → ℕ → ℝ) (hs : Is (φ := .f32) s (masked D e)) (i : Fin 10000) :
    ∃ c : ℝ, ∀ j : Fin 10000, expoF s (ix2 i j) = ((D.wgt e i j * Real.exp (-c) : ℝ) : EReal) := by
  classical
  have hm : ∃ c : ℝ, max (⊥ : EReal) (Finset.fold max (⊥ : EReal) (fun k : Fin 10000 => s (ix2 i k)) Finset.univ) = (c : EReal) := by
    obtain ⟨j, hj⟩ := D.E_some i i.isLt
    refine max_real bot_ne_top (fold_max_real _ (fun k => ?_) ⟨j, (D.E_in _ _ hj).2⟩ ?_ _ bot_ne_top)
    · rw [hs i k]; unfold masked; split
      · exact EReal.coe_ne_top _
      · exact bot_ne_top
    · rw [hs i _]; unfold masked; rw [if_pos hj]; exact EReal.coe_ne_bot _
  obtain ⟨c, hc⟩ := hm
  refine ⟨c, fun j => ?_⟩
  have e1 : expoF s (ix2 i j) = Ideal.exp (s (ix2 i j) - (c : EReal)) := by
    rw [← hc]
    exact congrArg Ideal.exp (less_max s _ _ _ _ _ i j)
  rw [e1, hs i j]; unfold masked Data.wgt
  by_cases hE : D.E i j
  · rw [if_pos hE, if_pos hE, ← EReal.coe_sub, Ideal.exp_coe, sub_eq_add_neg, Real.exp_add]
  · rw [if_neg hE, if_neg hE, EReal.bot_sub, Ideal.exp_bot, zero_mul]; rfl

/-- The rows' softmax. -/
theorem val_soft (s : Vec Ideal S10000x10000 .f32) (e : ℕ → ℕ → ℝ) (hs : Is (φ := .f32) s (masked D e)) :
    Is (φ := .f32) (softF s) fun i j => ((D.wgt e i j / D.tot e i : ℝ) : EReal) := fun i j => by
  obtain ⟨c, hc⟩ := val_expo D s e hs i
  have e1 : softF s (ix2 i j) = Ideal.div (expoF s (ix2 i j)) (∑ k : Fin 10000, expoF s (ix2 i k)) := by
    exact congrArg (Ideal.div (expoF s (ix2 i j))) ((spread_col _ _ i j).trans (sum_col _ _ _ _ i))
  have e2 : ∑ k : Fin 10000, expoF s (ix2 i k) = ((D.tot e i * Real.exp (-c) : ℝ) : EReal) := by
    unfold Data.tot; rw [Finset.sum_mul, coe_sum]
    exact Finset.sum_congr rfl fun k _ => hc k
  have hp := Real.exp_pos (-c)
  rw [e1, e2, hc j, div_coe _ _ (mul_pos (D.tot_pos e i.isLt) hp).ne', mul_div_mul_right _ _ hp.ne']

include hx hw1 in
/-- The first layer's products. -/
theorem val_proj1 : Is (φ := .f32) (proj1F x w1) fun i k => ((D.wh i k : ℝ) : EReal) :=
  dot_real x w1 D.X D.W1 hx hw1

/-- The first layer's scores. -/
theorem val_pairs1 (w : Vec Ideal S10000x128 .f32) (hw : Is (φ := .f32) w fun i k => ((D.wh i k : ℝ) : EReal))
    (ha1 : Is (φ := .f32) a1 fun i k => ((D.A1 i k : ℝ) : EReal)) : Is (φ := .f32) (pairs1F w a1) fun i j => ((D.e1 i j : ℝ) : EReal) := fun i j => by
  show _ = ((D.p i + D.q j : ℝ) : EReal)
  rw [EReal.coe_add]
  refine congrArg₂ (· + ·) ((spread_col _ _ i j).trans ?_) ((broadcastInDim_oneRow_apply _ _ i j).trans ((ValueIdx.transpose_ix2_apply _ _ _ _).trans ?_))
  · refine dot_real w _ D.wh (fun f _ => D.A1 f 0) hw (fun r c => ?_) i 0
    refine (col_slice 0 a1 _ r c (by omega)).trans ((ha1 _ 0).trans ?_)
    simp
  · refine dot_real w _ D.wh (fun f _ => D.A1 (128 + f) 0) hw (fun r c => ?_) j 0
    exact (col_slice 128 a1 _ r c (by omega)).trans (ha1 _ 0)

/-- The second layer's scores. -/
theorem val_pairs2 (w : Vec Ideal S10000x16 .f32) (hw : Is (φ := .f32) w fun i k => ((D.v i k : ℝ) : EReal))
    (ha2 : Is (φ := .f32) a2 fun i k => ((D.A2 i k : ℝ) : EReal)) : Is (φ := .f32) (pairs2F w a2) fun i j => ((D.e2 i j : ℝ) : EReal) := fun i j => by
  show _ = ((D.p2 i + D.q2 j : ℝ) : EReal)
  rw [EReal.coe_add]
  refine congrArg₂ (· + ·) ((spread_col _ _ i j).trans ?_) ((broadcastInDim_oneRow_apply _ _ i j).trans ((ValueIdx.transpose_ix2_apply _ _ _ _).trans ?_))
  · refine dot_real w _ D.v (fun f _ => D.A2 f 0) hw (fun r c => ?_) i 0
    refine (col_slice 0 a2 _ r c (by omega)).trans ((ha2 _ 0).trans ?_)
    simp
  · refine dot_real w _ D.v (fun f _ => D.A2 (16 + f) 0) hw (fun r c => ?_) j 0
    exact (col_slice 16 a2 _ r c (by omega)).trans (ha2 _ 0)

/-- The hidden features from the attention and the products. -/
theorem val_hidF (att : Vec Ideal S10000x10000 .f32) (w : Vec Ideal S10000x128 .f32)
    (ht : Is (φ := .f32) att fun i j => ((D.wgt D.e1 i j / D.tot D.e1 i : ℝ) : EReal)) (hw : Is (φ := .f32) w fun i k => ((D.wh i k : ℝ) : EReal)) :
    Is (φ := .f32) (hidF att w) fun i k => ((D.h i k : ℝ) : EReal) := fun i k => by
  have e := dot_real att w _ _ ht hw i k
  have e' : Host.dotGeneral (F := Ideal) (φ₁ := .f32) (φ₂ := .f32) (DotDims.plain 10000 10000 128) none att w (ix2 i k) = ((D.s1 i k / D.tot D.e1 i : ℝ) : EReal) := by
    refine e.trans ?_
    unfold Data.s1; rw [Finset.sum_div]
    exact congrArg (fun z : ℝ => (z : EReal)) (Finset.sum_congr rfl fun j _ => by ring)
  have e0 : hidF att w (ix2 i k) = (fun z : EReal => Scalar.select (Ideal.cmp .ogt z (Ideal.ofBits .f32 0x00000000#32)) z
      (Ideal.ofBits .f32 0x3F800000#32 * (Ideal.exp (Scalar.select (Ideal.cmp .ogt z (Ideal.ofBits .f32 0x00000000#32)) (Ideal.ofBits .f32 0x00000000#32) z) - 1)))
      (Host.dotGeneral (F := Ideal) (φ₁ := .f32) (φ₂ := .f32) (DotDims.plain 10000 10000 128) none att w (ix2 i k)) := rfl
  rw [e0, e', lit_zero, lit_one]
  show Scalar.select (BitVec.ofBool (decide ((0 : EReal) < ((D.s1 i k / D.tot D.e1 i : ℝ) : EReal)))) _
    (1 * (Ideal.exp (Scalar.select (BitVec.ofBool (decide ((0 : EReal) < ((D.s1 i k / D.tot D.e1 i : ℝ) : EReal)))) 0 _) - 1)) = _
  rw [Scalar.select_ofBool, Scalar.select_ofBool, one_mul]
  show _ = ((elu (D.s1 i k / D.tot D.e1 i) : ℝ) : EReal)
  unfold elu
  by_cases h : 0 < D.s1 i k / D.tot D.e1 i
  · have h' : (0 : EReal) < ((D.s1 i k / D.tot D.e1 i : ℝ) : EReal) := by exact_mod_cast h
    rw [if_pos h, if_pos (by simpa using h')]
  · have h' : ¬ (0 : EReal) < ((D.s1 i k / D.tot D.e1 i : ℝ) : EReal) := by exact_mod_cast h
    rw [if_neg h, if_neg (by simpa using h'), if_neg (by simpa using h'), Ideal.exp_coe]; rfl

/-- The tree layer's scores. -/
theorem val_tree (h : Vec Ideal S10000x128 .f32) (hh : Is (φ := .f32) h fun i k => ((D.h i k : ℝ) : EReal))
    (hwt : Is (φ := .f32) wt fun i k => ((D.Wt i k : ℝ) : EReal)) : Is (φ := .f32) (treeF h wt) fun i j => ((D.et i j : ℝ) : EReal) :=
  dot_real _ _ D.xw (fun k j => D.h j k) (dot_real h wt D.h D.Wt hh hwt) fun k j => (ValueIdx.transpose_ix2_apply _ _ _ _).trans (hh j k)

/-- The second layer's mixture, by both attentions. -/
theorem val_mixF (att tree : Vec Ideal S10000x10000 .f32) (w : Vec Ideal S10000x16 .f32)
    (ha : Is (φ := .f32) att fun i j => ((D.wgt D.e2 i j / D.tot D.e2 i : ℝ) : EReal))
    (ht : Is (φ := .f32) tree fun i j => ((D.wgt D.et i j / D.tot D.et i : ℝ) : EReal)) (hw : Is (φ := .f32) w fun i k => ((D.v i k : ℝ) : EReal)) :
    Is (φ := .f32) (mixF att tree w) fun i k => ((D.mix i k : ℝ) : EReal) := fun i k => by
  refine (dot_real _ w (fun i j => D.wgt D.e2 i j / D.tot D.e2 i * (D.wgt D.et i j / D.tot D.et i)) _ (fun a b => ?_) hw i k).trans ?_
  · show att (ix2 a b) * tree (ix2 a b) = _
    rw [ha a b, ht a b]; exact (EReal.coe_mul _ _).symm
  · show _ = ((D.s2 i k / (D.tot D.e2 i * D.tot D.et i) : ℝ) : EReal)
    unfold Data.s2; rw [Finset.sum_div]
    exact congrArg (fun z : ℝ => (z : EReal)) (Finset.sum_congr rfl fun j _ => by rw [div_mul_div_comm, div_mul_eq_mul_div])

/-- A row less its maximum is the row less some real number. -/
theorem val_cen (s : Vec Ideal S10000x16 .f32) (f : ℕ → ℕ → ℝ) (hs : Is (φ := .f32) s fun i k => ((f i k : ℝ) : EReal)) (i : Fin 10000) :
    ∃ c : ℝ, ∀ k : Fin 16, cenF s (ix2 i k) = ((f i k - c : ℝ) : EReal) := by
  have hm : ∃ c : ℝ, max (⊥ : EReal) (Finset.fold max (⊥ : EReal) (fun k : Fin 16 => s (ix2 i k)) Finset.univ) = (c : EReal) := by
    refine max_real bot_ne_top (fold_max_real _ (fun k => ?_) 0 ?_ _ bot_ne_top)
    · rw [hs i k]; exact EReal.coe_ne_top _
    · rw [hs i _]; exact EReal.coe_ne_bot _
  obtain ⟨c, hc⟩ := hm
  refine ⟨c, fun k => ?_⟩
  have hsk : s (ix2 i k) = ((f i k : ℝ) : EReal) := hs i k
  rw [EReal.coe_sub, ← hsk, ← hc]
  exact less_max s _ _ _ _ _ i k

/-- The rows' log-softmax. -/
theorem val_lsm (s : Vec Ideal S10000x16 .f32) (f : ℕ → ℕ → ℝ) (hs : Is (φ := .f32) s fun i k => ((f i k : ℝ) : EReal)) :
    Is (φ := .f32) (lsmF s) fun i k => ((f i k - Real.log (∑ c : Fin 16, Real.exp (f i c)) : ℝ) : EReal) := fun i k => by
  obtain ⟨c, hc⟩ := val_cen s f hs i
  have e1 : lsmF s (ix2 i k) = cenF s (ix2 i k) - Ideal.log (∑ l : Fin 16, Ideal.exp (cenF s (ix2 i l))) := by
    exact congrArg (fun z : EReal => cenF s (ix2 i k) - z) ((spread_col _ _ i k).trans (congrArg Ideal.log (sum_col _ _ _ _ i)))
  have e2 : ∑ l : Fin 16, Ideal.exp (cenF s (ix2 i l)) = ((∑ l : Fin 16, Real.exp (f i l - c) : ℝ) : EReal) := by
    rw [coe_sum]; exact Finset.sum_congr rfl fun l _ => by rw [hc l, Ideal.exp_coe]
  have hp : 0 < ∑ l : Fin 16, Real.exp (f i l - c) := Finset.sum_pos (fun _ _ => Real.exp_pos _) ⟨0, Finset.mem_univ _⟩
  rw [e1, e2, hc k, Ideal.log_coe, if_neg (not_le.mpr hp), ← EReal.coe_sub, lsm_shift (fun l : Fin 16 => f i l) c 0 (by norm_num)]
  congr 1; ring

include hx hE hw1 ha1 hwt hw2 ha2

/-- The reference's result. -/
theorem val_out : Is (φ := .f32) (outF x adj w1 a1 wt w2 a2) fun i k => ((D.out i k : ℝ) : EReal) := by
  have h1 := val_proj1 D x w1 hx hw1
  have h2 : Is (φ := .f32) (resF x adj w1 a1) fun i k => ((D.h i k : ℝ) : EReal) :=
    val_hidF D _ _ (val_soft D _ _ (val_mask D adj hE _ _ (val_pairs1 D a1 _ h1 ha1))) h1
  have h3 : Is (φ := .f32) (proj2F (resF x adj w1 a1) w2) fun i k => ((D.v i k : ℝ) : EReal) := dot_real _ w2 D.h D.W2 h2 hw2
  exact val_lsm _ _ (val_mixF D _ _ _ (val_soft D _ _ (val_mask D adj hE _ _ (val_pairs2 D a2 _ h3 ha2)))
    (val_soft D _ _ (val_mask D adj hE _ _ (val_tree D wt _ h2 hwt))) h3)

end

end Cert.ReferenceIdeal.Hand
end
-- ==== Proof.V.Inputs.lean ====
/- The inputs as real arrays: what the precondition says of them, element by element. -/
module

public import proofs.«01_k».proof.Pre_finite_and_linked
public import proofs.«01_k».proof.Proof.V.Spec
public import Idealize.ShloMosaic.Lib.Affine

@[expose] public section

noncomputable section

namespace Cert.Gat

open Idealize.ShloMosaic

/-- The shape relations of the precondition's operations. -/
theorem pre_facts : Cert.Pre_finite_and_linked.Facts where
  bcast_S_S10000x128 := by decide
  bcast_S_S128x128 := by decide
  bcast_S_S256x1 := by decide
  bcast_S_S128x16 := by decide
  bcast_S_S32x1 := by decide
  bcast_S_S10000x10000 := by decide
  reducesTo_S10000x10000_S10000_d1 := by decide
  h_S_ := by decide

/-- A matrix of extended reals as a real array over all the natural numbers: zero outside. -/
def realOf {a b : ℕ} (x : FVec Ideal ⟨2, ![a, b]⟩ .f32) (i k : ℕ) : ℝ :=
  if h : i < a ∧ k < b then EReal.toReal (x (ix2 ⟨i, h.1⟩ ⟨k, h.2⟩)) else 0

/-- A matrix of finite extended reals is its real array. -/
theorem is_realOf {a b : ℕ} (x : FVec Ideal ⟨2, ![a, b]⟩ .f32) (h : ∀ z, x z ≠ ⊤ ∧ x z ≠ ⊥) : Is x fun i k => ((realOf x i k : ℝ) : EReal) := by
  intro i k
  show _ = ((realOf x i.val k.val : ℝ) : EReal)
  unfold realOf
  rw [dif_pos ⟨i.isLt, k.isLt⟩]
  exact (EReal.coe_toReal (h _).1 (h _).2).symm

/-- What is less than +∞ in absolute value is a real number. -/
theorem finite_of {s : Shape} (h0 : (⟨0, ![]⟩ : Shape).BroadcastsInDim s ![]) (x : FVec Ideal s .f32)
    (h : cmpf .olt (Host.absf x) (broadcastInDim s ![] h0 (constant ⟨0, ![]⟩ .f32 0x7F800000#32)) = fun _ => 1#1) (z : s.Idx) :
    x z ≠ ⊤ ∧ x z ≠ ⊥ := by
  have h1 : BitVec.ofBool (decide (max (x z) (-(x z)) < Ideal.ofBits .f32 0x7F800000#32)) = 1#1 := congrFun h z
  have h2 : Ideal.ofBits .f32 0x7F800000#32 = (⊤ : EReal) := by simp [Ideal.ofBits, Ideal.ieee]
  rw [h2] at h1
  have h3 : max (x z) (-(x z)) < ⊤ := by
    by_contra hn
    rw [decide_eq_false hn] at h1
    exact absurd h1 (by decide)
  constructor
  · intro e; rw [e] at h3; exact absurd h3 (by simp)
  · intro e; rw [e] at h3; exact absurd h3 (by simp)

/-- A disjunction of one-bit words that came out 1 starts at 1 or meets a 1. -/
theorem ori_met {ι : Type} (f : ι → BitVec 1) : ∀ (l : List ι) (z : BitVec 1), l.foldl (fun r n => IntOp.ori r (f n)) z = 1#1 → z = 1#1 ∨ ∃ n ∈ l, f n = 1#1
  | [], z, h => Or.inl h
  | n :: l, z, h => by
    rcases ori_met f l _ h with h | ⟨k, hk, e⟩
    · have : ∀ a b : BitVec 1, IntOp.ori a b = 1#1 → a = 1#1 ∨ b = 1#1 := by decide
      rcases this _ _ h with h | h
      · exact Or.inl h
      · exact Or.inr ⟨n, List.mem_cons_self, h⟩
    · exact Or.inr ⟨k, List.mem_cons_of_mem _ hk, e⟩

/-- A row that has a positive entry by the precondition's test has one. -/
theorem linked_of {n m : ℕ} (h0 : (⟨0, ![]⟩ : Shape).BroadcastsInDim ⟨2, ![n, m]⟩ ![]) (x : FVec Ideal ⟨2, ![n, m]⟩ .f32)
    (hr : (⟨2, ![n, m]⟩ : Shape).ReducesTo [1] ⟨1, ![n]⟩) (hu : 0 < (⟨0, ![]⟩ : Shape).numel)
    (h : Host.reduce IntOp.ori (cmpf .ogt x (broadcastInDim ⟨2, ![n, m]⟩ ![] h0 (constant ⟨0, ![]⟩ .f32 0x00000000#32)))
      (constantI ⟨0, ![]⟩ 1 0#1) hr hu = fun _ => 1#1) (i : Fin n) : ∃ j : Fin m, (0 : EReal) < x (ix2 i j) := by
  have h1 := congrFun h (ix1 i)
  rw [Host.reduce_eq_foldl] at h1
  rcases ori_met _ _ _ h1 with h2 | ⟨z, hz, h2⟩
  · exact absurd h2 (by decide : ¬ (0#1 = 1#1))
  · have hd := (List.mem_filter.1 hz).2
    have hd' : hr.drop z = ix1 i := by simpa using hd
    have h3 : BitVec.ofBool (decide (Ideal.ofBits .f32 0x00000000#32 < x z)) = 1#1 := h2
    rw [Ideal.ofBits_zero_f32] at h3
    have h4 : (0 : EReal) < x z := by
      by_contra hn
      rw [decide_eq_false hn] at h3
      exact absurd h3 (by decide)
    refine ⟨z 1, ?_⟩
    have hz0 : z 0 = i := congrFun hd' 0
    have : z = ix2 i (z 1) := by rw [← hz0]; exact eq_ix2 z
    exact lt_of_lt_of_eq h4 (congrArg x this)

section

open Cert.Pre_finite_and_linked (fn fn_part1)

variable [Cert.Pre_finite_and_linked.Facts] (x : FVec Ideal ⟨2, ![10000, 128]⟩ .f32) (adj : FVec Ideal ⟨2, ![10000, 10000]⟩ .f32)
  (w1 : FVec Ideal ⟨2, ![128, 128]⟩ .f32) (a1 : FVec Ideal ⟨2, ![256, 1]⟩ .f32) (wt : FVec Ideal ⟨2, ![128, 128]⟩ .f32)
  (w2 : FVec Ideal ⟨2, ![128, 16]⟩ .f32) (a2 : FVec Ideal ⟨2, ![32, 1]⟩ .f32)

/-- The precondition's tests of the features and the weights. -/
theorem pre_finite (h0 : (fn x adj w1 a1 wt w2 a2).1 = fun _ => 1#1) (h2 : (fn x adj w1 a1 wt w2 a2).2.1 = fun _ => 1#1)
    (h3 : (fn x adj w1 a1 wt w2 a2).2.2.1 = fun _ => 1#1) (h4 : (fn x adj w1 a1 wt w2 a2).2.2.2.1 = fun _ => 1#1)
    (h5 : (fn x adj w1 a1 wt w2 a2).2.2.2.2.1 = fun _ => 1#1) (h6 : (fn x adj w1 a1 wt w2 a2).2.2.2.2.2.1 = fun _ => 1#1) :
    (∀ z, x z ≠ ⊤ ∧ x z ≠ ⊥) ∧ (∀ z, w1 z ≠ ⊤ ∧ w1 z ≠ ⊥) ∧ (∀ z, a1 z ≠ ⊤ ∧ a1 z ≠ ⊥) ∧ (∀ z, wt z ≠ ⊤ ∧ wt z ≠ ⊥)
      ∧ (∀ z, w2 z ≠ ⊤ ∧ w2 z ≠ ⊥) ∧ ∀ z, a2 z ≠ ⊤ ∧ a2 z ≠ ⊥ := by
  dsimp only [fn, fn_part1] at h0 h2 h3 h4 h5 h6
  exact ⟨finite_of _ x h0, finite_of _ w1 h2, finite_of _ a1 h3, finite_of _ wt h4, finite_of _ w2 h5, finite_of _ a2 h6⟩

/-- The precondition's test of the graph. -/
theorem pre_linked (h1 : (fn x adj w1 a1 wt w2 a2).2.2.2.2.2.2 = fun _ => 1#1) (i : Fin 10000) : ∃ j : Fin 10000, (0 : EReal) < adj (ix2 i j) := by
  dsimp only [fn, fn_part1] at h1
  exact linked_of _ adj _ _ h1 i

end

/-- The inputs as the data of the two layers. -/
def dataOf (x : FVec Ideal ⟨2, ![10000, 128]⟩ .f32) (adj : FVec Ideal ⟨2, ![10000, 10000]⟩ .f32) (w1 : FVec Ideal ⟨2, ![128, 128]⟩ .f32)
    (a1 : FVec Ideal ⟨2, ![256, 1]⟩ .f32) (wt : FVec Ideal ⟨2, ![128, 128]⟩ .f32) (w2 : FVec Ideal ⟨2, ![128, 16]⟩ .f32)
    (a2 : FVec Ideal ⟨2, ![32, 1]⟩ .f32) (h : ∀ i : Fin 10000, ∃ j : Fin 10000, (0 : EReal) < adj (ix2 i j)) : Data where
  X := realOf x
  E i j := ∃ (hi : i < 10000) (hj : j < 10000), (0 : EReal) < adj (ix2 ⟨i, hi⟩ ⟨j, hj⟩)
  W1 := realOf w1
  A1 := realOf a1
  Wt := realOf wt
  W2 := realOf w2
  A2 := realOf a2
  X_out i k hi := dif_neg fun hh => absurd hh.1 (by omega)
  E_in i j := fun ⟨hi, hj, _⟩ => ⟨hi, hj⟩
  E_some i hi := (h ⟨i, hi⟩).elim fun j hj => ⟨j.val, hi, j.isLt, hj⟩

end Cert.Gat
end
-- ==== Proof.lean ====
/- The proof of the claims: the kernel, its idealization and the reference run, leaving their arguments and the counters as they were;
   the named constant is the logarithm it stands for; and the idealized kernel ends with the result of the reference. -/
module

public import proofs.«01_k».proof.Defs
public import proofs.«01_k».proof.Proof.I.Frame
public import proofs.«01_k».proof.Proof.K.Frame
public import proofs.«01_k».proof.Proof.Ref
public import proofs.«01_k».proof.Proof.V.Value
public import proofs.«01_k».proof.Proof.V.RefVal
public import proofs.«01_k».proof.Proof.V.Inputs

@[expose] public section

set_option maxRecDepth 16384

noncomputable section

namespace Cert.Proof

open Idealize.ShloMosaic Idealize.ShloMosaic.TcCoe Idealize.SL.Sem

/-- The kernel as printed runs. -/
theorem frame_kernel : Cert.quiescent_Kernel (hKernel := Cert.Kernel.Gen.facts) := fun m g _ =>
  (θ_run Cert.Kernel.defs _ _).mono (fun _ h => ⟨fun c => ⟨h.1 c _ (by simp), h.1 c _ (by simp), h.1 c _ (by simp), h.1 c _ (by simp), h.1 c _ (by simp),
    h.1 c _ (by simp), h.1 c _ (by simp)⟩, h.2⟩) (Cert.Kernel.Hand.run_frame (F := Bits) m g)

/-- Its idealization runs. -/
theorem frame_ideal : Cert.quiescent_KernelIdeal (hKernelIdeal := Cert.KernelIdeal.Gen.facts) := fun m g _ =>
  (θ_run Cert.KernelIdeal.defs _ _).mono (fun _ h => ⟨fun c => ⟨h.1 c _ (by simp), h.1 c _ (by simp), h.1 c _ (by simp), h.1 c _ (by simp), h.1 c _ (by simp),
    h.1 c _ (by simp), h.1 c _ (by simp)⟩, h.2⟩) (Cert.KernelIdeal.Hand.run_frame (F := Ideal) m g)

/-- The reference runs. -/
theorem frame_ref : Cert.quiescent_ReferenceIdeal (hReferenceIdeal := Cert.ReferenceIdeal.Gen.facts) := fun m g _ =>
  (θ_run Cert.ReferenceIdeal.defs _ _).mono (fun _ h => ⟨fun c => ⟨(h.1 c _).trans (Cert.ReferenceIdeal.Hand.keep _ Cert.ReferenceIdeal.main_arg0 (by decide)),
    (h.1 c _).trans (Cert.ReferenceIdeal.Hand.keep _ Cert.ReferenceIdeal.main_arg1 (by decide)), (h.1 c _).trans (Cert.ReferenceIdeal.Hand.keep _ Cert.ReferenceIdeal.main_arg2 (by decide)),
    (h.1 c _).trans (Cert.ReferenceIdeal.Hand.keep _ Cert.ReferenceIdeal.main_arg3 (by decide)), (h.1 c _).trans (Cert.ReferenceIdeal.Hand.keep _ Cert.ReferenceIdeal.main_arg4 (by decide)),
    (h.1 c _).trans (Cert.ReferenceIdeal.Hand.keep _ Cert.ReferenceIdeal.main_arg5 (by decide)), (h.1 c _).trans (Cert.ReferenceIdeal.Hand.keep _ Cert.ReferenceIdeal.main_arg6 (by decide))⟩, h.2⟩)
    (Cert.ReferenceIdeal.Hand.run (F := Ideal) m g)

/-- The named constant. -/
theorem preserves : Cert.preserves_Kernel_KernelIdeal :=
  IdealRules.named_const.statement Cert.KernelIdeal.κ "log2e" .f32 0x3FB8AA3B#32 (((Real.log 2)⁻¹ : ℝ) : EReal) rfl

/-- The idealized kernel ends with the result of the reference, where the features and weights are finite and each node has a neighbour:
    both are the two layers' result on the real arrays that the arguments hold. -/
theorem algebraic : Cert.algebraic_KernelIdeal_ReferenceIdeal_pre_finite_and_linked (hKernelIdeal := Cert.KernelIdeal.Gen.facts)
    (hReferenceIdeal := Cert.ReferenceIdeal.Gen.facts) (hPre_finite_and_linked := Cert.Gat.pre_facts) := by
  intro m g m' g' hp ha
  obtain ⟨p0, p2, p3, p4, p5, p6, p1⟩ := hp 0
  haveI := Cert.Gat.pre_facts
  have hl := Cert.Gat.pre_linked _ _ _ _ _ _ _ p1
  obtain ⟨f0, f2, f3, f4, f5, f6⟩ := Cert.Gat.pre_finite _ _ _ _ _ _ _ p0 p2 p3 p4 p5 p6
  obtain ⟨D, hg⟩ : ∃ D, Cert.KernelIdeal.Hand.Given D m := ⟨Cert.Gat.dataOf _ _ _ _ _ _ _ hl,
    Cert.Gat.is_realOf _ f0, fun i j => ⟨fun h => ⟨i.isLt, j.isLt, h⟩, fun ⟨_, _, h⟩ => h⟩, Cert.Gat.is_realOf _ f2,
      Cert.Gat.is_realOf _ f3, Cert.Gat.is_realOf _ f4, Cert.Gat.is_realOf _ f5, Cert.Gat.is_realOf _ f6⟩
  refine ⟨fun c z => ((D.out (z 0) (z 1) : ℝ) : EReal), ?_, ?_⟩
  · refine (θ_run Cert.KernelIdeal.defs _ _).mono (fun r h c => ?_) (Cert.KernelIdeal.Hand.run_value _ m hg g)
    obtain ⟨h0, h1⟩ := h c
    refine ⟨funext fun z => ?_, h1 _ (by simp), h1 _ (by simp), h1 _ (by simp), h1 _ (by simp), h1 _ (by simp), h1 _ (by simp), h1 _ (by simp)⟩
    exact (congrArg _ (eq_ix2 z)).trans (h0 (z 0) (z 1))
  · refine (θ_run Cert.ReferenceIdeal.defs _ _).mono (fun r h c => ?_) (Cert.ReferenceIdeal.Hand.run (F := Ideal) m' g')
    have hk := fun b hb => (h.1 c b).trans (Cert.ReferenceIdeal.Hand.keep _ b hb)
    refine ⟨?_, hk _ (by decide), hk _ (by decide), hk _ (by decide), hk _ (by decide), hk _ (by decide), hk _ (by decide), hk _ (by decide)⟩
    obtain rfl : c = 0 := Subsingleton.elim _ _
    obtain ⟨e0, e1, e2, e3, e4, e5, e6⟩ := ha 0
    refine (h.1 0 _).trans ((Cert.ReferenceIdeal.Hand.value _).trans (funext fun z => ?_))
    refine (congrArg _ (eq_ix2 z)).trans (Cert.ReferenceIdeal.Hand.val_out D _ _ _ _ _ _ _ ?_ ?_ ?_ ?_ ?_ ?_ ?_ (z 0) (z 1))
    · exact fun i k => (congrFun e0 _).trans (hg.x i k)
    · exact fun i j => (iff_of_eq (congrArg (fun t : EReal => (0 : EReal) < t) (congrFun e1 (ix2 i j)))).trans (hg.adj i j)
    · exact fun i k => (congrFun e2 _).trans (hg.w1 i k)
    · exact fun i k => (congrFun e3 _).trans (hg.a1 i k)
    · exact fun i k => (congrFun e4 _).trans (hg.wt i k)
    · exact fun i k => (congrFun e5 _).trans (hg.w2 i k)
    · exact fun i k => (congrFun e6 _).trans (hg.a2 i k)

/-- Everything claimed, together. -/
theorem claim : Cert.Claim := ⟨Cert.Kernel.Gen.facts, Cert.KernelIdeal.Gen.facts, Cert.ReferenceIdeal.Gen.facts, Cert.Gat.pre_facts,
  frame_kernel, frame_ideal, fun m g _ => frame_ideal m g trivial, frame_ref, fun m g _ => frame_ref m g trivial, preserves, algebraic⟩

end Cert.Proof

end
